-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_v17) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v50) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v15) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v0_0)) (v1 : (c : Dev Cert.Kernel4Ideal.nD) → Buf (Elt Ideal) ((c.tc : Thread Cert.Kernel4Ideal.nD Cert.Kernel4Ideal.τ).loc Cert.Kernel4Ideal.main_v0_1)) (v2 : (c : Dev Cert.Kernel4Ideal.nD) → Buf (Elt Ideal) ((c.tc : Thread Cert.Kernel4Ideal.nD Cert.Kernel4Ideal.τ).loc Cert.Kernel4Ideal.main_v0_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0_0) = v0 c
          ∧ r.2.mem ((c.tc : Thread Cert.Kernel4Ideal.nD Cert.Kernel4Ideal.τ).loc Cert.Kernel4Ideal.main_v0_1) = v1 c
          ∧ r.2.mem ((c.tc : Thread Cert.Kernel4Ideal.nD Cert.Kernel4Ideal.τ).loc Cert.Kernel4Ideal.main_v0_2) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v103) = v0 c
          ∧ r.2.mem ((c.tc : Thread Cert.Reference4Ideal.nD Cert.Reference4Ideal.τ).loc Cert.Reference4Ideal.main_v104) = v1 c
          ∧ r.2.mem ((c.tc : Thread Cert.Reference4Ideal.nD Cert.Reference4Ideal.τ).loc Cert.Reference4Ideal.main_v105) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Kernel.lean ====
abbrev S32768x2048 : Shape := ⟨2, ![32768, 2048]⟩
abbrev S2048 : Shape := ⟨1, ![2048]⟩
abbrev S2048x28672 : Shape := ⟨2, ![2048, 28672]⟩
abbrev S2048x128 : Shape := ⟨2, ![2048, 128]⟩
abbrev S1x2048 : Shape := ⟨2, ![1, 2048]⟩
abbrev S32768x28672 : Shape := ⟨2, ![32768, 28672]⟩
abbrev S32768x128 : Shape := ⟨2, ![32768, 128]⟩
abbrev S1024x2048 : Shape := ⟨2, ![1024, 2048]⟩
abbrev S2048x1024 : Shape := ⟨2, ![2048, 1024]⟩
abbrev S1024x1024 : Shape := ⟨2, ![1024, 1024]⟩
abbrev S1024x128 : Shape := ⟨2, ![1024, 128]⟩
abbrev S128x2048 : Shape := ⟨2, ![128, 2048]⟩
abbrev S128 : Shape := ⟨1, ![128]⟩
abbrev S128x1 : Shape := ⟨2, ![128, 1]⟩

abbrev nBuf : Space → Nat
  | .hbm => 7
  | .vmem => 11
  | .smem => 0
  | _ => 0

abbrev bufTy : (tb : Table) → Fin (tcTables nBuf tb) → BufTy
  | .hbm, ⟨0, _⟩ => ⟨S32768x2048, .f32⟩
  | .hbm, ⟨1, _⟩ => ⟨S2048, .f32⟩
  | .hbm, ⟨2, _⟩ => ⟨S2048x28672, .bf16⟩
  | .hbm, ⟨3, _⟩ => ⟨S2048x128, .bf16⟩
  | .hbm, ⟨4, _⟩ => ⟨S1x2048, .f32⟩
  | .hbm, ⟨5, _⟩ => ⟨S32768x28672, .bf16⟩
  | .hbm, ⟨6, _⟩ => ⟨S32768x128, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x1024, .bf16⟩
  | .local _ .vmem, ⟨4, _⟩ => ⟨S2048x1024, .bf16⟩
  | .local _ .vmem, ⟨5, _⟩ => ⟨S2048x128, .bf16⟩
  | .local _ .vmem, ⟨6, _⟩ => ⟨S1024x1024, .bf16⟩
  | .local _ .vmem, ⟨7, _⟩ => ⟨S1024x1024, .bf16⟩
  | .local _ .vmem, ⟨8, _⟩ => ⟨S1024x128, .f32⟩
  | .local _ .vmem, ⟨9, _⟩ => ⟨S1024x128, .f32⟩
  | .local _ .vmem, ⟨10, _⟩ => ⟨S1024x2048, .bf16⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![32, 28], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_6 : BitVec 32 := 0#32
  let c8_i32 : BitVec 32 := 8#32
  let v8 : BitVec 32 := Scalar.addi c0_i32_6 c8_i32
  let c1_i32 : BitVec 32 := 1#32
  ⟨c0_i32_6, v8, c1_i32⟩
def k0_mult1 (k0_t1 : Fin k0_t1_loop.trips) : BitVec 32 :=
  let c0_i32_6 : BitVec 32 := 0#32
  let c1_i32 : BitVec 32 := 1#32
  let arg9 : BitVec 32 := Scf.iv c0_i32_6 c1_i32 k0_t1
  let c128_i32 : BitVec 32 := 128#32
  let v13 : BitVec 32 := Scalar.muli arg9 c128_i32
  v13
def k0_off1 (k0_t1 : Fin k0_t1_loop.trips) : Fin 2 → Nat :=
  let c0_i32_6 : BitVec 32 := 0#32
  let c1_i32 : BitVec 32 := 1#32
  let arg9 : BitVec 32 := Scf.iv c0_i32_6 c1_i32 k0_t1
  let c128_i32 : BitVec 32 := 128#32
  let v13 : BitVec 32 := Scalar.muli arg9 c128_i32
  let v14 : BitVec 32 := v13
  let v15 : Index := Scalar.indexCast v14
  let c0_15 : Index := 0#32
  ![v15.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S2048x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== ReferenceIdeal.lean ====
abbrev S32768x2048 : Shape := ⟨2, ![32768, 2048]⟩
abbrev S2048 : Shape := ⟨1, ![2048]⟩
abbrev S2048x28672 : Shape := ⟨2, ![2048, 28672]⟩
abbrev S2048x128 : Shape := ⟨2, ![2048, 128]⟩
abbrev S_ : Shape := ⟨0, ![]⟩
abbrev S32768 : Shape := ⟨1, ![32768]⟩
abbrev S32768x1 : Shape := ⟨2, ![32768, 1]⟩
abbrev S1x2048 : Shape := ⟨2, ![1, 2048]⟩
abbrev S32768x28672 : Shape := ⟨2, ![32768, 28672]⟩
abbrev S32768x128 : Shape := ⟨2, ![32768, 128]⟩

abbrev nBuf : Space → Nat
  | .hbm => 25
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S2048, .f32⟩
  | .hbm, ⟨2, _⟩ => ⟨S2048x28672, .bf16⟩
  | .hbm, ⟨3, _⟩ => ⟨S2048x128, .bf16⟩
  | .hbm, ⟨4, _⟩ => ⟨S32768x2048, .f32⟩
  | .hbm, ⟨5, _⟩ => ⟨S_, .f32⟩
  | .hbm, ⟨6, _⟩ => ⟨S32768, .f32⟩
  | .hbm, ⟨7, _⟩ => ⟨S32768x1, .f32⟩
  | .hbm, ⟨8, _⟩ => ⟨S_, .f32⟩
  | .hbm, ⟨9, _⟩ => ⟨S32768x1, .f32⟩
  | .hbm, ⟨10, _⟩ => ⟨S32768x1, .f32⟩
  | .hbm, ⟨11, _⟩ => ⟨S_, .f32⟩
  | .hbm, ⟨12, _⟩ => ⟨S32768x1, .f32⟩
  | .hbm, ⟨13, _⟩ => ⟨S32768x1, .f32⟩
  | .hbm, ⟨14, _⟩ => ⟨S32768x1, .f32⟩
  | .hbm, ⟨15, _⟩ => ⟨S32768x2048, .f32⟩
  | .hbm, ⟨16, _⟩ => ⟨S32768x2048, .f32⟩
  | .hbm, ⟨17, _⟩ => ⟨S1x2048, .f32⟩
  | .hbm, ⟨18, _⟩ => ⟨S32768x2048, .f32⟩
  | .hbm, ⟨19, _⟩ => ⟨S32768x2048, .f32⟩
  | .hbm, ⟨20, _⟩ => ⟨S2048x28672, .f32⟩
  | .hbm, ⟨21, _⟩ => ⟨S32768x28672, .f32⟩
  | .hbm, ⟨22, _⟩ => ⟨S32768x28672, .bf16⟩
  | .hbm, ⟨23, _⟩ => ⟨S2048x128, .f32⟩
  | .hbm, ⟨24, _⟩ => ⟨S32768x128, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== Kernel2.lean ====
abbrev S32768x28672 : Shape := ⟨2, ![32768, 28672]⟩
abbrev S32768x2048 : Shape := ⟨2, ![32768, 2048]⟩
abbrev S3x2048x2048 : Shape := ⟨3, ![3, 2048, 2048]⟩
abbrev S2048x2048 : Shape := ⟨2, ![2048, 2048]⟩
abbrev S2048 : Shape := ⟨1, ![2048]⟩
abbrev S1x2048 : Shape := ⟨2, ![1, 2048]⟩
abbrev S512x2048 : Shape := ⟨2, ![512, 2048]⟩
abbrev S3x2048x256 : Shape := ⟨3, ![3, 2048, 256]⟩
abbrev S512x256 : Shape := ⟨2, ![512, 256]⟩
abbrev S8x512x256 : Shape := ⟨3, ![8, 512, 256]⟩
abbrev S1x2048x256 : Shape := ⟨3, ![1, 2048, 256]⟩
abbrev S2048x256 : Shape := ⟨2, ![2048, 256]⟩
abbrev S1x512x256 : Shape := ⟨3, ![1, 512, 256]⟩
abbrev S256x2048 : Shape := ⟨2, ![256, 2048]⟩
abbrev S512 : Shape := ⟨1, ![512]⟩
abbrev S512x1 : Shape := ⟨2, ![512, 1]⟩

abbrev nBuf : Space → Nat
  | .hbm => 10
  | .vmem => 21
  | .smem => 0
  | _ => 0

abbrev bufTy : (tb : Table) → Fin (tcTables nBuf tb) → BufTy
  | .hbm, ⟨0, _⟩ => ⟨S32768x28672, .bf16⟩
  | .hbm, ⟨1, _⟩ => ⟨S32768x2048, .bf16⟩
  | .hbm, ⟨2, _⟩ => ⟨S32768x2048, .bf16⟩
  | .hbm, ⟨3, _⟩ => ⟨S32768x2048, .bf16⟩
  | .hbm, ⟨4, _⟩ => ⟨S3x2048x2048, .bf16⟩
  | .hbm, ⟨5, _⟩ => ⟨S32768x2048, .f32⟩
  | .hbm, ⟨6, _⟩ => ⟨S2048x2048, .bf16⟩
  | .hbm, ⟨7, _⟩ => ⟨S2048, .f32⟩
  | .hbm, ⟨8, _⟩ => ⟨S1x2048, .f32⟩
  | .hbm, ⟨9, _⟩ => ⟨S32768x2048, .f32⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S512x2048, .bf16⟩
  | .local _ .vmem, ⟨5, _⟩ => ⟨S512x2048, .bf16⟩
  | .local _ .vmem, ⟨6, _⟩ => ⟨S3x2048x256, .bf16⟩
  | .local _ .vmem, ⟨7, _⟩ => ⟨S3x2048x256, .bf16⟩
  | .local _ .vmem, ⟨8, _⟩ => ⟨S512x256, .bf16⟩
  | .local _ .vmem, ⟨9, _⟩ => ⟨S512x256, .bf16⟩
  | .local _ .vmem, ⟨10, _⟩ => ⟨S512x256, .bf16⟩
  | .local _ .vmem, ⟨11, _⟩ => ⟨S512x256, .bf16⟩
  | .local _ .vmem, ⟨12, _⟩ => ⟨S512x256, .bf16⟩
  | .local _ .vmem, ⟨13, _⟩ => ⟨S512x256, .bf16⟩
  | .local _ .vmem, ⟨14, _⟩ => ⟨S512x2048, .f32⟩
  | .local _ .vmem, ⟨15, _⟩ => ⟨S512x2048, .f32⟩
  | .local _ .vmem, ⟨16, _⟩ => ⟨S2048x2048, .bf16⟩
  | .local _ .vmem, ⟨17, _⟩ => ⟨S1x2048, .f32⟩
  | .local _ .vmem, ⟨18, _⟩ => ⟨S512x2048, .f32⟩
  | .local _ .vmem, ⟨19, _⟩ => ⟨S512x2048, .f32⟩
  | .local _ .vmem, ⟨20, _⟩ => ⟨S8x512x256, .bf16⟩
  | _, _ => ⟨S32768x28672, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg10_1 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨2, ![64, 8], ![false, false]⟩

def k0_off1 (i : grid0.Coords) : Fin 3 → Nat :=
  let arg1 : BitVec 32 := BitVec.ofNat 32 (i 1).val
  let v45 : Index := Scalar.indexCast arg1
  let c0_29 : Index := 0#32
  let c0_30 : Index := 0#32
  ![v45.toNat, 0, 0]
def k0_cond1 (i : grid0.Coords) : BitVec 1 :=
  let arg1 : BitVec 32 := BitVec.ofNat 32 (i 1).val
  let c7_i32 : BitVec 32 := 7#32
  let v49 : BitVec 1 := Scalar.cmpi .eq arg1 c7_i32
  let v50 : BitVec 32 := Scalar.extui v49
  let c0_i32 : BitVec 32 := 0#32
  let v51 : BitVec 1 := Scalar.cmpi .ne v50 c0_i32
  v51

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_4 (i : grid0.Coords) : Fin 2 → Nat :=
  let arg0 : BitVec 32 := BitVec.ofNat 32 (i 0).val
  let arg1 : BitVec 32 := BitVec.ofNat 32 (i 1).val
  let c88_i32 : BitVec 32 := 88#32
  let v0 : BitVec 32 := Scalar.addi c88_i32 arg1
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c96_i32 : BitVec 32 := 96#32
  let v0 : BitVec 32 := Scalar.addi c96_i32 arg1
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c104_i32 : BitVec 32 := 104#32
  let v0 : BitVec 32 := Scalar.addi c104_i32 arg1
  let c0_i32 : BitVec 32 := 0#32
  ![arg0.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S3x2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S2048x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S512x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== Reference2Ideal.lean ====
abbrev S32768x28672 : Shape := ⟨2, ![32768, 28672]⟩
abbrev S32768x2048 : Shape := ⟨2, ![32768, 2048]⟩
abbrev S3x2048x2048 : Shape := ⟨3, ![3, 2048, 2048]⟩
abbrev S2048x2048 : Shape := ⟨2, ![2048, 2048]⟩
abbrev S2048 : Shape := ⟨1, ![2048]⟩
abbrev S32768x6144 : Shape := ⟨2, ![32768, 6144]⟩
abbrev S32768x3x2048 : Shape := ⟨3, ![32768, 3, 2048]⟩
abbrev S_ : Shape := ⟨0, ![]⟩
abbrev S32768x1x2048 : Shape := ⟨3, ![32768, 1, 2048]⟩
abbrev S1x2048x2048 : Shape := ⟨3, ![1, 2048, 2048]⟩
abbrev S32768 : Shape := ⟨1, ![32768]⟩
abbrev S32768x1 : Shape := ⟨2, ![32768, 1]⟩
abbrev S1x2048 : Shape := ⟨2, ![1, 2048]⟩

abbrev nBuf : Space → Nat
  | .hbm => 64
  | .vmem => 0
  | .smem => 0
  | _ => 0

abbrev bufTy : (tb : Table) → Fin (tcTables nBuf tb) → BufTy
  | .hbm, ⟨0, _⟩ => ⟨S32768x28672, .bf16⟩
  | .hbm, ⟨1, _⟩ => ⟨S32768x2048, .bf16⟩
  | .hbm, ⟨2, _⟩ => ⟨S32768x2048, .bf16⟩
  | .hbm, ⟨3, _⟩ => ⟨S32768x2048, .bf16⟩
  | .hbm, ⟨4, _⟩ => ⟨S3x2048x2048, .bf16⟩
  | .hbm, ⟨5, _⟩ => ⟨S32768x2048, .f32⟩
  | .hbm, ⟨6, _⟩ => ⟨S2048x2048, .bf16⟩
  | .hbm, ⟨7, _⟩ => ⟨S2048, .f32⟩
  | .hbm, ⟨8, _⟩ => ⟨S32768x6144, .bf16⟩
  | .hbm, ⟨9, _⟩ => ⟨S32768x6144, .f32⟩
  | .hbm, ⟨10, _⟩ => ⟨S32768x3x2048, .f32⟩
  | .hbm, ⟨11, _⟩ => ⟨S32768x3x2048, .f32⟩
  | .hbm, ⟨12, _⟩ => ⟨S32768x3x2048, .f32⟩
  | .hbm, ⟨13, _⟩ => ⟨S_, .f32⟩
  | .hbm, ⟨14, _⟩ => ⟨S32768x3x2048, .f32⟩
  | .hbm, ⟨15, _⟩ => ⟨S32768x3x2048, .f32⟩
  | .hbm, ⟨16, _⟩ => ⟨S_, .f32⟩
  | .hbm, ⟨17, _⟩ => ⟨S32768x3x2048, .f32⟩
  | .hbm, ⟨18, _⟩ => ⟨S32768x3x2048, .f32⟩
  | .hbm, ⟨19, _⟩ => ⟨S32768x1x2048, .f32⟩
  | .hbm, ⟨20, _⟩ => ⟨S32768x2048, .f32⟩
  | .hbm, ⟨21, _⟩ => ⟨S32768x2048, .f32⟩
  | .hbm, ⟨22, _⟩ => ⟨S1x2048x2048, .bf16⟩
  | .hbm, ⟨23, _⟩ => ⟨S2048x2048, .bf16⟩
  | .hbm, ⟨24, _⟩ => ⟨S2048x2048, .f32⟩
  | .hbm, ⟨25, _⟩ => ⟨S32768x2048, .f32⟩
  | .hbm, ⟨26, _⟩ => ⟨S32768x2048, .f32⟩
  | .hbm, ⟨27, _⟩ => ⟨S32768x1x2048, .f32⟩
  | .hbm, ⟨28, _⟩ => ⟨S32768x2048, .f32⟩
  | .hbm, ⟨29, _⟩ => ⟨S32768x2048, .f32⟩
  | .hbm, ⟨30, _⟩ => ⟨S1x2048x2048, .bf16⟩
  | .hbm, ⟨31, _⟩ => ⟨S2048x2048, .bf16⟩
  | .hbm, ⟨32, _⟩ => ⟨S2048x2048, .f32⟩
  | .hbm, ⟨33, _⟩ => ⟨S32768x2048, .f32⟩
  | .hbm, ⟨34, _⟩ => ⟨S32768x2048, .f32⟩
  | .hbm, ⟨35, _⟩ => ⟨S32768x2048, .f32⟩
  | .hbm, ⟨36, _⟩ => ⟨S32768x1x2048, .f32⟩
  | .hbm, ⟨37, _⟩ => ⟨S32768x2048, .f32⟩
  | .hbm, ⟨38, _⟩ => ⟨S32768x2048, .f32⟩
  | .hbm, ⟨39, _⟩ => ⟨S1x2048x2048, .bf16⟩
  | .hbm, ⟨40, _⟩ => ⟨S2048x2048, .bf16⟩
  | .hbm, ⟨41, _⟩ => ⟨S2048x2048, .f32⟩
  | .hbm, ⟨42, _⟩ => ⟨S32768x2048, .f32⟩
  | .hbm, ⟨43, _⟩ => ⟨S32768x2048, .f32⟩
  | .hbm, ⟨44, _⟩ => ⟨S32768x2048, .f32⟩
  | .hbm, ⟨45, _⟩ => ⟨S2048x2048, .f32⟩
  | .hbm, ⟨46, _⟩ => ⟨S32768x2048, .f32⟩
  | .hbm, ⟨47, _⟩ => ⟨S32768x2048, .f32⟩
  | .hbm, ⟨48, _⟩ => ⟨S32768x2048, .f32⟩
  | .hbm, ⟨49, _⟩ => ⟨S_, .f32⟩
  | .hbm, ⟨50, _⟩ => ⟨S32768, .f32⟩
  | .hbm, ⟨51, _⟩ => ⟨S32768x1, .f32⟩
  | .hbm, ⟨52, _⟩ => ⟨S_, .f32⟩
  | .hbm, ⟨53, _⟩ => ⟨S32768x1, .f32⟩
  | .hbm, ⟨54, _⟩ => ⟨S32768x1, .f32⟩
  | .hbm, ⟨55, _⟩ => ⟨S_, .f32⟩
  | .hbm, ⟨56, _⟩ => ⟨S32768x1, .f32⟩
  | .hbm, ⟨57, _⟩ => ⟨S32768x1, .f32⟩
  | .hbm, ⟨58, _⟩ => ⟨S32768x1, .f32⟩
  | .hbm, ⟨59, _⟩ => ⟨S32768x2048, .f32⟩
  | .hbm, ⟨60, _⟩ => ⟨S32768x2048, .f32⟩
  | .hbm, ⟨61, _⟩ => ⟨S1x2048, .f32⟩
  | .hbm, ⟨62, _⟩ => ⟨S32768x2048, .f32⟩
  | .hbm, ⟨63, _⟩ => ⟨S32768x2048, .f32⟩
  | _, _ => ⟨S32768x28672, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_cst_1 : Ref sig .tc := ⟨.hbm, 49, rfl⟩
abbrev main_v39 : Ref sig .tc := ⟨.hbm, 50, rfl⟩
abbrev main_v40 : Ref sig .tc := ⟨.hbm, 51, rfl⟩
abbrev main_cst_2 : Ref sig .tc := ⟨.hbm, 52, rfl⟩
abbrev main_v41 : Ref sig .tc := ⟨.hbm, 53, rfl⟩
abbrev main_v42 : Ref sig .tc := ⟨.hbm, 54, rfl⟩
abbrev main_cst_3 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩

abbrev nD : Nat := 1
abbrev τ : Topo := Topo.v7x

variable {F : FTy → Type} [FloatOps F]
-- ==== Kernel3.lean ====
abbrev S2048x2048 : Shape := ⟨2, ![2048, 2048]⟩
abbrev S2048 : Shape := ⟨1, ![2048]⟩
abbrev S2048x4096 : Shape := ⟨2, ![2048, 4096]⟩
abbrev S1x2048 : Shape := ⟨2, ![1, 2048]⟩
abbrev S1024x2048 : Shape := ⟨2, ![1024, 2048]⟩
abbrev S2048x1024 : Shape := ⟨2, ![2048, 1024]⟩
abbrev S1024x1024 : Shape := ⟨2, ![1024, 1024]⟩
abbrev S128x2048 : Shape := ⟨2, ![128, 2048]⟩
abbrev S128 : Shape := ⟨1, ![128]⟩
abbrev S128x1 : Shape := ⟨2, ![128, 1]⟩

abbrev nBuf : Space → Nat
  | .hbm => 5
  | .vmem => 8
  | .smem => 0
  | _ => 0

abbrev bufTy : (tb : Table) → Fin (tcTables nBuf tb) → BufTy
  | .hbm, ⟨0, _⟩ => ⟨S2048x2048, .f32⟩
  | .hbm, ⟨1, _⟩ => ⟨S2048, .f32⟩
  | .hbm, ⟨2, _⟩ => ⟨S2048x4096, .bf16⟩
  | .hbm, ⟨3, _⟩ => ⟨S1x2048, .f32⟩
  | .hbm, ⟨4, _⟩ => ⟨S2048x4096, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x1024, .bf16⟩
  | .local _ .vmem, ⟨4, _⟩ => ⟨S2048x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x2048, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_6 : BitVec 32 := 0#32
  let c8_i32 : BitVec 32 := 8#32
  let v8 : BitVec 32 := Scalar.addi c0_i32_6 c8_i32
  let c1_i32 : BitVec 32 := 1#32
  ⟨c0_i32_6, v8, c1_i32⟩
def k0_mult1 (k0_t1 : Fin k0_t1_loop.trips) : BitVec 32 :=
  let c0_i32_6 : BitVec 32 := 0#32
  let c1_i32 : BitVec 32 := 1#32
  let arg7 : BitVec 32 := Scf.iv c0_i32_6 c1_i32 k0_t1
  let c128_i32 : BitVec 32 := 128#32
  let v9 : BitVec 32 := Scalar.muli arg7 c128_i32
  v9
def k0_off1 (k0_t1 : Fin k0_t1_loop.trips) : Fin 2 → Nat :=
  let c0_i32_6 : BitVec 32 := 0#32
  let c1_i32 : BitVec 32 := 1#32
  let arg7 : BitVec 32 := Scf.iv c0_i32_6 c1_i32 k0_t1
  let c128_i32 : BitVec 32 := 128#32
  let v9 : BitVec 32 := Scalar.muli arg7 c128_i32
  let v10 : BitVec 32 := v9
  let v11 : Index := Scalar.indexCast v10
  let c0_8 : Index := 0#32
  ![v11.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference3Ideal.lean ====
abbrev S2048x2048 : Shape := ⟨2, ![2048, 2048]⟩
abbrev S2048 : Shape := ⟨1, ![2048]⟩
abbrev S2048x4096 : Shape := ⟨2, ![2048, 4096]⟩
abbrev S_ : Shape := ⟨0, ![]⟩
abbrev S2048x1 : Shape := ⟨2, ![2048, 1]⟩
abbrev S1x2048 : Shape := ⟨2, ![1, 2048]⟩

abbrev nBuf : Space → Nat
  | .hbm => 22
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048, .f32⟩
  | .hbm, ⟨2, _⟩ => ⟨S2048x4096, .bf16⟩
  | .hbm, ⟨3, _⟩ => ⟨S2048x2048, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S2048x1, .f32⟩
  | .hbm, ⟨14, _⟩ => ⟨S2048x2048, .f32⟩
  | .hbm, ⟨15, _⟩ => ⟨S2048x2048, .f32⟩
  | .hbm, ⟨16, _⟩ => ⟨S1x2048, .f32⟩
  | .hbm, ⟨17, _⟩ => ⟨S2048x2048, .f32⟩
  | .hbm, ⟨18, _⟩ => ⟨S2048x2048, .f32⟩
  | .hbm, ⟨19, _⟩ => ⟨S2048x4096, .f32⟩
  | .hbm, ⟨20, _⟩ => ⟨S2048x4096, .f32⟩
  | .hbm, ⟨21, _⟩ => ⟨S2048x4096, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Kernel4.lean ====
abbrev S32768x28672 : Shape := ⟨2, ![32768, 28672]⟩
abbrev S32768x2048 : Shape := ⟨2, ![32768, 2048]⟩
abbrev S2048x4096 : Shape := ⟨2, ![2048, 4096]⟩
abbrev S1x2048 : Shape := ⟨2, ![1, 2048]⟩
abbrev S8x2048 : Shape := ⟨2, ![8, 2048]⟩
abbrev S256x2048 : Shape := ⟨2, ![256, 2048]⟩
abbrev S16x2048 : Shape := ⟨2, ![16, 2048]⟩
abbrev S256x4096 : Shape := ⟨2, ![256, 4096]⟩
abbrev S256x256 : Shape := ⟨2, ![256, 256]⟩
abbrev S256 : Shape := ⟨1, ![256]⟩
abbrev S256x1 : Shape := ⟨2, ![256, 1]⟩
abbrev S1x256 : Shape := ⟨2, ![1, 256]⟩
abbrev S256x512 : Shape := ⟨2, ![256, 512]⟩

abbrev nBuf : Space → Nat
  | .hbm => 9
  | .vmem => 38
  | .smem => 0
  | _ => 0

abbrev bufTy : (tb : Table) → Fin (tcTables nBuf tb) → BufTy
  | .hbm, ⟨0, _⟩ => ⟨S32768x28672, .bf16⟩
  | .hbm, ⟨1, _⟩ => ⟨S32768x2048, .bf16⟩
  | .hbm, ⟨2, _⟩ => ⟨S32768x2048, .bf16⟩
  | .hbm, ⟨3, _⟩ => ⟨S2048x4096, .bf16⟩
  | .hbm, ⟨4, _⟩ => ⟨S1x2048, .f32⟩
  | .hbm, ⟨5, _⟩ => ⟨S8x2048, .f32⟩
  | .hbm, ⟨6, _⟩ => ⟨S32768x2048, .bf16⟩
  | .hbm, ⟨7, _⟩ => ⟨S32768x2048, .bf16⟩
  | .hbm, ⟨8, _⟩ => ⟨S32768x2048, .bf16⟩
  | .local _ .vmem, ⟨0, _⟩ => ⟨S256x2048, .bf16⟩
  | .local _ .vmem, ⟨1, _⟩ => ⟨S256x2048, .bf16⟩
  | .local _ .vmem, ⟨2, _⟩ => ⟨S256x2048, .bf16⟩
  | .local _ .vmem, ⟨3, _⟩ => ⟨S256x2048, .bf16⟩
  | .local _ .vmem, ⟨4, _⟩ => ⟨S256x2048, .bf16⟩
  | .local _ .vmem, ⟨5, _⟩ => ⟨S256x2048, .bf16⟩
  | .local _ .vmem, ⟨6, _⟩ => ⟨S256x2048, .bf16⟩
  | .local _ .vmem, ⟨7, _⟩ => ⟨S256x2048, .bf16⟩
  | .local _ .vmem, ⟨8, _⟩ => ⟨S256x2048, .bf16⟩
  | .local _ .vmem, ⟨9, _⟩ => ⟨S256x2048, .bf16⟩
  | .local _ .vmem, ⟨10, _⟩ => ⟨S256x2048, .bf16⟩
  | .local _ .vmem, ⟨11, _⟩ => ⟨S256x2048, .bf16⟩
  | .local _ .vmem, ⟨12, _⟩ => ⟨S256x2048, .bf16⟩
  | .local _ .vmem, ⟨13, _⟩ => ⟨S256x2048, .bf16⟩
  | .local _ .vmem, ⟨14, _⟩ => ⟨S256x2048, .bf16⟩
  | .local _ .vmem, ⟨15, _⟩ => ⟨S256x2048, .bf16⟩
  | .local _ .vmem, ⟨16, _⟩ => ⟨S256x2048, .bf16⟩
  | .local _ .vmem, ⟨17, _⟩ => ⟨S256x2048, .bf16⟩
  | .local _ .vmem, ⟨18, _⟩ => ⟨S256x2048, .bf16⟩
  | .local _ .vmem, ⟨19, _⟩ => ⟨S256x2048, .bf16⟩
  | .local _ .vmem, ⟨20, _⟩ => ⟨S16x2048, .bf16⟩
  | .local _ .vmem, ⟨21, _⟩ => ⟨S16x2048, .bf16⟩
  | .local _ .vmem, ⟨22, _⟩ => ⟨S16x2048, .bf16⟩
  | .local _ .vmem, ⟨23, _⟩ => ⟨S16x2048, .bf16⟩
  | .local _ .vmem, ⟨24, _⟩ => ⟨S16x2048, .bf16⟩
  | .local _ .vmem, ⟨25, _⟩ => ⟨S16x2048, .bf16⟩
  | .local _ .vmem, ⟨26, _⟩ => ⟨S16x2048, .bf16⟩
  | .local _ .vmem, ⟨27, _⟩ => ⟨S16x2048, .bf16⟩
  | .local _ .vmem, ⟨28, _⟩ => ⟨S256x4096, .bf16⟩
  | .local _ .vmem, ⟨29, _⟩ => ⟨S256x4096, .bf16⟩
  | .local _ .vmem, ⟨30, _⟩ => ⟨S1x2048, .f32⟩
  | .local _ .vmem, ⟨31, _⟩ => ⟨S8x2048, .f32⟩
  | .local _ .vmem, ⟨32, _⟩ => ⟨S256x2048, .bf16⟩
  | .local _ .vmem, ⟨33, _⟩ => ⟨S256x2048, .bf16⟩
  | .local _ .vmem, ⟨34, _⟩ => ⟨S256x2048, .bf16⟩
  | .local _ .vmem, ⟨35, _⟩ => ⟨S256x2048, .bf16⟩
  | .local _ .vmem, ⟨36, _⟩ => ⟨S256x2048, .bf16⟩
  | .local _ .vmem, ⟨37, _⟩ => ⟨S256x2048, .bf16⟩
  | _, _ => ⟨S32768x28672, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg16_0 : Ref sig .tc := ⟨.vmem, 31, rfl⟩
abbrev cc0_stg17_0 : Ref sig .tc := ⟨.vmem, 32, rfl⟩
abbrev cc0_stg17_1 : Ref sig .tc := ⟨.vmem, 33, rfl⟩
abbrev cc0_stg18_0 : Ref sig .tc := ⟨.vmem, 34, rfl⟩
abbrev cc0_stg18_1 : Ref sig .tc := ⟨.vmem, 35, rfl⟩
abbrev cc0_stg19_0 : Ref sig .tc := ⟨.vmem, 36, rfl⟩
abbrev cc0_stg19_1 : Ref sig .tc := ⟨.vmem, 37, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem16_0 : DmaSem sig := 31
abbrev cc0_sem17_0 : DmaSem sig := 32
abbrev cc0_sem17_1 : DmaSem sig := 33
abbrev cc0_sem18_0 : DmaSem sig := 34
abbrev cc0_sem18_1 : DmaSem sig := 35
abbrev cc0_sem19_0 : DmaSem sig := 36
abbrev cc0_sem19_1 : DmaSem sig := 37

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c3_i32 : BitVec 32 := 3#32
  let c0_i32 : BitVec 32 := 0#32
  ![v1.toNat, c3_i32.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c4_i32 : BitVec 32 := 4#32
  let c0_i32 : BitVec 32 := 0#32
  ![v1.toNat, c4_i32.toNat]

def cc0_transform_4 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c5_i32 : BitVec 32 := 5#32
  let c0_i32 : BitVec 32 := 0#32
  ![v1.toNat, c5_i32.toNat]

def cc0_transform_5 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c6_i32 : BitVec 32 := 6#32
  let c0_i32 : BitVec 32 := 0#32
  ![v1.toNat, c6_i32.toNat]

def cc0_transform_6 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c7_i32 : BitVec 32 := 7#32
  let c0_i32 : BitVec 32 := 0#32
  ![v1.toNat, c7_i32.toNat]

def cc0_transform_7 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c8_i32 : BitVec 32 := 8#32
  let c0_i32 : BitVec 32 := 0#32
  ![v1.toNat, c8_i32.toNat]

def cc0_transform_8 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c9_i32 : BitVec 32 := 9#32
  let c0_i32 : BitVec 32 := 0#32
  ![v1.toNat, c9_i32.toNat]

def cc0_transform_9 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c10_i32 : BitVec 32 := 10#32
  let c0_i32 : BitVec 32 := 0#32
  ![v1.toNat, c10_i32.toNat]

def cc0_transform_10 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c16_i32_0 : BitVec 32 := 16#32
  let v2 : BitVec 32 := Scalar.muli v1 c16_i32_0
  let c1_i32 : BitVec 32 := 1#32
  let v3 : BitVec 32 := Scalar.subi v2 c1_i32
  let c0_i32 : BitVec 32 := 0#32
  let v4 : BitVec 32 := Scalar.maxsi v3 c0_i32
  let c6_i32 : BitVec 32 := 6#32
  let c0_i32_1 : BitVec 32 := 0#32
  ![v4.toNat, c6_i32.toNat]

def cc0_transform_11 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c16_i32_0 : BitVec 32 := 16#32
  let v2 : BitVec 32 := Scalar.muli v1 c16_i32_0
  let c1_i32 : BitVec 32 := 1#32
  let v3 : BitVec 32 := Scalar.subi v2 c1_i32
  let c0_i32 : BitVec 32 := 0#32
  let v4 : BitVec 32 := Scalar.maxsi v3 c0_i32
  let c7_i32 : BitVec 32 := 7#32
  let c0_i32_1 : BitVec 32 := 0#32
  ![v4.toNat, c7_i32.toNat]

def cc0_transform_12 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c1_i32 : BitVec 32 := 1#32
  let v2 : BitVec 32 := Scalar.addi v1 c1_i32
  let c16_i32_0 : BitVec 32 := 16#32
  let v3 : BitVec 32 := Scalar.muli v2 c16_i32_0
  let c2047_i32 : BitVec 32 := 2047#32
  let v4 : BitVec 32 := Scalar.minsi v3 c2047_i32
  let c6_i32 : BitVec 32 := 6#32
  let c0_i32 : BitVec 32 := 0#32
  ![v4.toNat, c6_i32.toNat]

def cc0_transform_13 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c1_i32 : BitVec 32 := 1#32
  let v2 : BitVec 32 := Scalar.addi v1 c1_i32
  let c16_i32_0 : BitVec 32 := 16#32
  let v3 : BitVec 32 := Scalar.muli v2 c16_i32_0
  let c2047_i32 : BitVec 32 := 2047#32
  let v4 : BitVec 32 := Scalar.minsi v3 c2047_i32
  let c7_i32 : BitVec 32 := 7#32
  let c0_i32 : BitVec 32 := 0#32
  ![v4.toNat, c7_i32.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_18 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_19 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S256x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S256x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S16x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S16x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S16x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S16x2048 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S256x4096 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]

abbrev stage0_15 : Fin 1 → Memref sig .tc .vmem S1x2048 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S8x2048 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 2 → Memref sig .tc .vmem S256x2048 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S256x2048 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S256x2048 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]
-- ==== Reference4Ideal.lean ====
abbrev S32768x28672 : Shape := ⟨2, ![32768, 28672]⟩
abbrev S32768x2048 : Shape := ⟨2, ![32768, 2048]⟩
abbrev S2048x4096 : Shape := ⟨2, ![2048, 4096]⟩
abbrev S1x2048 : Shape := ⟨2, ![1, 2048]⟩
abbrev S8x2048 : Shape := ⟨2, ![8, 2048]⟩
abbrev S32768x8x256 : Shape := ⟨3, ![32768, 8, 256]⟩
abbrev S_ : Shape := ⟨0, ![]⟩
abbrev S32768x8 : Shape := ⟨2, ![32768, 8]⟩
abbrev S32768x8x1 : Shape := ⟨3, ![32768, 8, 1]⟩
abbrev S8x4096x2048 : Shape := ⟨3, ![8, 4096, 2048]⟩
abbrev S8x4098x2048 : Shape := ⟨3, ![8, 4098, 2048]⟩
abbrev S2048 : Shape := ⟨1, ![2048]⟩
abbrev S1x1x2048 : Shape := ⟨3, ![1, 1, 2048]⟩
abbrev S8x4096x4x512 : Shape := ⟨4, ![8, 4096, 4, 512]⟩
abbrev S2048x2048 : Shape := ⟨2, ![2048, 2048]⟩
abbrev S8x256x4x512 : Shape := ⟨4, ![8, 256, 4, 512]⟩
abbrev S8x4x4096x256 : Shape := ⟨4, ![8, 4, 4096, 256]⟩
abbrev S8x4x4096 : Shape := ⟨3, ![8, 4, 4096]⟩
abbrev S8x4x4096x1 : Shape := ⟨4, ![8, 4, 4096, 1]⟩
abbrev S8x4x512x4096 : Shape := ⟨4, ![8, 4, 512, 4096]⟩

abbrev nBuf : Space → Nat
  | .hbm => 149
  | .vmem => 0
  | .smem => 0
  | _ => 0

abbrev hbmTy0_0 (i : Nat) : BufTy := match i % 128 with
  | 0 => ⟨S32768x28672, .bf16⟩
  | 1 => ⟨S32768x2048, .bf16⟩
  | 2 => ⟨S32768x2048, .bf16⟩
  | 3 => ⟨S2048x4096, .bf16⟩
  | 4 => ⟨S1x2048, .f32⟩
  | 5 => ⟨S8x2048, .f32⟩
  | 6 => ⟨S32768x2048, .bf16⟩
  | 7 => ⟨S32768x2048, .f32⟩
  | 8 => ⟨S32768x2048, .bf16⟩
  | 9 => ⟨S32768x2048, .f32⟩
  | 10 => ⟨S32768x2048, .bf16⟩
  | 11 => ⟨S32768x2048, .f32⟩
  | 12 => ⟨S32768x2048, .bf16⟩
  | 13 => ⟨S32768x2048, .f32⟩
  | 14 => ⟨S32768x2048, .bf16⟩
  | 15 => ⟨S32768x2048, .f32⟩
  | 16 => ⟨S32768x2048, .bf16⟩
  | 17 => ⟨S32768x2048, .f32⟩
  | 18 => ⟨S32768x2048, .bf16⟩
  | 19 => ⟨S32768x2048, .f32⟩
  | 20 => ⟨S32768x2048, .bf16⟩
  | 21 => ⟨S32768x2048, .f32⟩
  | 22 => ⟨S32768x2048, .f32⟩
  | 23 => ⟨S32768x2048, .f32⟩
  | 24 => ⟨S32768x2048, .f32⟩
  | 25 => ⟨S32768x8x256, .f32⟩
  | 26 => ⟨S_, .f32⟩
  | 27 => ⟨S32768x8, .f32⟩
  | 28 => ⟨S32768x8x1, .f32⟩
  | 29 => ⟨S_, .f32⟩
  | 30 => ⟨S32768x8x1, .f32⟩
  | 31 => ⟨S32768x8x1, .f32⟩
  | 32 => ⟨S32768x8x256, .f32⟩
  | 33 => ⟨S32768x8x256, .f32⟩
  | 34 => ⟨S32768x8x256, .f32⟩
  | 35 => ⟨S_, .f32⟩
  | 36 => ⟨S32768x8, .f32⟩
  | 37 => ⟨S32768x8x1, .f32⟩
  | 38 => ⟨S_, .f32⟩
  | 39 => ⟨S32768x8x1, .f32⟩
  | 40 => ⟨S32768x8x1, .f32⟩
  | 41 => ⟨S32768x8x256, .f32⟩
  | 42 => ⟨S32768x8x256, .f32⟩
  | 43 => ⟨S_, .f32⟩
  | 44 => ⟨S32768x8x1, .f32⟩
  | 45 => ⟨S32768x8x1, .f32⟩
  | 46 => ⟨S32768x8x1, .f32⟩
  | 47 => ⟨S32768x8x256, .f32⟩
  | 48 => ⟨S32768x8x256, .f32⟩
  | 49 => ⟨S32768x2048, .f32⟩
  | 50 => ⟨S32768x2048, .f32⟩
  | 51 => ⟨S32768x2048, .f32⟩
  | 52 => ⟨S32768x2048, .f32⟩
  | 53 => ⟨S32768x2048, .f32⟩
  | 54 => ⟨S_, .f32⟩
  | 55 => ⟨S32768x2048, .f32⟩
  | 56 => ⟨S32768x2048, .f32⟩
  | 57 => ⟨S_, .f32⟩
  | 58 => ⟨S32768x2048, .f32⟩
  | 59 => ⟨S32768x2048, .f32⟩
  | 60 => ⟨S32768x2048, .f32⟩
  | 61 => ⟨S32768x2048, .f32⟩
  | 62 => ⟨S32768x2048, .f32⟩
  | 63 => ⟨S_, .f32⟩
  | 64 => ⟨S32768x2048, .f32⟩
  | 65 => ⟨S32768x2048, .f32⟩
  | 66 => ⟨S_, .f32⟩
  | 67 => ⟨S32768x2048, .f32⟩
  | 68 => ⟨S32768x2048, .f32⟩
  | 69 => ⟨S32768x2048, .f32⟩
  | 70 => ⟨S32768x2048, .f32⟩
  | 71 => ⟨S32768x2048, .f32⟩
  | 72 => ⟨S8x4096x2048, .f32⟩
  | 73 => ⟨S_, .i32⟩
  | 74 => ⟨S_, .f32⟩
  | 75 => ⟨S8x4098x2048, .f32⟩
  | 76 => ⟨S1x2048, .f32⟩
  | 77 => ⟨S2048, .f32⟩
  | 78 => ⟨S8x4096x2048, .f32⟩
  | 79 => ⟨S1x1x2048, .f32⟩
  | 80 => ⟨S8x4096x2048, .f32⟩
  | 81 => ⟨S8x4096x2048, .f32⟩
  | 82 => ⟨S1x2048, .f32⟩
  | 83 => ⟨S2048, .f32⟩
  | 84 => ⟨S8x4096x2048, .f32⟩
  | 85 => ⟨S1x1x2048, .f32⟩
  | 86 => ⟨S8x4096x2048, .f32⟩
  | 87 => ⟨S8x4096x2048, .f32⟩
  | 88 => ⟨S8x4096x2048, .f32⟩
  | 89 => ⟨S1x2048, .f32⟩
  | 90 => ⟨S2048, .f32⟩
  | 91 => ⟨S8x4096x2048, .f32⟩
  | 92 => ⟨S1x1x2048, .f32⟩
  | 93 => ⟨S8x4096x2048, .f32⟩
  | 94 => ⟨S8x4096x2048, .f32⟩
  | 95 => ⟨S8x4096x2048, .f32⟩
  | 96 => ⟨S32768x2048, .f32⟩
  | 97 => ⟨S32768x2048, .f32⟩
  | 98 => ⟨S32768x2048, .f32⟩
  | 99 => ⟨S32768x2048, .f32⟩
  | 100 => ⟨S_, .f32⟩
  | 101 => ⟨S32768x2048, .f32⟩
  | 102 => ⟨S32768x2048, .f32⟩
  | 103 => ⟨S_, .f32⟩
  | 104 => ⟨S32768x2048, .f32⟩
  | 105 => ⟨S32768x2048, .f32⟩
  | 106 => ⟨S32768x2048, .f32⟩
  | 107 => ⟨S32768x2048, .f32⟩
  | 108 => ⟨S8x4096x4x512, .f32⟩
  | 109 => ⟨S2048x2048, .bf16⟩
  | 110 => ⟨S2048x2048, .f32⟩
  | 111 => ⟨S8x256x4x512, .f32⟩
  | 112 => ⟨S2048x2048, .bf16⟩
  | 113 => ⟨S2048x2048, .f32⟩
  | 114 => ⟨S8x256x4x512, .f32⟩
  | 115 => ⟨S8x4x4096x256, .f32⟩
  | 116 => ⟨S_, .f32⟩
  | 117 => ⟨S8x4x4096x256, .f32⟩
  | 118 => ⟨S8x4x4096x256, .f32⟩
  | 119 => ⟨S_, .f32⟩
  | 120 => ⟨S8x4x4096, .f32⟩
  | 121 => ⟨S_, .f32⟩
  | 122 => ⟨S8x4x4096, .f32⟩
  | 123 => ⟨S8x4x4096, .f32⟩
  | 124 => ⟨S8x4x4096x1, .f32⟩
  | 125 => ⟨S8x4x4096x256, .f32⟩
  | 126 => ⟨S8x4x4096x256, .f32⟩
  | 127 => ⟨S8x4x4096x256, .f32⟩
  | _ => ⟨S32768x28672, .bf16⟩

abbrev hbmTy0_1 (i : Nat) : BufTy := match i % 128 with
  | 0 => ⟨S_, .f32⟩
  | 1 => ⟨S8x4x4096, .f32⟩
  | 2 => ⟨S8x4x4096x1, .f32⟩
  | 3 => ⟨S8x4x4096x256, .f32⟩
  | 4 => ⟨S8x4x4096x256, .f32⟩
  | 5 => ⟨S8x4x512x4096, .f32⟩
  | 6 => ⟨S8x4096x4x512, .f32⟩
  | 7 => ⟨S32768x2048, .f32⟩
  | 8 => ⟨S32768x2048, .f32⟩
  | 9 => ⟨S32768x2048, .f32⟩
  | 10 => ⟨S_, .f32⟩
  | 11 => ⟨S32768x2048, .f32⟩
  | 12 => ⟨S32768x2048, .f32⟩
  | 13 => ⟨S_, .f32⟩
  | 14 => ⟨S32768x2048, .f32⟩
  | 15 => ⟨S32768x2048, .f32⟩
  | 16 => ⟨S32768x2048, .f32⟩
  | 17 => ⟨S32768x2048, .f32⟩
  | 18 => ⟨S32768x2048, .bf16⟩
  | 19 => ⟨S32768x2048, .bf16⟩
  | 20 => ⟨S32768x2048, .bf16⟩
  | _ => ⟨S32768x28672, .bf16⟩

abbrev hbmTy (i : Nat) : BufTy := match i / 128 with
  | 0 => hbmTy0_0 i
  | 1 => hbmTy0_1 i
  | _ => ⟨S32768x28672, .bf16⟩

abbrev bufTy : (tb : Table) → Fin (tcTables nBuf tb) → BufTy
  | .hbm, ⟨i, _⟩ => hbmTy i
  | _, _ => ⟨S32768x28672, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst : Ref sig .tc := ⟨.hbm, 26, rfl⟩
abbrev main_v20 : Ref sig .tc := ⟨.hbm, 27, rfl⟩
abbrev main_v21 : Ref sig .tc := ⟨.hbm, 28, rfl⟩
abbrev main_cst_0 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_cst_1 : Ref sig .tc := ⟨.hbm, 35, rfl⟩
abbrev main_v27 : Ref sig .tc := ⟨.hbm, 36, rfl⟩
abbrev main_v28 : Ref sig .tc := ⟨.hbm, 37, rfl⟩
abbrev main_cst_2 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst_3 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_cst_4 : Ref sig .tc := ⟨.hbm, 54, rfl⟩
abbrev main_v43 : Ref sig .tc := ⟨.hbm, 55, rfl⟩
abbrev main_v44 : Ref sig .tc := ⟨.hbm, 56, rfl⟩
abbrev main_cst_5 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_call0_v0 : Ref sig .tc := ⟨.hbm, 61, rfl⟩
abbrev main_call0_v1 : Ref sig .tc := ⟨.hbm, 62, rfl⟩
abbrev main_call0_cst : Ref sig .tc := ⟨.hbm, 63, rfl⟩
abbrev main_call0_v2 : Ref sig .tc := ⟨.hbm, 64, rfl⟩
abbrev main_call0_v3 : Ref sig .tc := ⟨.hbm, 65, rfl⟩
abbrev main_call0_cst_0 : Ref sig .tc := ⟨.hbm, 66, rfl⟩
abbrev main_call0_v4 : Ref sig .tc := ⟨.hbm, 67, rfl⟩
abbrev main_call0_v5 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_c : Ref sig .tc := ⟨.hbm, 73, rfl⟩
abbrev main_call1_v0 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_call2_v0 : Ref sig .tc := ⟨.hbm, 98, rfl⟩
abbrev main_call2_v1 : Ref sig .tc := ⟨.hbm, 99, rfl⟩
abbrev main_call2_cst : Ref sig .tc := ⟨.hbm, 100, rfl⟩
abbrev main_call2_v2 : Ref sig .tc := ⟨.hbm, 101, rfl⟩
abbrev main_call2_v3 : Ref sig .tc := ⟨.hbm, 102, rfl⟩
abbrev main_call2_cst_0 : Ref sig .tc := ⟨.hbm, 103, rfl⟩
abbrev main_call2_v4 : Ref sig .tc := ⟨.hbm, 104, rfl⟩
abbrev main_call2_v5 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_cst_6 : Ref sig .tc := ⟨.hbm, 116, rfl⟩
abbrev main_v85 : Ref sig .tc := ⟨.hbm, 117, rfl⟩
abbrev main_v86 : Ref sig .tc := ⟨.hbm, 118, rfl⟩
abbrev main_cst_7 : Ref sig .tc := ⟨.hbm, 119, rfl⟩
abbrev main_v87 : Ref sig .tc := ⟨.hbm, 120, rfl⟩
abbrev main_cst_8 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_cst_9 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_call3_v0 : Ref sig .tc := ⟨.hbm, 136, rfl⟩
abbrev main_call3_v1 : Ref sig .tc := ⟨.hbm, 137, rfl⟩
abbrev main_call3_cst : Ref sig .tc := ⟨.hbm, 138, rfl⟩
abbrev main_call3_v2 : Ref sig .tc := ⟨.hbm, 139, rfl⟩
abbrev main_call3_v3 : Ref sig .tc := ⟨.hbm, 140, rfl⟩
abbrev main_call3_cst_0 : Ref sig .tc := ⟨.hbm, 141, rfl⟩
abbrev main_call3_v4 : Ref sig .tc := ⟨.hbm, 142, rfl⟩
abbrev main_call3_v5 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩

abbrev nD : Nat := 1
abbrev τ : Topo := Topo.v7x

variable {F : FTy → Type} [FloatOps F]
-- ==== Proof.Hand.InProj.Rows.lean ====
/- The row normalisation of the input projection: the block of 1024 normalised rows as a function of the input block and the weight, and what the loop over its eight tiles of 128 rows leaves in the scratch. -/
module

public import proofs.«01_k».proof.Proof.Gen.KernelIdeal.Frame
public import proofs.«01_k».proof.Proof.Gen.KernelIdeal.Loops
public import proofs.«01_k».proof.Proof.Gen.KernelIdeal.Skeleton
public import Idealize.ShloMosaic.Lib.WholeRead
public import Idealize.ShloMosaic.Lib.WritesUnit
public import Idealize.ShloMosaic.Lib.Pointwise.Index

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Rows `128 r` to `128 r + 127` of a block of 1024 rows. -/
def tileRows (X : Vec F S1024x2048 .f32) (r : ℕ) : Vec F S128x2048 .f32 :=
  fun z => X (ix2 ⟨(128 * r + (z 0).val) % 1024, Nat.mod_lt _ (by decide)⟩ (z 1))

/-- The block of normalised rows: each tile of 128 rows normalised and scaled by the weight, the tiles one under another. -/
def normRows (x0 : Vec F S1024x2048 .f32) (x1 : Vec F S1x2048 .f32) : Vec F S1024x2048 .bf16 :=
  fun y => k0_pay1 (tileRows x0 ((y 0).val / 128)) x1 (ix2 ⟨(y 0).val % 128, Nat.mod_lt _ (by decide)⟩ (y 1))

/-- One trip of the loop writes one tile of normalised rows. -/
theorem trip_eq (𝒱 : Variants) (c : Dev nD) (bd : Option 𝒱.V) (i : grid0.Coords) (arg2 : Memref sig .tc .vmem S1024x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S2048x128 .bf16) (harg5 : arg5.IsWhole) (arg6 : Memref sig .tc .vmem S1024x1024 .bf16) (harg6 : arg6.IsWhole) (arg7 : Memref sig .tc .vmem S1024x128 .f32) (harg7 : arg7.IsWhole) (arg8 : Memref sig .tc .vmem S1024x2048 .bf16) (harg8 : arg8.IsWhole) (k0_h1 : k0_cond1 i = 1#1)
    (X2 : BufTy.Contents (Elt F) arg2.view.ty) (X3 : BufTy.Contents (Elt F) arg3.view.ty) (k : Fin k0_t1_loop.trips) :
    tripL_k0_t1 (F := F) 𝒱 c bd i arg2 harg2 arg3 harg3 arg4 harg4 arg5 harg5 arg6 harg6 arg7 harg7 arg8 harg8 k0_h1 X2 X3 k
      = [⟨Rect.unit (s := S1024x2048) (k0_off1 k) S128x2048.size (k0_off1_inb i k k0_h1),
          k0_pay1 (View.readAt (Elt F) arg2.view (Rect.unit (s := S1024x2048) (k0_off1 k) S128x2048.size (k0_off1_inb i k k0_h1)).toLoadRect X2)
            (View.readAt (Elt F) arg3.view (Rect.unit (s := S1x2048) ![0, 0] S1x2048.size inb_S1x2048_S1x2048_0_0).toLoadRect X3)⟩] := by
  unfold tripL_k0_t1 trip_k0_t1
  rfl

/-- A load of one tile's rows of the input block. -/
theorem load_rows (i : grid0.Coords) (arg2 : Memref sig .tc .vmem S1024x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S2048x128 .bf16) (harg5 : arg5.IsWhole) (arg6 : Memref sig .tc .vmem S1024x1024 .bf16) (harg6 : arg6.IsWhole) (arg7 : Memref sig .tc .vmem S1024x128 .f32) (harg7 : arg7.IsWhole) (arg8 : Memref sig .tc .vmem S1024x2048 .bf16) (harg8 : arg8.IsWhole) (k0_h1 : k0_cond1 i = 1#1) (x0 : Vec F S1024x2048 .f32) (k : Fin k0_t1_loop.trips) :
    View.readAt (Elt F) arg2.view (Rect.unit (s := S1024x2048) (k0_off1 k) S128x2048.size (k0_off1_inb i k k0_h1)).toLoadRect (harg2.unread x0)
      = tileRows x0 k.val := by
  have hk : k.val < 8 := Nat.lt_of_lt_of_le k.isLt k0_t1_abs.2.1
  funext z
  rw [harg2.readAt_unread]
  unfold tileRows
  congr 1
  have h0 : (z 0).val < 128 := (z 0).isLt
  funext a
  apply Fin.ext
  match a with
  | ⟨0, _⟩ =>
    show k0_off1 k 0 + 1 * (z 0).val = (128 * k.val + (z 0).val) % 1024
    have e0 : k0_off1 k 0 = 128 * k.val := congrFun (k0_off1_eq k) 0
    omega
  | ⟨1, _⟩ =>
    show k0_off1 k 1 + 1 * (z 1).val = (z 1).val
    have e1 : k0_off1 k 1 = 0 := congrFun (k0_off1_eq k) 1
    omega

/-- A load of a whole buffer that reads `X` is `X`. -/
theorem load_whole {s : Shape} {e : EltTy} (M : Memref sig .tc .vmem s e) (hM : M.IsWhole) (X : Vec F s e) (off : Fin s.rank → ℕ) (ho : ∀ a, off a = 0)
    (inb : ∀ a, off a + s.size a ≤ s.size a) :
    View.readAt (Elt F) M.view (Rect.unit off s.size inb).toLoadRect (hM.unread X) = X := by
  funext z
  rw [hM.readAt_unread]
  congr 1
  funext a
  apply Fin.ext
  show off a + 1 * (z a).val = (z a).val
  rw [ho]; omega

/-- A buffer whose whole was just stored holds what was stored. -/
theorem stored_whole {s : Shape} {e : EltTy} (M : Memref sig .tc .vmem s e) (hM : M.IsWhole) (f) (off : Fin s.rank → ℕ) (ho : ∀ a, off a = 0)
    (inb : ∀ a, off a + s.size a ≤ s.size a) (w : s.Idx → Elt F e) :
    M.view.writes (Elt F) f [⟨Rect.unit off s.size inb, w⟩] = hM.unread w :=
  hM.eq_unread (funext fun y => View.read_writes_cons_hit_of_coords M.view f (Rect.unit off s.size inb) w [] y y
    (fun a => by show (y a).val = off a + 1 * (y a).val; rw [ho]; omega))

theorem origin2 : ∀ a : Fin 2, (![0, 0] : Fin 2 → ℕ) a = 0 := by decide

/-- After the first `n` trips the scratch reads the normalised rows on its first `n` tiles. -/
theorem rows_read (𝒱 : Variants) (c : Dev nD) (bd : Option 𝒱.V) (i : grid0.Coords) (arg2 : Memref sig .tc .vmem S1024x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S2048x128 .bf16) (harg5 : arg5.IsWhole) (arg6 : Memref sig .tc .vmem S1024x1024 .bf16) (harg6 : arg6.IsWhole) (arg7 : Memref sig .tc .vmem S1024x128 .f32) (harg7 : arg7.IsWhole) (arg8 : Memref sig .tc .vmem S1024x2048 .bf16) (harg8 : arg8.IsWhole) (k0_h1 : k0_cond1 i = 1#1)
    (x0 : Vec F S1024x2048 .f32) (x1 : Vec F S1x2048 .f32) (f : BufTy.Contents (Elt F) arg8.view.ty) :
    ∀ (n : ℕ) (hn : n ≤ 8) (y : S1024x2048.Idx), (y 0).val < 128 * n →
      arg8.view.read (Elt F) (arg8.view.writes (Elt F) f (pb_k0_t1 (F := F) 𝒱 c bd i arg2 harg2 arg3 harg3 arg4 harg4 arg5 harg5 arg6 harg6 arg7 harg7 arg8 harg8 k0_h1 (harg2.unread x0) (harg3.unread x1) n)) y
        = normRows x0 x1 y
  | 0, _, y, hy => absurd hy (Nat.not_lt_zero _)
  | n + 1, hn, y, hy => by
    have ht : k0_t1_loop.trips = 8 := by decide
    have hk : n < k0_t1_loop.trips := by omega
    have e := pb_k0_t1_succ (F := F) 𝒱 c bd i arg2 harg2 arg3 harg3 arg4 harg4 arg5 harg5 arg6 harg6 arg7 harg7 arg8 harg8 k0_h1 (harg2.unread x0) (harg3.unread x1) ⟨n, hk⟩
    dsimp only at e
    rw [e, trip_eq, List.singleton_append, load_rows (F := F) i arg2 harg2 arg3 harg3 arg4 harg4 arg5 harg5 arg6 harg6 arg7 harg7 arg8 harg8 k0_h1 x0 ⟨n, hk⟩, load_whole arg3 harg3 x1 _ origin2]
    by_cases hlt : (y 0).val < 128 * n
    · rw [View.read_writes_cons_rows_of_not_mem (o := 128 * n) (W := 128) arg8.view f _ _ _ y (k0_off1_eq ⟨n, hk⟩) rfl (.inl hlt)]
      exact rows_read 𝒱 c bd i arg2 harg2 arg3 harg3 arg4 harg4 arg5 harg5 arg6 harg6 arg7 harg7 arg8 harg8 k0_h1 x0 x1 f n (by omega) y hlt
    · have hd : (y 0).val / 128 = n := by omega
      have e0 : k0_off1 ⟨n, hk⟩ 0 = 128 * n := congrFun (k0_off1_eq ⟨n, hk⟩) 0
      have e1 : k0_off1 ⟨n, hk⟩ 1 = 0 := congrFun (k0_off1_eq ⟨n, hk⟩) 1
      refine (View.read_writes_cons_hit_of_coords arg8.view f _ _ _ (ix2 ⟨(y 0).val % 128, Nat.mod_lt _ (by decide)⟩ (y 1)) y (fun a => ?_)).trans ?_
      · match a with
        | ⟨0, _⟩ => show (y 0).val = k0_off1 ⟨n, hk⟩ 0 + 1 * ((y 0).val % 128); omega
        | ⟨1, _⟩ => show (y 1).val = k0_off1 ⟨n, hk⟩ 1 + 1 * (y 1).val; omega
      unfold normRows
      rw [hd]; rfl

/-- After the loop the scratch holds the block of normalised rows. -/
theorem rows_written (𝒱 : Variants) (c : Dev nD) (bd : Option 𝒱.V) (i : grid0.Coords) (arg2 : Memref sig .tc .vmem S1024x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S2048x128 .bf16) (harg5 : arg5.IsWhole) (arg6 : Memref sig .tc .vmem S1024x1024 .bf16) (harg6 : arg6.IsWhole) (arg7 : Memref sig .tc .vmem S1024x128 .f32) (harg7 : arg7.IsWhole) (arg8 : Memref sig .tc .vmem S1024x2048 .bf16) (harg8 : arg8.IsWhole) (k0_h1 : k0_cond1 i = 1#1)
    (x0 : Vec F S1024x2048 .f32) (x1 : Vec F S1x2048 .f32) (f : BufTy.Contents (Elt F) arg8.view.ty) (n : ℕ) (hn : n = 8) :
    arg8.view.writes (Elt F) f (pb_k0_t1 (F := F) 𝒱 c bd i arg2 harg2 arg3 harg3 arg4 harg4 arg5 harg5 arg6 harg6 arg7 harg7 arg8 harg8 k0_h1 (harg2.unread x0) (harg3.unread x1) n)
      = harg8.unread (normRows x0 x1) :=
  harg8.eq_unread (funext fun y => by
    subst hn
    exact rows_read 𝒱 c bd i arg2 harg2 arg3 harg3 arg4 harg4 arg5 harg5 arg6 harg6 arg7 harg7 arg8 harg8 k0_h1 x0 x1 f 8 (Nat.le_refl _) y (show (y 0).val < 128 * 8 from (y 0).isLt))

end Cert.KernelIdeal.Hand

end
-- ==== Proof.Hand.InProj.Runs.lean ====
/- The body of the input projection at a grid point, as triples: at the first column block of a row block it normalises the rows, stores the gates and the first column block; at the others it uses the rows the scratch still holds. -/
module

public import proofs.«01_k».proof.Proof.Hand.InProj.Rows
public import Idealize.ShloMosaic.Lib.Ring
public import Idealize.ShloMosaic.Lib.Tactic

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's branch: taken where the column coordinate of the grid point is 0. -/
abbrev cond0_0 (i : grid0.Coords) : Prop := k0_cond1 i = 1#1
/-- It is taken at the points that are multiples of 28. -/
theorem hcond0_0 : ∀ t : Fin cfg0.N, cond0_0 (grid0.coords t) ↔ t.val % 28 = 0 :=
  (fun t => by
    have ht : t.val < 896 := Nat.lt_of_lt_of_eq t.isLt N_0
    have e0 : (grid0.coords t 0).val = t.val / 28 % 32 := Pipeline.Grid.coords_val t 0 (by decide) rfl
    have e1 : (grid0.coords t 1).val = t.val / 1 % 28 := Pipeline.Grid.coords_val t 1 (by decide) rfl
    simp only [cond0_0, k0_cond1, e0, e1]
    word_cmp
   : ∀ t : Fin grid0.N, cond0_0 (grid0.coords t) ↔ t.val % 28 = 0)

/-- Each window's current staging memref at point `t`, spelled as the pipeline passes it (`bodyAt0`), and its wholeness. -/
abbrev ms0_0 (t : Fin cfg0.N) : Memref sig .tc .vmem S1024x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2048x1024 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2048x128 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x1024 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024x128 .f32 := win0_5.stage (cfg0.slots t 5)
abbrev hs0_5 (t : Fin cfg0.N) : (ms0_5 t).IsWhole := hstage0_5 ((cfg0.slots t 5).cast nbuf0_5)
/-- The scratch operands: whole scoped buffers of the kernel's own, passed beside the windows. -/
abbrev scM0_0 : Memref sig .tc .vmem S1024x2048 .bf16 := Memref.whole cc0_scratch0

/-- The invariant the launch hands over, the scratch as a memref owned at some contents. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

set_option maxHeartbeats 1000000 in
/-- The body at a first column block: the scratch ends at the normalised rows, the gates at their product with the gate
    weight, the block of projections at their product with the block of the main weight. -/
theorem run_first (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S2048x128 .bf16) (harg5 : arg5.IsWhole) (arg6 : Memref sig .tc .vmem S1024x1024 .bf16) (harg6 : arg6.IsWhole) (arg7 : Memref sig .tc .vmem S1024x128 .f32) (harg7 : arg7.IsWhole) (arg8 : Memref sig .tc .vmem S1024x2048 .bf16) (harg8 : arg8.IsWhole) (hc0 : cond0_0 i)
    (x0 : Vec F S1024x2048 .f32) (x1 : Vec F S1x2048 .f32) (x2 : Vec F S2048x1024 .bf16) (x3 : Vec F S2048x128 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (k0_pay3 (normRows x0 x1) x2) ∗ owns (c : Thread nD τ) arg7 fullShare (k0_pay2 (normRows x0 x1) x3) ∗ owns (c : Thread nD τ) arg8 fullShare (normRows x0 x1)) -∗ K ⟨⟩))
      ⊢ wp frame (wpE (defs₀ (F := F)) Variants.none c none) E (cc0__in_proj_kernel i arg2 harg2 arg3 harg3 arg4 harg4 arg5 harg5 arg6 harg6 arg7 harg7 arg8 harg8) K := by
    simp only [cc0__in_proj_kernel_eq_skeleton]; unfold cc0__in_proj_kernel_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%ds0, %fs0, -, HS0⟩, Hk⟩
    obtain rfl := harg2.eq_unread hf0; obtain rfl := harg3.eq_unread hf1; obtain rfl := harg4.eq_unread hf2; obtain rfl := harg5.eq_unread hf3
    set_option sl_exec.maxSteps 2 in sl_exec (disch := first | sl_exact hc0)
    rw [rows_written _ _ _ _ _ _ _ _ _ _ _ _ _ _ _ _ _ _ _ _ _ _ _ (by decide)]
    sl_exec
    sl_step
    rw [stored_whole arg6 harg6 _ _ origin2, stored_whole arg7 harg7 _ _ origin2, load_whole arg8 harg8 _ _ origin2, load_whole arg4 harg4 _ _ origin2, load_whole arg5 harg5 _ _ origin2]
    unfold run_first.sl.v9
    rw [rows_written _ _ _ _ _ _ _ _ _ _ _ _ _ _ _ _ _ _ _ _ _ _ _ (by decide), load_whole arg8 harg8 _ _ origin2]
    iapply Hk
    isplitl [H0]
    · iexists _; isplitr; swap; · iexact H0
      ipureintro; exact harg2.read_unread _
    isplitl [H1]
    · iexists _; isplitr; swap; · iexact H1
      ipureintro; exact harg3.read_unread _
    isplitl [H2]
    · iexists _; isplitr; swap; · iexact H2
      ipureintro; exact harg4.read_unread _
    isplitl [H3]
    · iexists _; isplitr; swap; · iexact H3
      ipureintro; exact harg5.read_unread _
    isplitl [H4]
    · iexists _; isplitr; swap; · iexact H4
      ipureintro; exact harg6.read_unread _
    isplitl [H5]
    · iexists _; isplitr; swap; · iexact H5
      ipureintro; exact harg7.read_unread _
    iexists _; isplitr; swap; · iexact HS0
    ipureintro; exact harg8.read_unread _

set_option maxHeartbeats 1000000 in
/-- The body at a later column block: the scratch and the gates stay, the block of projections ends at the product of the
    scratch's rows with the block of the main weight. -/
theorem run_later (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S2048x128 .bf16) (harg5 : arg5.IsWhole) (arg6 : Memref sig .tc .vmem S1024x1024 .bf16) (harg6 : arg6.IsWhole) (arg7 : Memref sig .tc .vmem S1024x128 .f32) (harg7 : arg7.IsWhole) (arg8 : Memref sig .tc .vmem S1024x2048 .bf16) (harg8 : arg8.IsWhole) (hc0 : ¬cond0_0 i)
    (x0 : Vec F S1024x2048 .f32) (x1 : Vec F S1x2048 .f32) (x2 : Vec F S2048x1024 .bf16) (x3 : Vec F S2048x128 .bf16) (g : Vec F S1024x128 .f32) (xn : Vec F S1024x2048 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare g ∗ owns (c : Thread nD τ) arg8 fullShare xn
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (k0_pay3 xn x2) ∗ owns (c : Thread nD τ) arg7 fullShare g ∗ owns (c : Thread nD τ) arg8 fullShare xn) -∗ K ⟨⟩))
      ⊢ wp frame (wpE (defs₀ (F := F)) Variants.none c none) E (cc0__in_proj_kernel i arg2 harg2 arg3 harg3 arg4 harg4 arg5 harg5 arg6 harg6 arg7 harg7 arg8 harg8) K := by
    simp only [cc0__in_proj_kernel_eq_skeleton]; unfold cc0__in_proj_kernel_skel
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%fs0, %hfs0, HS0⟩, Hk⟩
    obtain rfl := harg2.eq_unread hf0; obtain rfl := harg3.eq_unread hf1; obtain rfl := harg4.eq_unread hf2; obtain rfl := harg5.eq_unread hf3
    obtain rfl := harg7.eq_unread hf5; obtain rfl := harg8.eq_unread hfs0
    sl_exec (disch := first | sl_exact hc0)
    sl_step
    rw [stored_whole arg6 harg6 _ _ origin2, load_whole arg8 harg8 _ _ origin2, load_whole arg4 harg4 _ _ origin2]
    iapply Hk
    isplitl [H0]
    · iexists _; isplitr; swap; · iexact H0
      ipureintro; exact harg2.read_unread _
    isplitl [H1]
    · iexists _; isplitr; swap; · iexact H1
      ipureintro; exact harg3.read_unread _
    isplitl [H2]
    · iexists _; isplitr; swap; · iexact H2
      ipureintro; exact harg4.read_unread _
    isplitl [H3]
    · iexists _; isplitr; swap; · iexact H3
      ipureintro; exact harg5.read_unread _
    isplitl [H4]
    · iexists _; isplitr; swap; · iexact H4
      ipureintro; exact harg6.read_unread _
    isplitl [H5]
    · iexists _; isplitr; swap; · iexact H5
      ipureintro; exact harg7.read_unread _
    iexists _; isplitr; swap; · iexact HS0
    ipureintro; exact harg8.read_unread _

end Cert.KernelIdeal.Hand

end
-- ==== Proof.Hand.InProj.Blocks.lean ====
/- The windows of the input projection: which part of its array each input window holds at a grid point. -/
module

public import proofs.«01_k».proof.Proof.Hand.InProj.Runs

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Rows `1024 r` to `1024 r + 1023` of the input. -/
def rowBlock (X : Vec F S32768x2048 .f32) (r : ℕ) : Vec F S1024x2048 .f32 :=
  fun y => X (ix2 ⟨(1024 * r + (y 0).val) % 32768, Nat.mod_lt _ (by decide)⟩ (y 1))

/-- Columns `1024 j` to `1024 j + 1023` of the main weight. -/
def colBlock (W : Vec F S2048x28672 .bf16) (j : ℕ) : Vec F S2048x1024 .bf16 :=
  fun y => W (ix2 (y 0) ⟨(1024 * j + (y 1).val) % 28672, Nat.mod_lt _ (by decide)⟩)

theorem index0 : ∀ t : Fin cfg0.N, win0_0.index t = ![t.val / 28, 0] :=
  (by decide +kernel : ∀ t : Fin grid0.N, win0_0.index t = ![t.val / 28, 0])
theorem index1 : ∀ t : Fin cfg0.N, win0_1.index t = ![0, 0] :=
  (by decide +kernel : ∀ t : Fin grid0.N, win0_1.index t = ![0, 0])
theorem index2 : ∀ t : Fin cfg0.N, win0_2.index t = ![0, t.val % 28] :=
  (by decide +kernel : ∀ t : Fin grid0.N, win0_2.index t = ![0, t.val % 28])
theorem index3 : ∀ t : Fin cfg0.N, win0_3.index t = ![0, 0] :=
  (by decide +kernel : ∀ t : Fin grid0.N, win0_3.index t = ![0, 0])
theorem index4 : ∀ t : Fin cfg0.N, win0_4.index t = ![t.val / 28, t.val % 28] :=
  (by decide +kernel : ∀ t : Fin grid0.N, win0_4.index t = ![t.val / 28, t.val % 28])
theorem index5 : ∀ t : Fin cfg0.N, win0_5.index t = ![t.val / 28, 0] :=
  (by decide +kernel : ∀ t : Fin grid0.N, win0_5.index t = ![t.val / 28, 0])

/-- Window 0 holds the point's row block of the input. -/
theorem block0 (c : Dev nD) (t : Fin cfg0.N) : (iblk m c 0 t : Vec F S1024x2048 .f32) = rowBlock (V m c main_arg0) (t.val / 28) := by
  have ht : t.val < 896 := Nat.lt_of_lt_of_eq t.isLt N_0
  funext y
  have h0 : (y 0).val < 1024 := (y 0).isLt
  have i0 : win0_0.index t (0 : Fin 2) = t.val / 28 := congrFun (index0 t) 0
  have i1 : win0_0.index t (1 : Fin 2) = 0 := congrFun (index0 t) 1
  show V m c main_arg0 (((cfg0.win 0).blk t).view.emb y) = V m c main_arg0 _
  congr 1
  funext a; apply Fin.ext
  match a with
  | ⟨0, _⟩ => show win0_0.index t (0 : Fin 2) * 1024 + 1 * (y 0).val = (1024 * (t.val / 28) + (y 0).val) % 32768; rw [i0]; omega
  | ⟨1, _⟩ => show win0_0.index t (1 : Fin 2) * 2048 + 1 * (y 1).val = (y 1).val; rw [i1]; omega

/-- Window 1 holds the norm's weight. -/
theorem block1 (c : Dev nD) (t : Fin cfg0.N) : (iblk m c 1 t : Vec F S1x2048 .f32) = V m c main_v0 := by
  funext y
  have i0 : win0_1.index t (0 : Fin 2) = 0 := congrFun (index1 t) 0
  have i1 : win0_1.index t (1 : Fin 2) = 0 := congrFun (index1 t) 1
  show V m c main_v0 (((cfg0.win 1).blk t).view.emb y) = V m c main_v0 _
  congr 1
  funext a; apply Fin.ext
  match a with
  | ⟨0, _⟩ => show win0_1.index t (0 : Fin 2) * 1 + 1 * (y 0).val = (y 0).val; rw [i0]; omega
  | ⟨1, _⟩ => show win0_1.index t (1 : Fin 2) * 2048 + 1 * (y 1).val = (y 1).val; rw [i1]; omega

/-- Window 2 holds the point's column block of the main weight. -/
theorem block2 (c : Dev nD) (t : Fin cfg0.N) : (iblk m c 2 t : Vec F S2048x1024 .bf16) = colBlock (V m c main_arg2) (t.val % 28) := by
  have ht : t.val < 896 := Nat.lt_of_lt_of_eq t.isLt N_0
  funext y
  have h1 : (y 1).val < 1024 := (y 1).isLt
  have i0 : win0_2.index t (0 : Fin 2) = 0 := congrFun (index2 t) 0
  have i1 : win0_2.index t (1 : Fin 2) = t.val % 28 := congrFun (index2 t) 1
  show V m c main_arg2 (((cfg0.win 2).blk t).view.emb y) = V m c main_arg2 _
  congr 1
  funext a; apply Fin.ext
  match a with
  | ⟨0, _⟩ => show win0_2.index t (0 : Fin 2) * 2048 + 1 * (y 0).val = (y 0).val; rw [i0]; omega
  | ⟨1, _⟩ => show win0_2.index t (1 : Fin 2) * 1024 + 1 * (y 1).val = (1024 * (t.val % 28) + (y 1).val) % 28672; rw [i1]; omega

/-- Window 3 holds the gate weight. -/
theorem block3 (c : Dev nD) (t : Fin cfg0.N) : (iblk m c 3 t : Vec F S2048x128 .bf16) = V m c main_arg3 := by
  funext y
  have i0 : win0_3.index t (0 : Fin 2) = 0 := congrFun (index3 t) 0
  have i1 : win0_3.index t (1 : Fin 2) = 0 := congrFun (index3 t) 1
  show V m c main_arg3 (((cfg0.win 3).blk t).view.emb y) = V m c main_arg3 _
  congr 1
  funext a; apply Fin.ext
  match a with
  | ⟨0, _⟩ => show win0_3.index t (0 : Fin 2) * 2048 + 1 * (y 0).val = (y 0).val; rw [i0]; omega
  | ⟨1, _⟩ => show win0_3.index t (1 : Fin 2) * 128 + 1 * (y 1).val = (y 1).val; rw [i1]; omega

end Cert.KernelIdeal.Hand

end
-- ==== Proof.Hand.InProj.Frame.lean ====
/- The input projection run over its grid: at each point the outputs' buffers and the scratch hold the stated functions of the input arrays; so every execution ends with the arguments unchanged and the results block by block at these functions. -/
module

public import proofs.«01_k».proof.Proof.Hand.InProj.Blocks
public import Idealize.ShloMosaic.Lib.Pipeline.FrameBody
public import Idealize.ShloMosaic.Lib.Pipeline.TableIdle
public import Idealize.ShloMosaic.Lib.Claim

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The normalised rows of row block `r`. -/
def norms (c : Dev nD) (r : ℕ) : Vec F S1024x2048 .bf16 := normRows (rowBlock (V m c main_arg0) r) (V m c main_v0)
/-- The gates of row block `r`. -/
def gates (c : Dev nD) (r : ℕ) : Vec F S1024x128 .f32 := k0_pay2 (norms m c r) (V m c main_arg3)
/-- The projections of row block `r` in column block `j`. -/
def projs (c : Dev nD) (r j : ℕ) : Vec F S1024x1024 .bf16 := k0_pay3 (norms m c r) (colBlock (V m c main_arg2) j)

/-- Between the points the scratch holds the normalised rows of the row block of the point before. -/
def Inv (c : Dev nD) : (n : ℕ) → sProp 𝕄
  | 0 => Pipeline.ΦA spec0 c
  | n + 1 => iprop(owns (c : Thread nD τ) scM0_0 fullShare (norms m c (n / 28)) ∗ (∃ r, prngReg c r))

theorem Inv_pos (c : Dev nD) (n : ℕ) (hz : n ≠ 0) :
    Inv m c n = iprop(owns (c : Thread nD τ) scM0_0 fullShare (norms m c ((n - 1) / 28)) ∗ (∃ r, prngReg c r)) := by
  cases n with
  | zero => exact absurd rfl hz
  | succ n => rfl

/-- What each buffer holds after the body at a point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => projs m c (t.val / 28) (t.val % 28)
    | ⟨5, _⟩ => gates m c (t.val / 28)
  Φ t := Inv m c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = projs m c (t.val / 28) (t.val % 28) := by dsimp only [dats]
theorem after0_5 (c : Dev nD) (t : Fin cfg0.N) : (dats m 0 c).after 5 t = gates m c (t.val / 28) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- The gates' block is stored at the first column block only. -/
theorem idle5 (t : Fin cfg0.N) : cfg0.idle 5 (grid0.coords t) = true ↔ ¬t.val % 28 = 0 := by
  rw [← hcond0_0 t]
  show (!(k0_cond1 (grid0.coords t) == 1#1)) = true ↔ ¬(k0_cond1 (grid0.coords t) = 1#1)
  simp

/-- Its buffer holds nothing stored only where a row block begins. -/
theorem fresh5 : ∀ n, n ≤ cfg0.N → cfg0.fresh 5 n = decide (n % 28 = 0) :=
  cfg0.fresh_tab 5 (fun n => decide (n % 28 = 0)) rfl fun t => by
    have hi := idle5 t
    have hf : (cfg0.win 5).flush t = true ↔ t.val % 28 = 27 := flush0_5 t
    rw [Bool.eq_iff_iff, Bool.or_eq_true, Bool.and_eq_true, hi, hf]
    simp only [decide_eq_true_eq]
    omega

/-- At a later column block the gates' buffer still holds the row block's gates. -/
theorem before0_5 (c : Dev nD) (t : Fin cfg0.N) (h0 : ¬t.val % 28 = 0) (d) : (dats m 0 c).before 5 t d = gates m c (t.val / 28) := by
  have hz : t.val ≠ 0 := fun e => h0 (by rw [e])
  rw [(dats m 0 c).before_out_traj 5 rfl (fun _ _ => rfl) (fun u hu hi hf => ?_) t.val t rfl d, fresh5 t.val (Nat.le_of_lt t.isLt),
    if_neg (by simpa using h0), after0_5]
  swap
  · have hi' := (idle5 u).mp hi
    rw [after0_5, after0_5]
    congr 1
    show u.val / 28 = (u.val - 1) / 28
    omega
  congr 1
  show (t.val - 1) / 28 = t.val / 28
  omega

/-- The gates in their buffer are what the point leaves there, stored at this point or found. -/
theorem leaves5 (c : Dev nD) (t : Fin cfg0.N) :
    (owns (c : Thread nD τ) (ms0_5 t) fullShare (gates m c (t.val / 28)) : sProp 𝕄) ⊢ (dats m 0 c).leavesExact 5 t := by
  by_cases hi : cfg0.idle 5 (grid0.coords t) = true
  · cases hf : (cfg0.win 5).flush t
    · rw [(dats m 0 c).leavesExact_idle 5 t hi hf]
      simp only [before0_5 m c t ((idle5 t).mp hi)]
      iintro H
      iexists (fun _ => Classical.arbitrary _)
      iexact H
    · unfold Dat.leavesExact
      rw [hi, hf, after0_5]
  · rw [Bool.not_eq_true] at hi
    unfold Dat.leavesExact
    rw [hi, after0_5]

/-- What the body is given at a point, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ (dats m 0 c).leavesExact 5 t)

set_option maxHeartbeats 3200000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl,
    after0_0, after0_1, after0_2, after0_3, after0_4]
  rw [show (dats m 0 c).Φ t.succ = Inv m c (t.val + 1) from rfl, show (dats m 0 c).Φ t.castSucc = Inv m c t.val from rfl]
  rw [show Inv m c (t.val + 1) = iprop(owns (c : Thread nD τ) scM0_0 fullShare (norms m c (t.val / 28)) ∗ (∃ r, prngReg c r)) from rfl]
  by_cases h0 : t.val % 28 = 0
  · have hgo : iprop((∃ d, owns (c : Thread nD τ) scM0_0 fullShare d) ∗ (∃ r, prngReg c r) ∗ (dats m 0 c).owesAt () t.castSucc
    ∗ owns (c : Thread nD τ) (ms0_0 t) fullShare (iblk m c 0 t)
    ∗ owns (c : Thread nD τ) (ms0_1 t) fullShare (iblk m c 1 t)
    ∗ owns (c : Thread nD τ) (ms0_2 t) fullShare (iblk m c 2 t)
    ∗ owns (c : Thread nD τ) (ms0_3 t) fullShare (iblk m c 3 t)
    ∗ (∃ d, owns (c : Thread nD τ) (ms0_4 t) fullShare d) ∗ (∃ d, owns (c : Thread nD τ) (ms0_5 t) fullShare d))
        ⊢ wp frame (wpE (defs₀ (F := F)) Variants.none c none) Set.univ (cc0__in_proj_kernel (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _))
          (fun _ => iprop((owns (c : Thread nD τ) scM0_0 fullShare (norms m c (t.val / 28)) ∗ (∃ r, prngReg c r)) ∗ (dats m 0 c).owesAt () t.castSucc
    ∗ owns (c : Thread nD τ) (ms0_0 t) fullShare (iblk m c 0 t)
    ∗ owns (c : Thread nD τ) (ms0_1 t) fullShare (iblk m c 1 t)
    ∗ owns (c : Thread nD τ) (ms0_2 t) fullShare (iblk m c 2 t)
    ∗ owns (c : Thread nD τ) (ms0_3 t) fullShare (iblk m c 3 t)
    ∗ owns (c : Thread nD τ) (ms0_4 t) fullShare (projs m c (t.val / 28) (t.val % 28)) ∗ (dats m 0 c).leavesExact 5 t)) := by
      iintro ⟨HS0, Hg, Ho, H0, H1, H2, H3, H4, H5⟩
      iapply (run_first c (grid0.coords t) _ _ _ _ _ _ _ _ _ _ _ _ _ _ ((hcond0_0 t).mpr h0) (iblk m c 0 t) (iblk m c 1 t) (iblk m c 2 t) (iblk m c 3 t) Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      iintro ⟨H0, H1, H2, H3, H4, H5, HS0⟩
      rw [show normRows (iblk m c 0 t) (iblk m c 1 t) = norms m c (t.val / 28) from by rw [block0, block1]; rfl,
        show k0_pay3 (norms m c (t.val / 28)) (iblk m c 2 t) = projs m c (t.val / 28) (t.val % 28) from by rw [block2]; rfl,
        show k0_pay2 (norms m c (t.val / 28)) (iblk m c 3 t) = gates m c (t.val / 28) from by rw [block3]; rfl]
      isplitl [HS0 Hg]
      · isplitl [HS0]; · iexact HS0
        iexact Hg
      isplitl [Ho]; · iexact Ho
      isplitl [H0]; · iexact H0
      isplitl [H1]; · iexact H1
      isplitl [H2]; · iexact H2
      isplitl [H3]; · iexact H3
      isplitl [H4]; · iexact H4
      iapply (leaves5 m c t); iexact H5
    refine Idealize.SL.BI.Entails.trans (show (_ : sProp 𝕄) ⊢ _ from ?_) hgo
    by_cases hz : t.val = 0
    · rw [show Inv m c t.val = Pipeline.ΦA spec0 c from by rw [hz]; rfl, PhiA0_eq]
      iintro ⟨⟨HS0, Hg⟩, Ho, ⟨%d0, H0⟩, ⟨%d1, H1⟩, ⟨%d2, H2⟩, ⟨%d3, H3⟩, ⟨%d4, H4⟩, ⟨%d5, H5⟩⟩
      isplitl [HS0]; · iexact HS0
      isplitl [Hg]; · iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5
    · rw [Inv_pos m c _ hz]
      iintro ⟨⟨HS0, Hg⟩, Ho, ⟨%d0, H0⟩, ⟨%d1, H1⟩, ⟨%d2, H2⟩, ⟨%d3, H3⟩, ⟨%d4, H4⟩, ⟨%d5, H5⟩⟩
      isplitl [HS0]; · iexists _; iexact HS0
      isplitl [Hg]; · iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5
  · have hz : t.val ≠ 0 := fun e => h0 (by rw [e])
    rw [Inv_pos m c _ hz, show (t.val - 1) / 28 = t.val / 28 from by omega]
    simp only [before0_5 m c t h0]
    iintro ⟨⟨HS0, Hg⟩, Ho, ⟨%d0, H0⟩, ⟨%d1, H1⟩, ⟨%d2, H2⟩, ⟨%d3, H3⟩, ⟨%d4, H4⟩, ⟨%d5, H5⟩⟩
    iapply (run_later c (grid0.coords t) _ _ _ _ _ _ _ _ _ _ _ _ _ _ (fun h => h0 ((hcond0_0 t).mp h)) (iblk m c 0 t) (iblk m c 1 t) (iblk m c 2 t) (iblk m c 3 t) (gates m c (t.val / 28)) (norms m c (t.val / 28)) Set.univ _)
    isplitl [H0]; · iexact H0
    isplitl [H1]; · iexact H1
    isplitl [H2]; · iexact H2
    isplitl [H3]; · iexact H3
    isplitl [H4]; · iexists _; iexact H4
    isplitl [H5]; · iexact H5
    isplitl [HS0]; · iexact HS0
    iintro ⟨H0, H1, H2, H3, H4, H5, HS0⟩
    rw [show k0_pay3 (norms m c (t.val / 28)) (iblk m c 2 t) = projs m c (t.val / 28) (t.val % 28) from by rw [block2]; rfl]
    isplitl [HS0 Hg]
    · isplitl [HS0]; · iexact HS0
      iexact Hg
    isplitl [Ho]; · iexact Ho
    isplitl [H0]; · iexact H0
    isplitl [H1]; · iexact H1
    isplitl [H2]; · iexact H2
    isplitl [H3]; · iexact H3
    isplitl [H4]; · iexact H4
    iapply (leaves5 m c t); iexact H5

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = Pipeline.ΦA spec0 c from rfl]

theorem hout (c : Dev nD) : (dats m 0 c).Φ (Fin.last cfg0.N) ⊢ Pipeline.ΦA spec0 c := by
  rw [show (dats m 0 c).Φ (Fin.last cfg0.N) = Inv m c (Fin.last cfg0.N).val from rfl,
    Inv_pos m c _ (by rw [Fin.val_last]; have : cfg0.N = 896 := N_0; omega), PhiA0_eq]
  iintro ⟨HS0, Hg⟩
  isplitl [HS0]
  · iexists _; iexact HS0
  iexact Hg

set_option backward.isDefEq.respectTransparency.types false in
/-- Every execution ends, with each array at what the buffers above make of it and every semaphore at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The frame: the arguments end unchanged and no semaphore is left raised. -/
theorem frame : θ_run defs (onTc (τ := τ) (main (F := F))) ⟨m, fun _ => 0, ρ⟩ (fun r => (∀ c : Dev nD,
r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_main_quiescent m ρ))

/-! ## The results as whole arrays -/

/-- The projections, block by block. -/
def outP (c : Dev nD) : Vec F S32768x28672 .bf16 := fun i =>
  projs m c ((i 0).val / 1024) ((i 1).val / 1024) (ix2 ⟨(i 0).val % 1024, Nat.mod_lt _ (by decide)⟩ ⟨(i 1).val % 1024, Nat.mod_lt _ (by decide)⟩)
/-- The gates, block by block. -/
def outG (c : Dev nD) : Vec F S32768x128 .f32 := fun i =>
  gates m c ((i 0).val / 1024) (ix2 ⟨(i 0).val % 1024, Nat.mod_lt _ (by decide)⟩ (i 1))

theorem flushed4 (c : Dev nD) (t : Fin cfg0.N) : (dats m 0 c).flushed 4 t = ((cfg0.win 4).blk t).view.read (Elt F) (outP m c) := by
  show (cfg0.win 4).cut (grid0.coords t) ((dats m 0 c).after 4 t) = _
  rw [after0_4]
  have ht : t.val < 896 := Nat.lt_of_lt_of_eq t.isLt N_0
  have i0 : win0_4.index t (0 : Fin 2) = t.val / 28 := congrFun (index4 t) 0
  have i1 : win0_4.index t (1 : Fin 2) = t.val % 28 := congrFun (index4 t) 1
  funext y
  have h0 : (y 0).val < 1024 := (y 0).isLt
  have h1 : (y 1).val < 1024 := (y 1).isLt
  have e0 : (((cfg0.win 4).blk t).view.emb y 0).val = win0_4.index t (0 : Fin 2) * 1024 + 1 * (y 0).val := rfl
  have e1 : (((cfg0.win 4).blk t).view.emb y 1).val = win0_4.index t (1 : Fin 2) * 1024 + 1 * (y 1).val := rfl
  show projs m c (t.val / 28) (t.val % 28) ((cfg0.win 4).xinj (grid0.coords t) y)
    = projs m c ((((cfg0.win 4).blk t).view.emb y 0).val / 1024) ((((cfg0.win 4).blk t).view.emb y 1).val / 1024)
      (ix2 ⟨(((cfg0.win 4).blk t).view.emb y 0).val % 1024, Nat.mod_lt _ (by decide)⟩ ⟨(((cfg0.win 4).blk t).view.emb y 1).val % 1024, Nat.mod_lt _ (by decide)⟩)
  rw [show (((cfg0.win 4).blk t).view.emb y 0).val / 1024 = t.val / 28 from by rw [e0, i0]; omega,
    show (((cfg0.win 4).blk t).view.emb y 1).val / 1024 = t.val % 28 from by rw [e1, i1]; omega]
  congr 1
  funext a; apply Fin.ext
  match a with
  | ⟨0, _⟩ => show (y 0).val = (((cfg0.win 4).blk t).view.emb y 0).val % 1024; rw [e0]; omega
  | ⟨1, _⟩ => show (y 1).val = (((cfg0.win 4).blk t).view.emb y 1).val % 1024; rw [e1]; omega

theorem flushed5 (c : Dev nD) (t : Fin cfg0.N) : (dats m 0 c).flushed 5 t = ((cfg0.win 5).blk t).view.read (Elt F) (outG m c) := by
  show (cfg0.win 5).cut (grid0.coords t) ((dats m 0 c).after 5 t) = _
  rw [after0_5]
  have ht : t.val < 896 := Nat.lt_of_lt_of_eq t.isLt N_0
  have i0 : win0_5.index t (0 : Fin 2) = t.val / 28 := congrFun (index5 t) 0
  have i1 : win0_5.index t (1 : Fin 2) = 0 := congrFun (index5 t) 1
  funext y
  have h0 : (y 0).val < 1024 := (y 0).isLt
  have e0 : (((cfg0.win 5).blk t).view.emb y 0).val = win0_5.index t (0 : Fin 2) * 1024 + 1 * (y 0).val := rfl
  have e1 : (((cfg0.win 5).blk t).view.emb y 1).val = win0_5.index t (1 : Fin 2) * 128 + 1 * (y 1).val := rfl
  show gates m c (t.val / 28) ((cfg0.win 5).xinj (grid0.coords t) y)
    = gates m c ((((cfg0.win 5).blk t).view.emb y 0).val / 1024)
      (ix2 ⟨(((cfg0.win 5).blk t).view.emb y 0).val % 1024, Nat.mod_lt _ (by decide)⟩ (((cfg0.win 5).blk t).view.emb y 1))
  rw [show (((cfg0.win 5).blk t).view.emb y 0).val / 1024 = t.val / 28 from by rw [e0, i0]; omega]
  congr 1
  funext a; apply Fin.ext
  match a with
  | ⟨0, _⟩ => show (y 0).val = (((cfg0.win 5).blk t).view.emb y 0).val % 1024; rw [e0]; omega
  | ⟨1, _⟩ => show (y 1).val = (((cfg0.win 5).blk t).view.emb y 1).val; rw [e1, i1]; omega

/-- Every entry of the projections lies in a block that is written back. -/
theorem cover4 (i : S32768x28672.Idx) : ∃ t : Fin cfg0.N, (cfg0.win 4).flush t = true ∧ i ∈ ((cfg0.win 4).blk t).view.set := by
  have h0 : (i 0).val < 32768 := (i 0).isLt
  have h1 : (i 1).val < 28672 := (i 1).isLt
  have hlt : 28 * ((i 0).val / 1024) + (i 1).val / 1024 < cfg0.N := Nat.lt_of_lt_of_eq (by omega) N_0.symm
  refine ⟨⟨_, hlt⟩, flush0_4 _, ?_⟩
  have i0 : win0_4.index ⟨_, hlt⟩ (0 : Fin 2) = _ := congrFun (index4 ⟨_, hlt⟩) 0
  have i1 : win0_4.index ⟨_, hlt⟩ (1 : Fin 2) = _ := congrFun (index4 ⟨_, hlt⟩) 1
  show i ∈ ((View.whole main_v1_0).slice (win0_4.rect ⟨_, hlt⟩)).set
  rw [View.set_slice_whole, Rect.mem_set_unit]
  intro a
  match a with
  | ⟨0, _⟩ => show win0_4.index ⟨_, hlt⟩ (0 : Fin 2) * 1024 ≤ (i 0).val ∧ (i 0).val < win0_4.index ⟨_, hlt⟩ (0 : Fin 2) * 1024 + 1024; rw [i0]; show (28 * ((i 0).val / 1024) + (i 1).val / 1024) / 28 * 1024 ≤ _ ∧ _ < (28 * ((i 0).val / 1024) + (i 1).val / 1024) / 28 * 1024 + 1024; omega
  | ⟨1, _⟩ => show win0_4.index ⟨_, hlt⟩ (1 : Fin 2) * 1024 ≤ (i 1).val ∧ (i 1).val < win0_4.index ⟨_, hlt⟩ (1 : Fin 2) * 1024 + 1024; rw [i1]; show (28 * ((i 0).val / 1024) + (i 1).val / 1024) % 28 * 1024 ≤ _ ∧ _ < (28 * ((i 0).val / 1024) + (i 1).val / 1024) % 28 * 1024 + 1024; omega

/-- Every entry of the gates lies in a block that is written back. -/
theorem cover5 (i : S32768x128.Idx) : ∃ t : Fin cfg0.N, (cfg0.win 5).flush t = true ∧ i ∈ ((cfg0.win 5).blk t).view.set := by
  have h0 : (i 0).val < 32768 := (i 0).isLt
  have h1 : (i 1).val < 128 := (i 1).isLt
  have hlt : 28 * ((i 0).val / 1024) + 27 < cfg0.N := Nat.lt_of_lt_of_eq (by omega) N_0.symm
  refine ⟨⟨_, hlt⟩, (flush0_5 _).mpr (by dsimp only; omega), ?_⟩
  have i0 : win0_5.index ⟨_, hlt⟩ (0 : Fin 2) = _ := congrFun (index5 ⟨_, hlt⟩) 0
  have i1 : win0_5.index ⟨_, hlt⟩ (1 : Fin 2) = _ := congrFun (index5 ⟨_, hlt⟩) 1
  show i ∈ ((View.whole main_v1_1).slice (win0_5.rect ⟨_, hlt⟩)).set
  rw [View.set_slice_whole, Rect.mem_set_unit]
  intro a
  match a with
  | ⟨0, _⟩ => show win0_5.index ⟨_, hlt⟩ (0 : Fin 2) * 1024 ≤ (i 0).val ∧ (i 0).val < win0_5.index ⟨_, hlt⟩ (0 : Fin 2) * 1024 + 1024; rw [i0]; show (28 * ((i 0).val / 1024) + 27) / 28 * 1024 ≤ _ ∧ _ < (28 * ((i 0).val / 1024) + 27) / 28 * 1024 + 1024; omega
  | ⟨1, _⟩ => show win0_5.index ⟨_, hlt⟩ (1 : Fin 2) * 128 ≤ (i 1).val ∧ (i 1).val < win0_5.index ⟨_, hlt⟩ (1 : Fin 2) * 128 + 128; rw [i1]; show 0 * 128 ≤ _ ∧ _ < 0 * 128 + 128; omega

/-- The run read: the results at the arrays above, the arguments unchanged. -/
theorem run : θ_run defs (onTc (τ := τ) (main (F := F))) ⟨m, fun _ => 0, ρ⟩ fun r => ∀ c : Dev nD,
      r.2.mem ((c.tc : Thread nD τ).loc main_v1_0) = outP m c
      ∧ r.2.mem ((c.tc : Thread nD τ).loc main_v1_1) = outG m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨((h.1 c).1 4).trans ((dats m 0 c).arrAt_eq_of_cover 4 _ (fun t _ => flushed4 m c t) cover4),
      ((h.1 c).1 5).trans ((dats m 0 c).arrAt_eq_of_cover 5 _ (fun t _ => flushed5 m c t) cover5), h.2 c⟩)
    (θ_run_and (run_main m ρ) (frame_of m ρ (dats m) (A_eq m) (run_main m ρ)))

end Cert.KernelIdeal.Hand

end
-- ==== Proof.Hand.InProj.Equation.lean ====
/- The results over the extended reals: the tiles' normalised rows are the reference's normalised input, and each result entry is the same inner product. -/
module

public import proofs.«01_k».proof.Proof.Hand.InProj.Frame
public import proofs.«01_k».proof.Proof.Gen.ReferenceIdeal.Run
public import Idealize.ShloMosaic.Lib.Tactic.ValueTie

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The reference's normalised input: every row divided by the root of its mean square and scaled by the weight. -/
def refNorm (X : FVec Ideal Cert.ReferenceIdeal.S32768x2048 .f32) (g : FVec Ideal Cert.ReferenceIdeal.S2048 .f32) : FVec Ideal Cert.ReferenceIdeal.S32768x2048 .f32 :=
  (mulf (mulf X (broadcastInDim Cert.ReferenceIdeal.S32768x2048 ![0, 1] Cert.ReferenceIdeal.Gen.bcast_S32768x1_S32768x2048_0_1 (Host.rsqrt (addf (Host.divf (broadcastInDim Cert.ReferenceIdeal.S32768x1 ![0] Cert.ReferenceIdeal.Gen.bcast_S32768_S32768x1_0 (Host.reduceAdd (mulf X X) (constant Cert.ReferenceIdeal.S_ .f32 0x00000000#32) Cert.ReferenceIdeal.Gen.reducesTo_S32768x2048_S32768_d1 Cert.ReferenceIdeal.Gen.h_S_)) (broadcastInDim Cert.ReferenceIdeal.S32768x1 ![] Cert.ReferenceIdeal.Gen.bcast_S_S32768x1 (constant Cert.ReferenceIdeal.S_ .f32 0x45000000#32))) (broadcastInDim Cert.ReferenceIdeal.S32768x1 ![] Cert.ReferenceIdeal.Gen.bcast_S_S32768x1 (constant Cert.ReferenceIdeal.S_ .f32 0x358637BD#32)))))) (broadcastInDim Cert.ReferenceIdeal.S32768x2048 ![0, 1] Cert.ReferenceIdeal.Gen.bcast_S1x2048_S32768x2048_0_1 (broadcastInDim Cert.ReferenceIdeal.S1x2048 ![1] Cert.ReferenceIdeal.Gen.bcast_S2048_S1x2048_1 g)))

/-- An entry of a tile's normalised rows is that entry of the reference's normalised input. -/
theorem tile_norm (X : Vec Ideal S32768x2048 .f32) (g : Vec Ideal S2048 .f32) (g' : Vec Ideal S1x2048 .f32) (hg : ∀ k : Fin 2048, g' (ix2 0 k) = g (ix1 k))
    (r : ℕ) (a : Fin 1024) (k : Fin 2048) (n : Fin 32768) (hn : n.val = 1024 * r + a.val) :
    normRows (rowBlock X r) g' (ix2 a k) = refNorm X g (ix2 n k) := by
  unfold normRows tileRows rowBlock k0_pay1 refNorm
  have ha := a.isLt
  have hnl := n.isLt
  have hrow : ∀ k : Fin 2048, X (ix2 (⟨(1024 * r + (128 * (a.val / 128) + a.val % 128) % 1024) % 32768, Nat.mod_lt _ (by decide)⟩ : Fin 32768) k) = X (ix2 n k) := fun k => by
    congr 2; apply Fin.ext; show (1024 * r + (128 * (a.val / 128) + a.val % 128) % 1024) % 32768 = n.val; omega
  pointwise
  simp only [hrow, hg]

variable (m : (ℓ : Loc nD τ sig) → Buf (Elt Ideal) ℓ)

/-- The kernel's weight of the norm is the argument, as a row. -/
theorem weight_row (c : Dev nD) (k : Fin 2048) : (V m c main_v0 : Vec Ideal S1x2048 .f32) (ix2 0 k) = (m ((c.tc : Thread nD τ).loc main_arg1) : Vec Ideal S2048 .f32) (ix1 k) := by
  have e : (V m c main_v0 : Vec Ideal S1x2048 .f32) = shapeCast S1x2048 (m ((c.tc : Thread nD τ).loc main_arg1) : Vec Ideal S2048 .f32) shapeCasts_S2048_S1x2048 := by
    show StableHlo.after hostOps0 (fun b => m (c, b)) main_v0 = _
    after_results
    rfl
  rw [e]
  pointwise

/-- The normalised rows of row block `r` are the reference's. -/
theorem norms_eq (c : Dev nD) (r : ℕ) (a : Fin 1024) (k : Fin 2048) (n : Fin 32768) (hn : n.val = 1024 * r + a.val) :
    norms m c r (ix2 a k) = refNorm (m ((c.tc : Thread nD τ).loc main_arg0)) (m ((c.tc : Thread nD τ).loc main_arg1)) (ix2 n k) := by
  unfold norms
  rw [V_main_arg0]
  exact tile_norm _ _ _ (weight_row m c) r a k n hn

/-- The projections are the reference's. -/
theorem projections_eq (c : Dev nD) : outP m c = truncf .bf16 (Host.dotGeneral (F := Ideal) Cert.ReferenceIdeal.dot_S32768x2048_S2048x28672_S32768x28672_1_0_0_1_n_n none
    (refNorm (m ((c.tc : Thread nD τ).loc main_arg0)) (m ((c.tc : Thread nD τ).loc main_arg1))) (extf .f32 (m ((c.tc : Thread nD τ).loc main_arg2) : FVec Ideal S2048x28672 .bf16) Cert.ReferenceIdeal.Gen.bitsLt_bf16_f32)) Cert.ReferenceIdeal.Gen.bitsLt_bf16_f32 := by
  funext i
  have h0 : (i 0).val < 32768 := (i 0).isLt
  have h1 : (i 1).val < 28672 := (i 1).isLt
  have hw : ∀ k : Fin 2048, colBlock (V m c main_arg2) ((i 1).val / 1024) (ix2 k (⟨(i 1).val % 1024, Nat.mod_lt _ (by decide)⟩ : Fin 1024))
      = (m ((c.tc : Thread nD τ).loc main_arg2) : FVec Ideal S2048x28672 .bf16) (ix2 k (i 1)) := fun k => by
    rw [V_main_arg2]
    unfold colBlock
    congr 2; apply Fin.ext; show (1024 * ((i 1).val / 1024) + (i 1).val % 1024) % 28672 = (i 1).val; omega
  have hx : ∀ k : Fin 2048, norms m c ((i 0).val / 1024) (ix2 (⟨(i 0).val % 1024, Nat.mod_lt _ (by decide)⟩ : Fin 1024) k) = _ :=
    fun k => norms_eq m c ((i 0).val / 1024) _ k (i 0) (by show _ = 1024 * ((i 0).val / 1024) + (i 0).val % 1024; omega)
  unfold outP projs k0_pay3
  pointwise
  simp only [hx, hw]

/-- The gates are the reference's. -/
theorem gates_eq (c : Dev nD) : outG m c = Host.dotGeneral (F := Ideal) Cert.ReferenceIdeal.dot_S32768x2048_S2048x128_S32768x128_1_0_0_1_n_n none
    (refNorm (m ((c.tc : Thread nD τ).loc main_arg0)) (m ((c.tc : Thread nD τ).loc main_arg1))) (extf .f32 (m ((c.tc : Thread nD τ).loc main_arg3) : FVec Ideal S2048x128 .bf16) Cert.ReferenceIdeal.Gen.bitsLt_bf16_f32) := by
  funext i
  have h0 : (i 0).val < 32768 := (i 0).isLt
  have hx : ∀ k : Fin 2048, norms m c ((i 0).val / 1024) (ix2 (⟨(i 0).val % 1024, Nat.mod_lt _ (by decide)⟩ : Fin 1024) k) = _ :=
    fun k => norms_eq m c ((i 0).val / 1024) _ k (i 0) (by show _ = 1024 * ((i 0).val / 1024) + (i 0).val % 1024; omega)
  unfold outG gates k0_pay2
  rw [V_main_arg3]
  pointwise
  simp only [hx]

end Cert.KernelIdeal.Hand

end
-- ==== Proof.Hand.Merge.Tiles.lean ====
/- The pieces of the merge: the gated sum of the three branches on one block of 256 columns, the scratch buffer as eight such blocks, and the closing step of a row block. -/
module

public import proofs.«01_k».proof.Proof.Gen.Kernel2Ideal.Frame
public import proofs.«01_k».proof.Proof.Gen.Kernel2Ideal.Skeleton
public import Idealize.ShloMosaic.Lib.WholeRead
public import Idealize.ShloMosaic.Lib.WritesUnit
public import Idealize.ShloMosaic.Lib.Pointwise.Index

@[expose] public section

set_option maxRecDepth 16384

noncomputable section

namespace Cert.Kernel2Ideal.Hand

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The weight of branch `b` on a block of 256 columns. -/
def branchWeight (W : Vec F S3x2048x256 .bf16) (b : Fin 3) : Vec F S1x2048x256 .bf16 := fun z => W (ix3 b (z 1) (z 2))

/-- The gated sum of the three branches on one block of columns: `x0`, `x1`, `x2` are the branches' rows, `x3` their
    weights, `x4`, `x5`, `x6` the gates before the sigmoid. -/
def gatedSum (x0 x1 x2 : Vec F S512x2048 .bf16) (x3 : Vec F S3x2048x256 .bf16) (x4 x5 x6 : Vec F S512x256 .bf16) : Vec F S1x512x256 .bf16 :=
  k0_pay1 (k0_pay4 x4 x0 (branchWeight x3 0) x5 x1 (branchWeight x3 1)) (k0_pay5 x6) x2 (branchWeight x3 2)

/-- Block `k` of the scratch buffer. -/
def slot (d : Vec F S8x512x256 .bf16) (k : Fin 8) : Vec F S1x512x256 .bf16 := fun z => d (ix3 k (z 1) (z 2))

/-- The scratch buffer with block `j` replaced. -/
def setSlot (d : Vec F S8x512x256 .bf16) (j : ℕ) (T : Vec F S1x512x256 .bf16) : Vec F S8x512x256 .bf16 :=
  fun y => if (y 0).val = j then T (ix3 0 (y 1) (y 2)) else d y

/-- Rows `256 k` to `256 k + 255` of the output weight. -/
def weightRows (W : Vec F S2048x2048 .bf16) (k : ℕ) : Vec F S256x2048 .bf16 :=
  fun z => W (ix2 ⟨(256 * k + (z 0).val) % 2048, Nat.mod_lt _ (by decide)⟩ (z 1))

/-- The closing step: the rows of the input plus the merged rows times the output weight, then normalised. -/
def closing (d : Vec F S8x512x256 .bf16) (x7 : Vec F S512x2048 .f32) (x8 : Vec F S2048x2048 .bf16) (x9 : Vec F S1x2048 .f32) : Vec F S512x2048 .f32 :=
  k0_pay2 (k0_pay3 x7 (slot d 0) (weightRows x8 0) (slot d 1) (weightRows x8 1) (slot d 2) (weightRows x8 2) (slot d 3) (weightRows x8 3) (slot d 4) (weightRows x8 4))
    (slot d 5) (weightRows x8 5) (slot d 6) (weightRows x8 6) (slot d 7) (weightRows x8 7) x9

/-- A load of a whole buffer that reads `X` is `X`. -/
theorem load_whole {s : Shape} {e : EltTy} (M : Memref sig .tc .vmem s e) (hM : M.IsWhole) (X : Vec F s e) (off : Fin s.rank → ℕ) (ho : ∀ a, off a = 0)
    (inb : ∀ a, off a + s.size a ≤ s.size a) :
    View.readAt (Elt F) M.view (Rect.unit off s.size inb).toLoadRect (hM.unread X) = X := by
  funext z
  rw [hM.readAt_unread]
  congr 1
  funext a
  apply Fin.ext
  show off a + 1 * (z a).val = (z a).val
  rw [ho]; omega

/-- A buffer whose whole was just stored holds what was stored. -/
theorem stored_whole {s : Shape} {e : EltTy} (M : Memref sig .tc .vmem s e) (hM : M.IsWhole) (f) (off : Fin s.rank → ℕ) (ho : ∀ a, off a = 0)
    (inb : ∀ a, off a + s.size a ≤ s.size a) (w : s.Idx → Elt F e) :
    M.view.writes (Elt F) f [⟨Rect.unit off s.size inb, w⟩] = hM.unread w :=
  hM.eq_unread (funext fun y => View.read_writes_cons_hit_of_coords M.view f (Rect.unit off s.size inb) w [] y y
    (fun a => by show (y a).val = off a + 1 * (y a).val; rw [ho]; omega))

theorem origin2 : ∀ a : Fin 2, (![0, 0] : Fin 2 → ℕ) a = 0 := by decide

/-- A load of one branch's weight. -/
theorem load_branch (M : Memref sig .tc .vmem S3x2048x256 .bf16) (hM : M.IsWhole) (W : Vec F S3x2048x256 .bf16) (b : Fin 3) (off : Fin 3 → ℕ) (ho : off = ![b.val, 0, 0])
    (inb : ∀ a, off a + S1x2048x256.size a ≤ S3x2048x256.size a) :
    View.readAt (Elt F) M.view (Rect.unit (s := S3x2048x256) off S1x2048x256.size inb).toLoadRect (hM.unread W) = branchWeight W b := by
  subst ho
  funext z
  rw [hM.readAt_unread]
  unfold branchWeight
  congr 1
  have h0 : (z 0).val < 1 := (z 0).isLt
  funext a
  apply Fin.ext
  match a with
  | ⟨0, _⟩ => show b.val + 1 * (z 0).val = b.val; omega
  | ⟨1, _⟩ => show 0 + 1 * (z 1).val = (z 1).val; omega
  | ⟨2, _⟩ => show 0 + 1 * (z 2).val = (z 2).val; omega

/-- A load of one block of the scratch buffer. -/
theorem load_slot (M : Memref sig .tc .vmem S8x512x256 .bf16) (hM : M.IsWhole) (d : Vec F S8x512x256 .bf16) (k : Fin 8) (off : Fin 3 → ℕ) (ho : off = ![k.val, 0, 0])
    (inb : ∀ a, off a + S1x512x256.size a ≤ S8x512x256.size a) :
    View.readAt (Elt F) M.view (Rect.unit (s := S8x512x256) off S1x512x256.size inb).toLoadRect (hM.unread d) = slot d k := by
  subst ho
  funext z
  rw [hM.readAt_unread]
  unfold slot
  congr 1
  have h0 : (z 0).val < 1 := (z 0).isLt
  funext a
  apply Fin.ext
  match a with
  | ⟨0, _⟩ => show k.val + 1 * (z 0).val = k.val; omega
  | ⟨1, _⟩ => show 0 + 1 * (z 1).val = (z 1).val; omega
  | ⟨2, _⟩ => show 0 + 1 * (z 2).val = (z 2).val; omega

/-- A load of 256 rows of the output weight. -/
theorem load_weight (M : Memref sig .tc .vmem S2048x2048 .bf16) (hM : M.IsWhole) (W : Vec F S2048x2048 .bf16) (k : Fin 8) (off : Fin 2 → ℕ) (ho : off = ![256 * k.val, 0])
    (inb : ∀ a, off a + S256x2048.size a ≤ S2048x2048.size a) :
    View.readAt (Elt F) M.view (Rect.unit (s := S2048x2048) off S256x2048.size inb).toLoadRect (hM.unread W) = weightRows W k.val := by
  subst ho
  funext z
  rw [hM.readAt_unread]
  unfold weightRows
  congr 1
  have h0 : (z 0).val < 256 := (z 0).isLt
  have hk := k.isLt
  funext a
  apply Fin.ext
  match a with
  | ⟨0, _⟩ => show 256 * k.val + 1 * (z 0).val = (256 * k.val + (z 0).val) % 2048; omega
  | ⟨1, _⟩ => show 0 + 1 * (z 1).val = (z 1).val; omega

/-- A store into one block of the scratch buffer. -/
theorem store_slot (M : Memref sig .tc .vmem S8x512x256 .bf16) (hM : M.IsWhole) (d : Vec F S8x512x256 .bf16) (j : ℕ) (off : Fin 3 → ℕ) (ho : off = ![j, 0, 0])
    (inb : ∀ a, off a + S1x512x256.size a ≤ S8x512x256.size a) (T : Vec F S1x512x256 .bf16) :
    M.view.writes (Elt F) (hM.unread d) [⟨Rect.unit (s := S8x512x256) off S1x512x256.size inb, T⟩] = hM.unread (setSlot d j T) :=
  hM.eq_unread (funext fun y => by
    subst ho
    unfold setSlot
    by_cases h : (y 0).val = j
    · rw [if_pos h]
      refine View.read_writes_cons_unit_of_mem M.view _ _ T [] y (ix3 0 (y 1) (y 2)) rfl (fun a => ?_)
      match a with
      | ⟨0, _⟩ => show (y 0).val = j + 0; omega
      | ⟨1, _⟩ => show (y 1).val = 0 + (y 1).val; omega
      | ⟨2, _⟩ => show (y 2).val = 0 + (y 2).val; omega
    · rw [if_neg h]
      refine (View.read_writes_cons_unit_of_not_mem M.view (hM.unread d) inb T [] y rfl (0 : Fin 3) ?_).trans ?_
      · show (y 0).val < j ∨ j + 1 ≤ (y 0).val
        omega
      exact congrFun (hM.read_unread d) y)

end Cert.Kernel2Ideal.Hand

end
-- ==== Proof.Hand.Merge.Runs.lean ====
/- The body of the merge at a grid point, as triples: it stores the gated sum of its block of columns in the scratch buffer, and at the last block of a row block it closes the row block. -/
module

public import proofs.«01_k».proof.Proof.Hand.Merge.Tiles
public import Idealize.ShloMosaic.Lib.Ring
public import Idealize.ShloMosaic.Lib.Tactic

@[expose] public section

set_option maxRecDepth 16384

noncomputable section

namespace Cert.Kernel2Ideal.Hand

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's branch: taken at the last block of columns. -/
abbrev cond0_0 (i : grid0.Coords) : Prop := k0_cond1 i = 1#1

/-- A grid point's column coordinate. -/
theorem column (t : Fin cfg0.N) : (grid0.coords t 1).val = t.val % 8 := by
  have e1 : (grid0.coords t 1).val = t.val / 1 % 8 := Pipeline.Grid.coords_val t 1 (by decide) rfl
  rw [e1, Nat.div_one]

/-- The branch is taken at the points that are 7 modulo 8. -/
theorem hcond0_0 (t : Fin cfg0.N) : cond0_0 (grid0.coords t) ↔ t.val % 8 = 7 := by
  have e1 := column t
  simp only [cond0_0, k0_cond1, e1]
  word_cmp

/-- Each window's staging memref at point `t`, and its wholeness. -/
abbrev ms0_0 (t : Fin cfg0.N) : Memref sig .tc .vmem S512x2048 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x2048 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x2048 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S3x2048x256 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x256 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x256 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S512x256 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S512x2048 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S2048x2048 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x2048 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S512x2048 .f32 := win0_10.stage (cfg0.slots t 10)
abbrev hs0_10 (t : Fin cfg0.N) : (ms0_10 t).IsWhole := hstage0_10 ((cfg0.slots t 10).cast nbuf0_10)
/-- The scratch buffer. -/
abbrev scM0_0 : Memref sig .tc .vmem S8x512x256 .bf16 := Memref.whole cc0_scratch0

/-- What the launch hands over, the scratch as a memref owned at some contents. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

set_option maxHeartbeats 2000000 in
/-- The body before the last block of columns: it stores the gated sum in its block of the scratch buffer. -/
theorem run_early (c : Dev nD) (i : grid0.Coords) (arg2 : Memref sig .tc .vmem S512x2048 .bf16) (harg2 : arg2.IsWhole) (arg3 : Memref sig .tc .vmem S512x2048 .bf16) (harg3 : arg3.IsWhole) (arg4 : Memref sig .tc .vmem S512x2048 .bf16) (harg4 : arg4.IsWhole) (arg5 : Memref sig .tc .vmem S3x2048x256 .bf16) (harg5 : arg5.IsWhole) (arg6 : Memref sig .tc .vmem S512x256 .bf16) (harg6 : arg6.IsWhole) (arg7 : Memref sig .tc .vmem S512x256 .bf16) (harg7 : arg7.IsWhole) (arg8 : Memref sig .tc .vmem S512x256 .bf16) (harg8 : arg8.IsWhole) (arg9 : Memref sig .tc .vmem S512x2048 .f32) (harg9 : arg9.IsWhole) (arg10 : Memref sig .tc .vmem S2048x2048 .bf16) (harg10 : arg10.IsWhole) (arg11 : Memref sig .tc .vmem S1x2048 .f32) (harg11 : arg11.IsWhole) (arg12 : Memref sig .tc .vmem S512x2048 .f32) (harg12 : arg12.IsWhole) (arg13 : Memref sig .tc .vmem S8x512x256 .bf16) (harg13 : arg13.IsWhole) (hc0 : ¬cond0_0 i)
    (x0 : Vec F S512x2048 .bf16) (x1 : Vec F S512x2048 .bf16) (x2 : Vec F S512x2048 .bf16) (x3 : Vec F S3x2048x256 .bf16) (x4 : Vec F S512x256 .bf16) (x5 : Vec F S512x256 .bf16) (x6 : Vec F S512x256 .bf16) (x7 : Vec F S512x2048 .f32) (x8 : Vec F S2048x2048 .bf16) (x9 : Vec F S1x2048 .f32) (g : Vec F S512x2048 .f32) (d : Vec F S8x512x256 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare g ∗ owns (c : Thread nD τ) arg13 fullShare d
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare g ∗ owns (c : Thread nD τ) arg13 fullShare (setSlot d (i 1).val (gatedSum x0 x1 x2 x3 x4 x5 x6))) -∗ K ⟨⟩))
      ⊢ wp frame (wpE (defs₀ (F := F)) Variants.none c none) E (cc0__merge_out_kernel i arg2 harg2 arg3 harg3 arg4 harg4 arg5 harg5 arg6 harg6 arg7 harg7 arg8 harg8 arg9 harg9 arg10 harg10 arg11 harg11 arg12 harg12 arg13 harg13) K := by
    simp only [cc0__merge_out_kernel_eq_skeleton]; unfold cc0__merge_out_kernel_skel
    simp only [k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg13.eq_unread hfs0
    obtain rfl := harg12.eq_unread hf10
    sl_exec (disch := first | sl_exact hc0)
    sl_step
    unfold run_early.sl.r run_early.sl.r_1
    rw [store_slot arg13 harg13 d (i 1).val _ (k0_off1_eq i), load_whole arg2 harg2 _ _ origin2, load_whole arg3 harg3 _ _ origin2, load_whole arg4 harg4 _ _ origin2, load_whole arg6 harg6 _ _ origin2, load_whole arg7 harg7 _ _ origin2, load_whole arg8 harg8 _ _ origin2, load_branch arg5 harg5 _ 0 ![0, 0, 0] rfl, load_branch arg5 harg5 _ 1 ![1, 0, 0] rfl, load_branch arg5 harg5 _ 2 ![2, 0, 0] rfl,
      show k0_pay1 (k0_pay4 x4 x0 (branchWeight x3 0) x5 x1 (branchWeight x3 1)) (k0_pay5 x6) x2 (branchWeight x3 2) = gatedSum x0 x1 x2 x3 x4 x5 x6 from rfl]
    iapply Hk
    isplitl [H0]
    · iexists _; isplitr; swap; · iexact H0
      ipureintro; exact harg2.read_unread _
    isplitl [H1]
    · iexists _; isplitr; swap; · iexact H1
      ipureintro; exact harg3.read_unread _
    isplitl [H2]
    · iexists _; isplitr; swap; · iexact H2
      ipureintro; exact harg4.read_unread _
    isplitl [H3]
    · iexists _; isplitr; swap; · iexact H3
      ipureintro; exact harg5.read_unread _
    isplitl [H4]
    · iexists _; isplitr; swap; · iexact H4
      ipureintro; exact harg6.read_unread _
    isplitl [H5]
    · iexists _; isplitr; swap; · iexact H5
      ipureintro; exact harg7.read_unread _
    isplitl [H6]
    · iexists _; isplitr; swap; · iexact H6
      ipureintro; exact harg8.read_unread _
    isplitl [H7]
    · iexists _; isplitr; swap; · iexact H7
      ipureintro; exact harg9.read_unread _
    isplitl [H8]
    · iexists _; isplitr; swap; · iexact H8
      ipureintro; exact harg10.read_unread _
    isplitl [H9]
    · iexists _; isplitr; swap; · iexact H9
      ipureintro; exact harg11.read_unread _
    isplitl [H10]
    · iexists _; isplitr; swap; · iexact H10
      ipureintro; exact harg12.read_unread _
    iexists _; isplitr; swap; · iexact HS0
    ipureintro; exact harg13.read_unread _

set_option maxHeartbeats 4000000 in
/-- The body at the last block of columns: after its own gated sum it closes the row block. -/
theorem run_last (c : Dev nD) (i : grid0.Coords) (arg2 : Memref sig .tc .vmem S512x2048 .bf16) (harg2 : arg2.IsWhole) (arg3 : Memref sig .tc .vmem S512x2048 .bf16) (harg3 : arg3.IsWhole) (arg4 : Memref sig .tc .vmem S512x2048 .bf16) (harg4 : arg4.IsWhole) (arg5 : Memref sig .tc .vmem S3x2048x256 .bf16) (harg5 : arg5.IsWhole) (arg6 : Memref sig .tc .vmem S512x256 .bf16) (harg6 : arg6.IsWhole) (arg7 : Memref sig .tc .vmem S512x256 .bf16) (harg7 : arg7.IsWhole) (arg8 : Memref sig .tc .vmem S512x256 .bf16) (harg8 : arg8.IsWhole) (arg9 : Memref sig .tc .vmem S512x2048 .f32) (harg9 : arg9.IsWhole) (arg10 : Memref sig .tc .vmem S2048x2048 .bf16) (harg10 : arg10.IsWhole) (arg11 : Memref sig .tc .vmem S1x2048 .f32) (harg11 : arg11.IsWhole) (arg12 : Memref sig .tc .vmem S512x2048 .f32) (harg12 : arg12.IsWhole) (arg13 : Memref sig .tc .vmem S8x512x256 .bf16) (harg13 : arg13.IsWhole) (hc0 : cond0_0 i)
    (x0 : Vec F S512x2048 .bf16) (x1 : Vec F S512x2048 .bf16) (x2 : Vec F S512x2048 .bf16) (x3 : Vec F S3x2048x256 .bf16) (x4 : Vec F S512x256 .bf16) (x5 : Vec F S512x256 .bf16) (x6 : Vec F S512x256 .bf16) (x7 : Vec F S512x2048 .f32) (x8 : Vec F S2048x2048 .bf16) (x9 : Vec F S1x2048 .f32) (d : Vec F S8x512x256 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ g, owns (c : Thread nD τ) arg12 fullShare g) ∗ owns (c : Thread nD τ) arg13 fullShare d
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare (closing (setSlot d (i 1).val (gatedSum x0 x1 x2 x3 x4 x5 x6)) x7 x8 x9) ∗ owns (c : Thread nD τ) arg13 fullShare (setSlot d (i 1).val (gatedSum x0 x1 x2 x3 x4 x5 x6))) -∗ K ⟨⟩))
      ⊢ wp frame (wpE (defs₀ (F := F)) Variants.none c none) E (cc0__merge_out_kernel i arg2 harg2 arg3 harg3 arg4 harg4 arg5 harg5 arg6 harg6 arg7 harg7 arg8 harg8 arg9 harg9 arg10 harg10 arg11 harg11 arg12 harg12 arg13 harg13) K := by
    simp only [cc0__merge_out_kernel_eq_skeleton]; unfold cc0__merge_out_kernel_skel
    simp only [k0_part2_eq_skeleton, k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%g, %f10, -, H10⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg13.eq_unread hfs0
    set_option sl_exec.maxSteps 14 in sl_exec (disch := first | sl_exact hc0)
    unfold run_last.sl.r run_last.sl.r_1
    rw [store_slot arg13 harg13 d (i 1).val _ (k0_off1_eq i), load_whole arg2 harg2 _ _ origin2, load_whole arg3 harg3 _ _ origin2, load_whole arg4 harg4 _ _ origin2, load_whole arg6 harg6 _ _ origin2, load_whole arg7 harg7 _ _ origin2, load_whole arg8 harg8 _ _ origin2, load_branch arg5 harg5 _ 0 ![0, 0, 0] rfl, load_branch arg5 harg5 _ 1 ![1, 0, 0] rfl, load_branch arg5 harg5 _ 2 ![2, 0, 0] rfl,
      show k0_pay1 (k0_pay4 x4 x0 (branchWeight x3 0) x5 x1 (branchWeight x3 1)) (k0_pay5 x6) x2 (branchWeight x3 2) = gatedSum x0 x1 x2 x3 x4 x5 x6 from rfl]
    sl_exec (disch := first | sl_exact hc0)
    sl_step
    unfold run_last.sl.r_2 run_last.sl.v53 run_last.sl.v58 run_last.sl.v63 run_last.sl.v68 run_last.sl.v73 run_last.sl.v78 run_last.sl.v83 run_last.sl.v88
    rw [stored_whole arg12 harg12 _ _ origin2, load_whole arg9 harg9 _ _ origin2, load_whole arg11 harg11 _ _ origin2,
      load_slot arg13 harg13 _ 0 ![0, 0, 0] rfl, load_weight arg10 harg10 _ 0 ![0, 0] rfl,
      load_slot arg13 harg13 _ 1 ![1, 0, 0] rfl, load_weight arg10 harg10 _ 1 ![256, 0] rfl,
      load_slot arg13 harg13 _ 2 ![2, 0, 0] rfl, load_weight arg10 harg10 _ 2 ![512, 0] rfl,
      load_slot arg13 harg13 _ 3 ![3, 0, 0] rfl, load_weight arg10 harg10 _ 3 ![768, 0] rfl,
      load_slot arg13 harg13 _ 4 ![4, 0, 0] rfl, load_weight arg10 harg10 _ 4 ![1024, 0] rfl,
      load_slot arg13 harg13 _ 5 ![5, 0, 0] rfl, load_weight arg10 harg10 _ 5 ![1280, 0] rfl,
      load_slot arg13 harg13 _ 6 ![6, 0, 0] rfl, load_weight arg10 harg10 _ 6 ![1536, 0] rfl,
      load_slot arg13 harg13 _ 7 ![7, 0, 0] rfl, load_weight arg10 harg10 _ 7 ![1792, 0] rfl]
    iapply Hk
    isplitl [H0]
    · iexists _; isplitr; swap; · iexact H0
      ipureintro; exact harg2.read_unread _
    isplitl [H1]
    · iexists _; isplitr; swap; · iexact H1
      ipureintro; exact harg3.read_unread _
    isplitl [H2]
    · iexists _; isplitr; swap; · iexact H2
      ipureintro; exact harg4.read_unread _
    isplitl [H3]
    · iexists _; isplitr; swap; · iexact H3
      ipureintro; exact harg5.read_unread _
    isplitl [H4]
    · iexists _; isplitr; swap; · iexact H4
      ipureintro; exact harg6.read_unread _
    isplitl [H5]
    · iexists _; isplitr; swap; · iexact H5
      ipureintro; exact harg7.read_unread _
    isplitl [H6]
    · iexists _; isplitr; swap; · iexact H6
      ipureintro; exact harg8.read_unread _
    isplitl [H7]
    · iexists _; isplitr; swap; · iexact H7
      ipureintro; exact harg9.read_unread _
    isplitl [H8]
    · iexists _; isplitr; swap; · iexact H8
      ipureintro; exact harg10.read_unread _
    isplitl [H9]
    · iexists _; isplitr; swap; · iexact H9
      ipureintro; exact harg11.read_unread _
    isplitl [H10]
    · iexists _; isplitr; swap; · iexact H10
      ipureintro; exact harg12.read_unread _
    iexists _; isplitr; swap; · iexact HS0
    ipureintro; exact harg13.read_unread _

end Cert.Kernel2Ideal.Hand

end
-- ==== Proof.Hand.Merge.Blocks.lean ====
/- What the windows of the merge hold at a grid point: blocks of the argument arrays. -/
module

public import proofs.«01_k».proof.Proof.Hand.Merge.Runs

@[expose] public section

set_option maxRecDepth 16384

noncomputable section

namespace Cert.Kernel2Ideal.Hand

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Rows `512 r` to `512 r + 511` of an array of 32768 rows. -/
def rowsOf {e : EltTy} (X : Vec F S32768x2048 e) (r : ℕ) : Vec F S512x2048 e :=
  fun y => X (ix2 ⟨(512 * r + (y 0).val) % 32768, Nat.mod_lt _ (by decide)⟩ (y 1))

/-- Columns `256 j` to `256 j + 255` of the branches' weights. -/
def columnsOf (W : Vec F S3x2048x2048 .bf16) (j : ℕ) : Vec F S3x2048x256 .bf16 :=
  fun y => W (ix3 (y 0) (y 1) ⟨(256 * j + (y 2).val) % 2048, Nat.mod_lt _ (by decide)⟩)

/-- Rows `512 r` on and columns `256 j` on of the projections. -/
def gateOf (X : Vec F S32768x28672 .bf16) (r j : ℕ) : Vec F S512x256 .bf16 :=
  fun y => X (ix2 ⟨(512 * r + (y 0).val) % 32768, Nat.mod_lt _ (by decide)⟩ ⟨(256 * j + (y 1).val) % 28672, Nat.mod_lt _ (by decide)⟩)

theorem index0 : ∀ t : Fin cfg0.N, win0_0.index t = ![t.val / 8, 0] :=
  (by decide +kernel : ∀ t : Fin grid0.N, win0_0.index t = ![t.val / 8, 0])
theorem index1 : ∀ t : Fin cfg0.N, win0_1.index t = ![t.val / 8, 0] :=
  (by decide +kernel : ∀ t : Fin grid0.N, win0_1.index t = ![t.val / 8, 0])
theorem index2 : ∀ t : Fin cfg0.N, win0_2.index t = ![t.val / 8, 0] :=
  (by decide +kernel : ∀ t : Fin grid0.N, win0_2.index t = ![t.val / 8, 0])
theorem index3 : ∀ t : Fin cfg0.N, win0_3.index t = ![0, 0, t.val % 8] :=
  (by decide +kernel : ∀ t : Fin grid0.N, win0_3.index t = ![0, 0, t.val % 8])
theorem index4 : ∀ t : Fin cfg0.N, win0_4.index t = ![t.val / 8, 88 + t.val % 8] :=
  (by decide +kernel : ∀ t : Fin grid0.N, win0_4.index t = ![t.val / 8, 88 + t.val % 8])
theorem index5 : ∀ t : Fin cfg0.N, win0_5.index t = ![t.val / 8, 96 + t.val % 8] :=
  (by decide +kernel : ∀ t : Fin grid0.N, win0_5.index t = ![t.val / 8, 96 + t.val % 8])
theorem index6 : ∀ t : Fin cfg0.N, win0_6.index t = ![t.val / 8, 104 + t.val % 8] :=
  (by decide +kernel : ∀ t : Fin grid0.N, win0_6.index t = ![t.val / 8, 104 + t.val % 8])
theorem index7 : ∀ t : Fin cfg0.N, win0_7.index t = ![t.val / 8, 0] :=
  (by decide +kernel : ∀ t : Fin grid0.N, win0_7.index t = ![t.val / 8, 0])
theorem index8 : ∀ t : Fin cfg0.N, win0_8.index t = ![0, 0] :=
  (by decide +kernel : ∀ t : Fin grid0.N, win0_8.index t = ![0, 0])
theorem index9 : ∀ t : Fin cfg0.N, win0_9.index t = ![0, 0] :=
  (by decide +kernel : ∀ t : Fin grid0.N, win0_9.index t = ![0, 0])
theorem index10 : ∀ t : Fin cfg0.N, win0_10.index t = ![t.val / 8, 0] :=
  (by decide +kernel : ∀ t : Fin grid0.N, win0_10.index t = ![t.val / 8, 0])

/-- Window 0 holds the rows of the first branch. -/
theorem block0 (c : Dev nD) (t : Fin cfg0.N) : (iblk m c 0 t : Vec F S512x2048 .bf16) = rowsOf (V m c main_arg1) (t.val / 8) := by
  have ht : t.val < 512 := Nat.lt_of_lt_of_eq t.isLt N_0
  funext y
  have h0 : (y 0).val < 512 := (y 0).isLt
  have i0 : win0_0.index t (0 : Fin 2) = t.val / 8 := congrFun (index0 t) 0
  have h1 : (y 1).val < 2048 := (y 1).isLt
  have i1 : win0_0.index t (1 : Fin 2) = 0 := congrFun (index0 t) 1
  show V m c main_arg1 (((cfg0.win 0).blk t).view.emb y) = V m c main_arg1 _
  congr 1
  funext a; apply Fin.ext
  match a with
  | ⟨0, _⟩ => show win0_0.index t (0 : Fin 2) * 512 + 1 * (y 0).val = (512 * (t.val / 8) + (y 0).val) % 32768; rw [i0]; omega
  | ⟨1, _⟩ => show win0_0.index t (1 : Fin 2) * 2048 + 1 * (y 1).val = (y 1).val; rw [i1]; omega

/-- Window 1 holds the rows of the second branch. -/
theorem block1 (c : Dev nD) (t : Fin cfg0.N) : (iblk m c 1 t : Vec F S512x2048 .bf16) = rowsOf (V m c main_arg2) (t.val / 8) := by
  have ht : t.val < 512 := Nat.lt_of_lt_of_eq t.isLt N_0
  funext y
  have h0 : (y 0).val < 512 := (y 0).isLt
  have i0 : win0_1.index t (0 : Fin 2) = t.val / 8 := congrFun (index1 t) 0
  have h1 : (y 1).val < 2048 := (y 1).isLt
  have i1 : win0_1.index t (1 : Fin 2) = 0 := congrFun (index1 t) 1
  show V m c main_arg2 (((cfg0.win 1).blk t).view.emb y) = V m c main_arg2 _
  congr 1
  funext a; apply Fin.ext
  match a with
  | ⟨0, _⟩ => show win0_1.index t (0 : Fin 2) * 512 + 1 * (y 0).val = (512 * (t.val / 8) + (y 0).val) % 32768; rw [i0]; omega
  | ⟨1, _⟩ => show win0_1.index t (1 : Fin 2) * 2048 + 1 * (y 1).val = (y 1).val; rw [i1]; omega

/-- Window 2 holds the rows of the third branch. -/
theorem block2 (c : Dev nD) (t : Fin cfg0.N) : (iblk m c 2 t : Vec F S512x2048 .bf16) = rowsOf (V m c main_arg3) (t.val / 8) := by
  have ht : t.val < 512 := Nat.lt_of_lt_of_eq t.isLt N_0
  funext y
  have h0 : (y 0).val < 512 := (y 0).isLt
  have i0 : win0_2.index t (0 : Fin 2) = t.val / 8 := congrFun (index2 t) 0
  have h1 : (y 1).val < 2048 := (y 1).isLt
  have i1 : win0_2.index t (1 : Fin 2) = 0 := congrFun (index2 t) 1
  show V m c main_arg3 (((cfg0.win 2).blk t).view.emb y) = V m c main_arg3 _
  congr 1
  funext a; apply Fin.ext
  match a with
  | ⟨0, _⟩ => show win0_2.index t (0 : Fin 2) * 512 + 1 * (y 0).val = (512 * (t.val / 8) + (y 0).val) % 32768; rw [i0]; omega
  | ⟨1, _⟩ => show win0_2.index t (1 : Fin 2) * 2048 + 1 * (y 1).val = (y 1).val; rw [i1]; omega

/-- Window 3 holds the branches' weights on the point's block of columns. -/
theorem block3 (c : Dev nD) (t : Fin cfg0.N) : (iblk m c 3 t : Vec F S3x2048x256 .bf16) = columnsOf (V m c main_arg4) (t.val % 8) := by
  have ht : t.val < 512 := Nat.lt_of_lt_of_eq t.isLt N_0
  funext y
  have h0 : (y 0).val < 3 := (y 0).isLt
  have i0 : win0_3.index t (0 : Fin 3) = 0 := congrFun (index3 t) 0
  have h1 : (y 1).val < 2048 := (y 1).isLt
  have i1 : win0_3.index t (1 : Fin 3) = 0 := congrFun (index3 t) 1
  have h2 : (y 2).val < 256 := (y 2).isLt
  have i2 : win0_3.index t (2 : Fin 3) = t.val % 8 := congrFun (index3 t) 2
  show V m c main_arg4 (((cfg0.win 3).blk t).view.emb y) = V m c main_arg4 _
  congr 1
  funext a; apply Fin.ext
  match a with
  | ⟨0, _⟩ => show win0_3.index t (0 : Fin 3) * 3 + 1 * (y 0).val = (y 0).val; rw [i0]; omega
  | ⟨1, _⟩ => show win0_3.index t (1 : Fin 3) * 2048 + 1 * (y 1).val = (y 1).val; rw [i1]; omega
  | ⟨2, _⟩ => show win0_3.index t (2 : Fin 3) * 256 + 1 * (y 2).val = (256 * (t.val % 8) + (y 2).val) % 2048; rw [i2]; omega

/-- Window 4 holds the first branch's gate. -/
theorem block4 (c : Dev nD) (t : Fin cfg0.N) : (iblk m c 4 t : Vec F S512x256 .bf16) = gateOf (V m c main_arg0) (t.val / 8) (88 + t.val % 8) := by
  have ht : t.val < 512 := Nat.lt_of_lt_of_eq t.isLt N_0
  funext y
  have h0 : (y 0).val < 512 := (y 0).isLt
  have i0 : win0_4.index t (0 : Fin 2) = t.val / 8 := congrFun (index4 t) 0
  have h1 : (y 1).val < 256 := (y 1).isLt
  have i1 : win0_4.index t (1 : Fin 2) = 88 + t.val % 8 := congrFun (index4 t) 1
  show V m c main_arg0 (((cfg0.win 4).blk t).view.emb y) = V m c main_arg0 _
  congr 1
  funext a; apply Fin.ext
  match a with
  | ⟨0, _⟩ => show win0_4.index t (0 : Fin 2) * 512 + 1 * (y 0).val = (512 * (t.val / 8) + (y 0).val) % 32768; rw [i0]; omega
  | ⟨1, _⟩ => show win0_4.index t (1 : Fin 2) * 256 + 1 * (y 1).val = (256 * (88 + t.val % 8) + (y 1).val) % 28672; rw [i1]; omega

/-- Window 5 holds the second branch's gate. -/
theorem block5 (c : Dev nD) (t : Fin cfg0.N) : (iblk m c 5 t : Vec F S512x256 .bf16) = gateOf (V m c main_arg0) (t.val / 8) (96 + t.val % 8) := by
  have ht : t.val < 512 := Nat.lt_of_lt_of_eq t.isLt N_0
  funext y
  have h0 : (y 0).val < 512 := (y 0).isLt
  have i0 : win0_5.index t (0 : Fin 2) = t.val / 8 := congrFun (index5 t) 0
  have h1 : (y 1).val < 256 := (y 1).isLt
  have i1 : win0_5.index t (1 : Fin 2) = 96 + t.val % 8 := congrFun (index5 t) 1
  show V m c main_arg0 (((cfg0.win 5).blk t).view.emb y) = V m c main_arg0 _
  congr 1
  funext a; apply Fin.ext
  match a with
  | ⟨0, _⟩ => show win0_5.index t (0 : Fin 2) * 512 + 1 * (y 0).val = (512 * (t.val / 8) + (y 0).val) % 32768; rw [i0]; omega
  | ⟨1, _⟩ => show win0_5.index t (1 : Fin 2) * 256 + 1 * (y 1).val = (256 * (96 + t.val % 8) + (y 1).val) % 28672; rw [i1]; omega

/-- Window 6 holds the third branch's gate. -/
theorem block6 (c : Dev nD) (t : Fin cfg0.N) : (iblk m c 6 t : Vec F S512x256 .bf16) = gateOf (V m c main_arg0) (t.val / 8) (104 + t.val % 8) := by
  have ht : t.val < 512 := Nat.lt_of_lt_of_eq t.isLt N_0
  funext y
  have h0 : (y 0).val < 512 := (y 0).isLt
  have i0 : win0_6.index t (0 : Fin 2) = t.val / 8 := congrFun (index6 t) 0
  have h1 : (y 1).val < 256 := (y 1).isLt
  have i1 : win0_6.index t (1 : Fin 2) = 104 + t.val % 8 := congrFun (index6 t) 1
  show V m c main_arg0 (((cfg0.win 6).blk t).view.emb y) = V m c main_arg0 _
  congr 1
  funext a; apply Fin.ext
  match a with
  | ⟨0, _⟩ => show win0_6.index t (0 : Fin 2) * 512 + 1 * (y 0).val = (512 * (t.val / 8) + (y 0).val) % 32768; rw [i0]; omega
  | ⟨1, _⟩ => show win0_6.index t (1 : Fin 2) * 256 + 1 * (y 1).val = (256 * (104 + t.val % 8) + (y 1).val) % 28672; rw [i1]; omega

/-- Window 7 holds the rows of the input. -/
theorem block7 (c : Dev nD) (t : Fin cfg0.N) : (iblk m c 7 t : Vec F S512x2048 .f32) = rowsOf (V m c main_arg5) (t.val / 8) := by
  have ht : t.val < 512 := Nat.lt_of_lt_of_eq t.isLt N_0
  funext y
  have h0 : (y 0).val < 512 := (y 0).isLt
  have i0 : win0_7.index t (0 : Fin 2) = t.val / 8 := congrFun (index7 t) 0
  have h1 : (y 1).val < 2048 := (y 1).isLt
  have i1 : win0_7.index t (1 : Fin 2) = 0 := congrFun (index7 t) 1
  show V m c main_arg5 (((cfg0.win 7).blk t).view.emb y) = V m c main_arg5 _
  congr 1
  funext a; apply Fin.ext
  match a with
  | ⟨0, _⟩ => show win0_7.index t (0 : Fin 2) * 512 + 1 * (y 0).val = (512 * (t.val / 8) + (y 0).val) % 32768; rw [i0]; omega
  | ⟨1, _⟩ => show win0_7.index t (1 : Fin 2) * 2048 + 1 * (y 1).val = (y 1).val; rw [i1]; omega

/-- Window 8 holds the output weight. -/
theorem block8 (c : Dev nD) (t : Fin cfg0.N) : (iblk m c 8 t : Vec F S2048x2048 .bf16) = V m c main_arg6 := by
  have ht : t.val < 512 := Nat.lt_of_lt_of_eq t.isLt N_0
  funext y
  have h0 : (y 0).val < 2048 := (y 0).isLt
  have i0 : win0_8.index t (0 : Fin 2) = 0 := congrFun (index8 t) 0
  have h1 : (y 1).val < 2048 := (y 1).isLt
  have i1 : win0_8.index t (1 : Fin 2) = 0 := congrFun (index8 t) 1
  show V m c main_arg6 (((cfg0.win 8).blk t).view.emb y) = V m c main_arg6 _
  congr 1
  funext a; apply Fin.ext
  match a with
  | ⟨0, _⟩ => show win0_8.index t (0 : Fin 2) * 2048 + 1 * (y 0).val = (y 0).val; rw [i0]; omega
  | ⟨1, _⟩ => show win0_8.index t (1 : Fin 2) * 2048 + 1 * (y 1).val = (y 1).val; rw [i1]; omega

/-- Window 9 holds the norm's weight. -/
theorem block9 (c : Dev nD) (t : Fin cfg0.N) : (iblk m c 9 t : Vec F S1x2048 .f32) = V m c main_v0 := by
  have ht : t.val < 512 := Nat.lt_of_lt_of_eq t.isLt N_0
  funext y
  have h0 : (y 0).val < 1 := (y 0).isLt
  have i0 : win0_9.index t (0 : Fin 2) = 0 := congrFun (index9 t) 0
  have h1 : (y 1).val < 2048 := (y 1).isLt
  have i1 : win0_9.index t (1 : Fin 2) = 0 := congrFun (index9 t) 1
  show V m c main_v0 (((cfg0.win 9).blk t).view.emb y) = V m c main_v0 _
  congr 1
  funext a; apply Fin.ext
  match a with
  | ⟨0, _⟩ => show win0_9.index t (0 : Fin 2) * 1 + 1 * (y 0).val = (y 0).val; rw [i0]; omega
  | ⟨1, _⟩ => show win0_9.index t (1 : Fin 2) * 2048 + 1 * (y 1).val = (y 1).val; rw [i1]; omega

end Cert.Kernel2Ideal.Hand

end
-- ==== Proof.Hand.Merge.Frame.lean ====
/- The merge run over its grid: the scratch buffer fills with the gated sums of a row block, and the result is written back row block by row block; the arguments end unchanged. -/
module

public import proofs.«01_k».proof.Proof.Hand.Merge.Blocks
public import Idealize.ShloMosaic.Lib.Pipeline.FrameBody
public import Idealize.ShloMosaic.Lib.Pipeline.TableIdle
public import Idealize.ShloMosaic.Lib.Claim

@[expose] public section

set_option maxRecDepth 16384

noncomputable section

namespace Cert.Kernel2Ideal.Hand

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The gated sum of row block `r` on block `j` of columns. -/
def sumAt (c : Dev nD) (r j : ℕ) : Vec F S1x512x256 .bf16 :=
  gatedSum (rowsOf (V m c main_arg1) r) (rowsOf (V m c main_arg2) r) (rowsOf (V m c main_arg3) r) (columnsOf (V m c main_arg4) j)
    (gateOf (V m c main_arg0) r (88 + j)) (gateOf (V m c main_arg0) r (96 + j)) (gateOf (V m c main_arg0) r (104 + j))

/-- The scratch buffer with all eight gated sums of row block `r`. -/
def merged (c : Dev nD) (r : ℕ) : Vec F S8x512x256 .bf16 := fun y => sumAt m c r (y 0).val (ix3 0 (y 1) (y 2))

/-- The result's row block `r`. -/
def result (c : Dev nD) (r : ℕ) : Vec F S512x2048 .f32 := closing (merged m c r) (rowsOf (V m c main_arg5) r) (V m c main_arg6) (V m c main_v0)

/-- Before point `n` the scratch buffer holds the gated sums of the row block's points so far. -/
def Filled (c : Dev nD) (n : ℕ) (d : Vec F S8x512x256 .bf16) : Prop := ∀ y : S8x512x256.Idx, (y 0).val < n % 8 → d y = merged m c (n / 8) y

theorem Filled_step (c : Dev nD) (n : ℕ) (d : Vec F S8x512x256 .bf16) (h : Filled m c n d) : Filled m c (n + 1) (setSlot d (n % 8) (sumAt m c (n / 8) (n % 8))) := by
  intro y hy
  rw [show (n + 1) / 8 = n / 8 from by omega]
  unfold setSlot
  by_cases e : (y 0).val = n % 8
  · rw [if_pos e]
    unfold merged
    rw [e]
  · rw [if_neg e]
    exact h y (by omega)

theorem Filled_last (c : Dev nD) (n : ℕ) (hn : n % 8 = 7) (d : Vec F S8x512x256 .bf16) (h : Filled m c n d) : setSlot d (n % 8) (sumAt m c (n / 8) (n % 8)) = merged m c (n / 8) := by
  funext y
  have hy : (y 0).val < 8 := (y 0).isLt
  unfold setSlot
  by_cases e : (y 0).val = n % 8
  · rw [if_pos e]
    unfold merged
    rw [e]
  · rw [if_neg e]
    exact h y (by omega)

/-- What is kept between the points. -/
def Inv (c : Dev nD) (n : ℕ) : sProp 𝕄 := iprop((∃ d, owns (c : Thread nD τ) scM0_0 fullShare d ∗ ⌜Filled m c n d⌝) ∗ (∃ r, prngReg c r))

/-- What each buffer holds after the body at a point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => result m c (t.val / 8)
  Φ t := Inv m c t.val
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = result m c (t.val / 8) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d

/-- The gated sum of the windows' blocks at a point. -/
theorem sum_blocks (c : Dev nD) (t : Fin cfg0.N) :
    gatedSum (iblk m c 0 t) (iblk m c 1 t) (iblk m c 2 t) (iblk m c 3 t) (iblk m c 4 t) (iblk m c 5 t) (iblk m c 6 t) = sumAt m c (t.val / 8) (t.val % 8) := by
  rw [block0, block1, block2, block3, block4, block5, block6]; rfl

/-- The result's block is stored at the last block of columns only. -/
theorem idle10 (t : Fin cfg0.N) : cfg0.idle 10 (grid0.coords t) = true ↔ ¬t.val % 8 = 7 := by
  rw [← hcond0_0 t]
  show (!(k0_cond1 (grid0.coords t) == 1#1)) = true ↔ ¬(k0_cond1 (grid0.coords t) = 1#1)
  simp

/-- Before the last block of columns the result's buffer is left as it was found, -/
theorem leaves_early (c : Dev nD) (t : Fin cfg0.N) (h : ¬t.val % 8 = 7) (d) :
    (owns (c : Thread nD τ) (ms0_10 t) fullShare ((dats m 0 c).before 10 t d) : sProp 𝕄) ⊢ (dats m 0 c).leavesExact 10 t := by
  have hf : (cfg0.win 10).flush t = false := by
    rw [← Bool.not_eq_true]; exact fun e => h ((flush0_10 t).mp e)
  rw [(dats m 0 c).leavesExact_idle 10 t ((idle10 t).mpr h) hf]
  iintro H
  iexists d
  iexact H

/-- and at the last one it ends at the result. -/
theorem leaves_last (c : Dev nD) (t : Fin cfg0.N) (h : t.val % 8 = 7) :
    (owns (c : Thread nD τ) (ms0_10 t) fullShare (result m c (t.val / 8)) : sProp 𝕄) ⊢ (dats m 0 c).leavesExact 10 t := by
  have hi : cfg0.idle 10 (grid0.coords t) = false := by
    rw [← Bool.not_eq_true]; exact fun e => (idle10 t).mp e h
  unfold Dat.leavesExact
  rw [hi, after0_10]

/-- What the body is given at a point, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ (dats m 0 c).leavesExact 10 t)

set_option maxHeartbeats 3200000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9]
  rw [show (dats m 0 c).owesAt () t.succ = (dats m 0 c).owesAt () t.castSucc from rfl,
    after0_0, after0_1, after0_2, after0_3, after0_4, after0_5, after0_6, after0_7, after0_8, after0_9]
  rw [show (dats m 0 c).Φ t.succ = Inv m c (t.val + 1) from rfl, show (dats m 0 c).Φ t.castSucc = Inv m c t.val from rfl]
  unfold Inv
  by_cases h0 : t.val % 8 = 7
  · iintro ⟨⟨⟨%d, HS0, %hd⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply (run_last c (grid0.coords t) _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) d Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [HS0]; · iexact HS0
    iintro ⟨H0, H1, H2, H3, H4, H5, H6, H7, H8, H9, H10, HS0⟩
    rw [column t, sum_blocks m c t,
      show closing (setSlot d (t.val % 8) (sumAt m c (t.val / 8) (t.val % 8))) (iblk m c 7 t) (iblk m c 8 t) (iblk m c 9 t) = result m c (t.val / 8) from by
        rw [Filled_last m c t.val h0 d hd, block7, block8, block9]; rfl]
    isplitl [HS0 Hg]
    · isplitl [HS0]
      · iexists _
        isplitl [HS0]; · iexact HS0
        ipureintro; exact Filled_step m c t.val d hd
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iapply (leaves_last m c t h0); iexact H10
  · iintro ⟨⟨⟨%d, HS0, %hd⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply (run_early c (grid0.coords t) _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) ((dats m 0 c).before 10 t d10) d Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [HS0]; · iexact HS0
    iintro ⟨H0, H1, H2, H3, H4, H5, H6, H7, H8, H9, H10, HS0⟩
    rw [column t, sum_blocks m c t]
    isplitl [HS0 Hg]
    · isplitl [HS0]
      · iexists _
        isplitl [HS0]; · iexact HS0
        ipureintro; exact Filled_step m c t.val d hd
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iapply (leaves_early m c t h0 d10); iexact H10
theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = Inv m c 0 from rfl, PhiA0_eq]
  unfold Inv
  iintro ⟨⟨%d, HS0⟩, Hg⟩
  isplitl [HS0]
  · iexists d
    isplitl [HS0]; · iexact HS0
    ipureintro; exact fun y hy => absurd hy (Nat.not_lt_zero _)
  iexact Hg

theorem hout (c : Dev nD) : (dats m 0 c).Φ (Fin.last cfg0.N) ⊢ Pipeline.ΦA spec0 c := by
  rw [show (dats m 0 c).Φ (Fin.last cfg0.N) = Inv m c (Fin.last cfg0.N).val from rfl, PhiA0_eq]
  unfold Inv
  iintro ⟨⟨%d, HS0, -⟩, Hg⟩
  isplitl [HS0]
  · iexists _; iexact HS0
  iexact Hg

set_option backward.isDefEq.respectTransparency.types false in
/-- Every execution ends, with each array at what the buffers above make of it and every semaphore at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The frame: the arguments end unchanged and no semaphore is left raised. -/
theorem frame : θ_run defs (onTc (τ := τ) (main (F := F))) ⟨m, fun _ => 0, ρ⟩ (fun r => (∀ c : Dev nD,
r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (frame_of m ρ (dats m) (A_eq m) (run_main m ρ)) ((θ_run defs _ _).mono (fun _ h => h.2) (run_main_quiescent m ρ))

/-! ## The result as a whole array -/

/-- The result, row block by row block. -/
def outR (c : Dev nD) : Vec F S32768x2048 .f32 := fun i =>
  result m c ((i 0).val / 512) (ix2 ⟨(i 0).val % 512, Nat.mod_lt _ (by decide)⟩ (i 1))

theorem flushed10 (c : Dev nD) (t : Fin cfg0.N) : (dats m 0 c).flushed 10 t = ((cfg0.win 10).blk t).view.read (Elt F) (outR m c) := by
  show (cfg0.win 10).cut (grid0.coords t) ((dats m 0 c).after 10 t) = _
  rw [after0_10]
  have ht : t.val < 512 := Nat.lt_of_lt_of_eq t.isLt N_0
  have i0 : win0_10.index t (0 : Fin 2) = t.val / 8 := congrFun (index10 t) 0
  have i1 : win0_10.index t (1 : Fin 2) = 0 := congrFun (index10 t) 1
  funext y
  have h0 : (y 0).val < 512 := (y 0).isLt
  have e0 : (((cfg0.win 10).blk t).view.emb y 0).val = win0_10.index t (0 : Fin 2) * 512 + 1 * (y 0).val := rfl
  have e1 : (((cfg0.win 10).blk t).view.emb y 1).val = win0_10.index t (1 : Fin 2) * 2048 + 1 * (y 1).val := rfl
  show result m c (t.val / 8) ((cfg0.win 10).xinj (grid0.coords t) y)
    = result m c ((((cfg0.win 10).blk t).view.emb y 0).val / 512)
      (ix2 ⟨(((cfg0.win 10).blk t).view.emb y 0).val % 512, Nat.mod_lt _ (by decide)⟩ (((cfg0.win 10).blk t).view.emb y 1))
  rw [show (((cfg0.win 10).blk t).view.emb y 0).val / 512 = t.val / 8 from by rw [e0, i0]; omega]
  congr 1
  funext a; apply Fin.ext
  match a with
  | ⟨0, _⟩ => show (y 0).val = (((cfg0.win 10).blk t).view.emb y 0).val % 512; rw [e0]; omega
  | ⟨1, _⟩ => show (y 1).val = (((cfg0.win 10).blk t).view.emb y 1).val; rw [e1, i1]; omega

/-- Every entry of the result lies in a block that is written back. -/
theorem cover10 (i : S32768x2048.Idx) : ∃ t : Fin cfg0.N, (cfg0.win 10).flush t = true ∧ i ∈ ((cfg0.win 10).blk t).view.set := by
  have h0 : (i 0).val < 32768 := (i 0).isLt
  have h1 : (i 1).val < 2048 := (i 1).isLt
  have hlt : 8 * ((i 0).val / 512) + 7 < cfg0.N := Nat.lt_of_lt_of_eq (by omega) N_0.symm
  refine ⟨⟨_, hlt⟩, (flush0_10 _).mpr (by dsimp only; omega), ?_⟩
  have i0 : win0_10.index ⟨_, hlt⟩ (0 : Fin 2) = _ := congrFun (index10 ⟨_, hlt⟩) 0
  have i1 : win0_10.index ⟨_, hlt⟩ (1 : Fin 2) = _ := congrFun (index10 ⟨_, hlt⟩) 1
  show i ∈ ((View.whole main_v1).slice (win0_10.rect ⟨_, hlt⟩)).set
  rw [View.set_slice_whole, Rect.mem_set_unit]
  intro a
  match a with
  | ⟨0, _⟩ => show win0_10.index ⟨_, hlt⟩ (0 : Fin 2) * 512 ≤ (i 0).val ∧ (i 0).val < win0_10.index ⟨_, hlt⟩ (0 : Fin 2) * 512 + 512; rw [i0]; show (8 * ((i 0).val / 512) + 7) / 8 * 512 ≤ _ ∧ _ < (8 * ((i 0).val / 512) + 7) / 8 * 512 + 512; omega
  | ⟨1, _⟩ => show win0_10.index ⟨_, hlt⟩ (1 : Fin 2) * 2048 ≤ (i 1).val ∧ (i 1).val < win0_10.index ⟨_, hlt⟩ (1 : Fin 2) * 2048 + 2048; rw [i1]; show 0 * 2048 ≤ _ ∧ _ < 0 * 2048 + 2048; omega

/-- The run read: the result at the array above, the arguments unchanged. -/
theorem run : θ_run defs (onTc (τ := τ) (main (F := F))) ⟨m, fun _ => 0, ρ⟩ fun r => ∀ c : Dev nD,
      r.2.mem ((c.tc : Thread nD τ).loc main_v1) = outR m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun r h c => ⟨((h.1 c).1 10).trans ((dats m 0 c).arrAt_eq_of_cover 10 _ (fun t _ => flushed10 m c t) cover10), h.2 c⟩)
    (θ_run_and (run_main m ρ) (frame_of m ρ (dats m) (A_eq m) (run_main m ρ)))

end Cert.Kernel2Ideal.Hand

end
-- ==== Proof.Hand.Merge.Gates.lean ====
/- The gated sum of the branches over the extended reals: every entry is the reference's. -/
module

public import proofs.«01_k».proof.Proof.Hand.Merge.Frame
public import proofs.«01_k».proof.Proof.Gen.Reference2Ideal.Run
public import Idealize.ShloMosaic.Lib.Tactic.ValueTie

@[expose] public section

set_option maxRecDepth 16384

noncomputable section

namespace Cert.Kernel2Ideal.Hand

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The reference's gates, for every row, branch and column. -/
def refGates (P : FVec Ideal Cert.Reference2Ideal.S32768x28672 .bf16) : FVec Ideal Cert.Reference2Ideal.S32768x3x2048 .f32 :=
  (Host.divf (broadcastInDim Cert.Reference2Ideal.S32768x3x2048 ![] Cert.Reference2Ideal.Gen.bcast_S_S32768x3x2048 (constant Cert.Reference2Ideal.S_ .f32 0x3F800000#32)) (addf (broadcastInDim Cert.Reference2Ideal.S32768x3x2048 ![] Cert.Reference2Ideal.Gen.bcast_S_S32768x3x2048 (constant Cert.Reference2Ideal.S_ .f32 0x3F800000#32)) (Host.exp (Host.negf (shapeCast _ (extf .f32 (extractStridedSlice Cert.Reference2Ideal.S32768x6144 ![0, 22528] P Cert.Reference2Ideal.Gen.slices_S32768x28672_S32768x6144_0_22528) Cert.Reference2Ideal.Gen.bitsLt_bf16_f32) Cert.Reference2Ideal.Gen.shapeCasts_S32768x6144_S32768x3x2048)))))

/-- One branch's term of the reference's sum: its gate, as an array of rows, times its projected rows. -/
def refBranch0 (P : FVec Ideal Cert.Reference2Ideal.S32768x28672 .bf16) (Y : FVec Ideal Cert.Reference2Ideal.S32768x2048 .bf16) (W : FVec Ideal Cert.Reference2Ideal.S3x2048x2048 .bf16) : FVec Ideal Cert.Reference2Ideal.S32768x2048 .f32 :=
  mulf (shapeCast _ (extractStridedSlice Cert.Reference2Ideal.S32768x1x2048 ![0, 0, 0] (refGates P) Cert.Reference2Ideal.Gen.slices_S32768x3x2048_S32768x1x2048_0_0_0) Cert.Reference2Ideal.Gen.shapeCasts_S32768x1x2048_S32768x2048) (Host.dotGeneral Cert.Reference2Ideal.dot_S32768x2048_S2048x2048_S32768x2048_1_0_0_1_n_n none (extf .f32 Y Cert.Reference2Ideal.Gen.bitsLt_bf16_f32) (extf .f32 (shapeCast _ (extractStridedSlice Cert.Reference2Ideal.S1x2048x2048 ![0, 0, 0] W Cert.Reference2Ideal.Gen.slices_S3x2048x2048_S1x2048x2048_0_0_0) Cert.Reference2Ideal.Gen.shapeCasts_S1x2048x2048_S2048x2048) Cert.Reference2Ideal.Gen.bitsLt_bf16_f32))

/-- The second branch's term. -/
def refBranch1 (P : FVec Ideal Cert.Reference2Ideal.S32768x28672 .bf16) (Y : FVec Ideal Cert.Reference2Ideal.S32768x2048 .bf16) (W : FVec Ideal Cert.Reference2Ideal.S3x2048x2048 .bf16) : FVec Ideal Cert.Reference2Ideal.S32768x2048 .f32 :=
  mulf (shapeCast _ (extractStridedSlice Cert.Reference2Ideal.S32768x1x2048 ![0, 1, 0] (refGates P) Cert.Reference2Ideal.Gen.slices_S32768x3x2048_S32768x1x2048_0_1_0) Cert.Reference2Ideal.Gen.shapeCasts_S32768x1x2048_S32768x2048) (Host.dotGeneral Cert.Reference2Ideal.dot_S32768x2048_S2048x2048_S32768x2048_1_0_0_1_n_n none (extf .f32 Y Cert.Reference2Ideal.Gen.bitsLt_bf16_f32) (extf .f32 (shapeCast _ (extractStridedSlice Cert.Reference2Ideal.S1x2048x2048 ![1, 0, 0] W Cert.Reference2Ideal.Gen.slices_S3x2048x2048_S1x2048x2048_1_0_0) Cert.Reference2Ideal.Gen.shapeCasts_S1x2048x2048_S2048x2048) Cert.Reference2Ideal.Gen.bitsLt_bf16_f32))

/-- The third branch's term. -/
def refBranch2 (P : FVec Ideal Cert.Reference2Ideal.S32768x28672 .bf16) (Y : FVec Ideal Cert.Reference2Ideal.S32768x2048 .bf16) (W : FVec Ideal Cert.Reference2Ideal.S3x2048x2048 .bf16) : FVec Ideal Cert.Reference2Ideal.S32768x2048 .f32 :=
  mulf (shapeCast _ (extractStridedSlice Cert.Reference2Ideal.S32768x1x2048 ![0, 2, 0] (refGates P) Cert.Reference2Ideal.Gen.slices_S32768x3x2048_S32768x1x2048_0_2_0) Cert.Reference2Ideal.Gen.shapeCasts_S32768x1x2048_S32768x2048) (Host.dotGeneral Cert.Reference2Ideal.dot_S32768x2048_S2048x2048_S32768x2048_1_0_0_1_n_n none (extf .f32 Y Cert.Reference2Ideal.Gen.bitsLt_bf16_f32) (extf .f32 (shapeCast _ (extractStridedSlice Cert.Reference2Ideal.S1x2048x2048 ![2, 0, 0] W Cert.Reference2Ideal.Gen.slices_S3x2048x2048_S1x2048x2048_2_0_0) Cert.Reference2Ideal.Gen.shapeCasts_S1x2048x2048_S2048x2048) Cert.Reference2Ideal.Gen.bitsLt_bf16_f32))

/-- The reference's merged rows. -/
def refMerged (P : FVec Ideal Cert.Reference2Ideal.S32768x28672 .bf16) (Y0 Y1 Y2 : FVec Ideal Cert.Reference2Ideal.S32768x2048 .bf16) (W : FVec Ideal Cert.Reference2Ideal.S3x2048x2048 .bf16) : FVec Ideal Cert.Reference2Ideal.S32768x2048 .f32 :=
  addf (addf (refBranch0 P Y0 W) (refBranch1 P Y1 W)) (refBranch2 P Y2 W)

/-- An entry of the reference's gates: the sigmoid of its entry of the projections. -/
theorem refGates_entry (P : FVec Ideal Cert.Reference2Ideal.S32768x28672 .bf16) (n : Fin 32768) (b : Fin 3) (j : Fin 2048) (q : Fin 28672) (hq : q.val = 22528 + 2048 * b.val + j.val) :
    refGates P (ix3 n b j) = Ideal.div 1 (1 + Ideal.exp (0 - P (ix2 n q))) := by
  have hn := n.isLt
  have hb := b.isLt
  have hj := j.isLt
  unfold refGates
  pointwise
  rw [zero_sub]
  congr 5
  exact congrArg _ (Fin.ext (by show 22528 + (b.val * 2048 + j.val) = q.val; omega))

/-- An entry of the first branch's term. -/
theorem refBranch0_entry (P : FVec Ideal Cert.Reference2Ideal.S32768x28672 .bf16) (Y : FVec Ideal Cert.Reference2Ideal.S32768x2048 .bf16) (W : FVec Ideal Cert.Reference2Ideal.S3x2048x2048 .bf16) (n : Fin 32768) (j : Fin 2048) :
    refBranch0 P Y W (ix2 n j) = refGates P (ix3 n 0 j) * ∑ k : Fin 2048, Y (ix2 n k) * W (ix3 0 k j) := by
  unfold refBranch0
  pointwise

/-- An entry of the second branch's term. -/
theorem refBranch1_entry (P : FVec Ideal Cert.Reference2Ideal.S32768x28672 .bf16) (Y : FVec Ideal Cert.Reference2Ideal.S32768x2048 .bf16) (W : FVec Ideal Cert.Reference2Ideal.S3x2048x2048 .bf16) (n : Fin 32768) (j : Fin 2048) :
    refBranch1 P Y W (ix2 n j) = refGates P (ix3 n 1 j) * ∑ k : Fin 2048, Y (ix2 n k) * W (ix3 1 k j) := by
  unfold refBranch1
  pointwise

/-- An entry of the third branch's term. -/
theorem refBranch2_entry (P : FVec Ideal Cert.Reference2Ideal.S32768x28672 .bf16) (Y : FVec Ideal Cert.Reference2Ideal.S32768x2048 .bf16) (W : FVec Ideal Cert.Reference2Ideal.S3x2048x2048 .bf16) (n : Fin 32768) (j : Fin 2048) :
    refBranch2 P Y W (ix2 n j) = refGates P (ix3 n 2 j) * ∑ k : Fin 2048, Y (ix2 n k) * W (ix3 2 k j) := by
  unfold refBranch2
  pointwise

/-- An entry of the reference's merged rows. -/
theorem refMerged_entry (P : FVec Ideal Cert.Reference2Ideal.S32768x28672 .bf16) (Y0 Y1 Y2 : FVec Ideal Cert.Reference2Ideal.S32768x2048 .bf16) (W : FVec Ideal Cert.Reference2Ideal.S3x2048x2048 .bf16) (n : Fin 32768) (j : Fin 2048) :
    refMerged P Y0 Y1 Y2 W (ix2 n j) = refGates P (ix3 n 0 j) * (∑ k : Fin 2048, Y0 (ix2 n k) * W (ix3 0 k j)) + refGates P (ix3 n 1 j) * (∑ k : Fin 2048, Y1 (ix2 n k) * W (ix3 1 k j))
      + refGates P (ix3 n 2 j) * ∑ k : Fin 2048, Y2 (ix2 n k) * W (ix3 2 k j) := by
  rw [← refBranch0_entry, ← refBranch1_entry, ← refBranch2_entry]
  unfold refMerged
  pointwise

/-- An entry of the gated sum on one block. -/
theorem gatedSum_entry (x0 x1 x2 : Vec Ideal S512x2048 .bf16) (x3 : Vec Ideal S3x2048x256 .bf16) (x4 x5 x6 : Vec Ideal S512x256 .bf16) (a : Fin 512) (l : Fin 256) :
    gatedSum x0 x1 x2 x3 x4 x5 x6 (ix3 0 a l) = Ideal.div 1 (1 + Ideal.exp (0 - x4 (ix2 a l))) * (∑ k : Fin 2048, x0 (ix2 a k) * x3 (ix3 0 k l))
      + Ideal.div 1 (1 + Ideal.exp (0 - x5 (ix2 a l))) * (∑ k : Fin 2048, x1 (ix2 a k) * x3 (ix3 1 k l))
      + Ideal.div 1 (1 + Ideal.exp (0 - x6 (ix2 a l))) * ∑ k : Fin 2048, x2 (ix2 a k) * x3 (ix3 2 k l) := by
  unfold gatedSum k0_pay1 k0_pay4 k0_pay5 branchWeight
  pointwise

/-- An entry of the gated sum of row block `r` and column block `j` is that entry of the reference's merged rows. -/
theorem blockSum_entry (P : FVec Ideal Cert.Reference2Ideal.S32768x28672 .bf16) (Y0 Y1 Y2 : FVec Ideal Cert.Reference2Ideal.S32768x2048 .bf16) (W : FVec Ideal Cert.Reference2Ideal.S3x2048x2048 .bf16) (r j : ℕ) (a : Fin 512) (l : Fin 256)
    (n : Fin 32768) (q : Fin 2048) (hn : n.val = 512 * r + a.val) (hq : q.val = 256 * j + l.val) :
    (gatedSum (F := Ideal) (rowsOf Y0 r) (rowsOf Y1 r) (rowsOf Y2 r) (columnsOf W j) (gateOf P r (88 + j)) (gateOf P r (96 + j)) (gateOf P r (104 + j)) (ix3 0 a l) : EReal) = refMerged P Y0 Y1 Y2 W (ix2 n q) := by
  have hnl := n.isLt
  have hql := q.isLt
  have hl := l.isLt
  have rows : ∀ (Y : FVec Ideal Cert.Reference2Ideal.S32768x2048 .bf16) (k : Fin 2048), rowsOf (F := Ideal) (e := .bf16) Y r (ix2 a k) = Y (ix2 n k) := fun Y k => by
    unfold rowsOf
    congr 2; apply Fin.ext; show (512 * r + a.val) % 32768 = n.val; omega
  have cols : ∀ (b : Fin 3) (k : Fin 2048), columnsOf (F := Ideal) W j (ix3 b k l) = W (ix3 b k q) := fun b k => by
    unfold columnsOf
    congr 2; apply Fin.ext; show (256 * j + l.val) % 2048 = q.val; omega
  have gates : ∀ (b : Fin 3) (t : ℕ) (ht : t = 88 + 8 * b.val + j), Ideal.div 1 (1 + Ideal.exp (0 - gateOf (F := Ideal) P r t (ix2 a l))) = refGates P (ix3 n b q) := fun b t ht => by
    have hb := b.isLt
    rw [refGates_entry P n b q ⟨256 * t + l.val, by omega⟩ (by show 256 * t + l.val = _; omega)]
    unfold gateOf
    congr 6
    · apply Fin.ext; show (512 * r + a.val) % 32768 = n.val; omega
    · apply Fin.ext; show (256 * t + l.val) % 28672 = 256 * t + l.val; omega
  rw [gatedSum_entry, refMerged_entry, gates 0 (88 + j) rfl, gates 1 (96 + j) rfl, gates 2 (104 + j) rfl]
  simp only [rows, cols]

end Cert.Kernel2Ideal.Hand

end
-- ==== Proof.Hand.Merge.Equation.lean ====
/- The result over the extended reals: the eight blocks' products add up to the reference's inner product, and the rows are normalised alike. -/
module

public import proofs.«01_k».proof.Proof.Hand.Merge.Gates

@[expose] public section

set_option maxRecDepth 16384

noncomputable section

namespace Cert.Kernel2Ideal.Hand

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The reference's rows before the norm. -/
def refRows (X M : FVec Ideal Cert.Reference2Ideal.S32768x2048 .f32) (W : FVec Ideal Cert.Reference2Ideal.S2048x2048 .bf16) : FVec Ideal Cert.Reference2Ideal.S32768x2048 .f32 :=
  addf X (Host.dotGeneral Cert.Reference2Ideal.dot_S32768x2048_S2048x2048_S32768x2048_1_0_0_1_n_n none M (extf .f32 W Cert.Reference2Ideal.Gen.bitsLt_bf16_f32))

/-- The reference's norm of the rows, scaled by the weight. -/
def refNormed (X : FVec Ideal Cert.Reference2Ideal.S32768x2048 .f32) (g : FVec Ideal Cert.Reference2Ideal.S2048 .f32) : FVec Ideal Cert.Reference2Ideal.S32768x2048 .f32 :=
  mulf (mulf X (broadcastInDim Cert.Reference2Ideal.S32768x2048 ![0, 1] Cert.Reference2Ideal.Gen.bcast_S32768x1_S32768x2048_0_1 (Host.rsqrt (addf (Host.divf (broadcastInDim Cert.Reference2Ideal.S32768x1 ![0] Cert.Reference2Ideal.Gen.bcast_S32768_S32768x1_0 (Host.reduceAdd (mulf X X) (constant Cert.Reference2Ideal.S_ .f32 0x00000000#32) Cert.Reference2Ideal.Gen.reducesTo_S32768x2048_S32768_d1 Cert.Reference2Ideal.Gen.h_S_)) (broadcastInDim Cert.Reference2Ideal.S32768x1 ![] Cert.Reference2Ideal.Gen.bcast_S_S32768x1 (constant Cert.Reference2Ideal.S_ .f32 0x45000000#32))) (broadcastInDim Cert.Reference2Ideal.S32768x1 ![] Cert.Reference2Ideal.Gen.bcast_S_S32768x1 (constant Cert.Reference2Ideal.S_ .f32 0x358637BD#32))))))
    (broadcastInDim Cert.Reference2Ideal.S32768x2048 ![0, 1] Cert.Reference2Ideal.Gen.bcast_S1x2048_S32768x2048_0_1 (broadcastInDim Cert.Reference2Ideal.S1x2048 ![1] Cert.Reference2Ideal.Gen.bcast_S2048_S1x2048_1 g))

/-- An entry of the reference's rows. -/
theorem refRows_entry (X M : FVec Ideal Cert.Reference2Ideal.S32768x2048 .f32) (W : FVec Ideal Cert.Reference2Ideal.S2048x2048 .bf16) (n : Fin 32768) (l : Fin 2048) :
    refRows X M W (ix2 n l) = X (ix2 n l) + ∑ k : Fin 2048, M (ix2 n k) * W (ix2 k l) := by
  unfold refRows
  pointwise

/-- A sum over 2048 terms is the sum of its eight blocks of 256. -/
theorem sum_eight (f : Fin 2048 → EReal) :
    ∑ k : Fin 2048, f k = ∑ b : Fin 8, ∑ x : Fin 256, f ⟨256 * b.val + x.val, by omega⟩ := by
  rw [← Fintype.sum_prod_type' (f := fun (b : Fin 8) (x : Fin 256) => f ⟨256 * b.val + x.val, by omega⟩)]
  refine (Fintype.sum_equiv (finProdFinEquiv (m := 8) (n := 256)) _ _ fun p => ?_).symm
  congr 1
  apply Fin.ext
  show 256 * p.1.val + p.2.val = p.2.val + 256 * p.1.val
  omega

/-- The eight blocks' products, added to an entry of the input one after the other, are that entry of the reference's rows. -/
theorem rows_entry (d : Vec Ideal S8x512x256 .bf16) (X M : FVec Ideal Cert.Reference2Ideal.S32768x2048 .f32) (W : FVec Ideal Cert.Reference2Ideal.S2048x2048 .bf16) (a : Fin 512) (l : Fin 2048) (n : Fin 32768) (x : EReal) (hx : x = X (ix2 n l))
    (hd : ∀ (b : Fin 8) (z : Fin 256), d (ix3 b a z) = M (ix2 n ⟨256 * b.val + z.val, by omega⟩)) :
    x + (∑ x : Fin 256, slot d 0 (ix3 0 a x) * weightRows W 0 (ix2 x l)) + (∑ x : Fin 256, slot d 1 (ix3 0 a x) * weightRows W 1 (ix2 x l)) + (∑ x : Fin 256, slot d 2 (ix3 0 a x) * weightRows W 2 (ix2 x l)) + (∑ x : Fin 256, slot d 3 (ix3 0 a x) * weightRows W 3 (ix2 x l)) + (∑ x : Fin 256, slot d 4 (ix3 0 a x) * weightRows W 4 (ix2 x l)) + (∑ x : Fin 256, slot d 5 (ix3 0 a x) * weightRows W 5 (ix2 x l)) + (∑ x : Fin 256, slot d 6 (ix3 0 a x) * weightRows W 6 (ix2 x l)) + ∑ x : Fin 256, slot d 7 (ix3 0 a x) * weightRows W 7 (ix2 x l) = refRows X M W (ix2 n l) := by
  have part : ∀ b : Fin 8, (∑ z : Fin 256, slot d b (ix3 0 a z) * weightRows W b.val (ix2 z l)) = ∑ z : Fin 256, M (ix2 n ⟨256 * b.val + z.val, by omega⟩) * W (ix2 ⟨256 * b.val + z.val, by omega⟩ l) := fun b => by
    refine Finset.sum_congr rfl fun z _ => ?_
    have hz := z.isLt
    have hb := b.isLt
    have e : slot d b (ix3 0 a z) = d (ix3 b a z) := rfl
    rw [e, hd b z]
    unfold weightRows
    congr 3; apply Fin.ext; show (256 * b.val + z.val) % 2048 = 256 * b.val + z.val; omega
  rw [refRows_entry, sum_eight, Fin.sum_univ_eight]
  simp only [← part, hx, ← add_assoc]
  rfl

/-- An entry of the closing step is that entry of the reference's normalised rows. -/
theorem closing_entry (d : Vec Ideal S8x512x256 .bf16) (x7 : Vec Ideal S512x2048 .f32) (X M : FVec Ideal Cert.Reference2Ideal.S32768x2048 .f32) (W : FVec Ideal Cert.Reference2Ideal.S2048x2048 .bf16) (g : FVec Ideal Cert.Reference2Ideal.S2048 .f32) (g' : Vec Ideal S1x2048 .f32)
    (hg : ∀ k : Fin 2048, g' (ix2 0 k) = g (ix1 k)) (a : Fin 512) (l : Fin 2048) (n : Fin 32768) (hx : ∀ k : Fin 2048, x7 (ix2 a k) = X (ix2 n k))
    (hd : ∀ (b : Fin 8) (z : Fin 256), d (ix3 b a z) = M (ix2 n ⟨256 * b.val + z.val, by omega⟩)) :
    closing d x7 W g' (ix2 a l) = refNormed (refRows X M W) g (ix2 n l) := by
  have rows := fun k : Fin 2048 => rows_entry d X M W a k n _ (hx k) hd
  unfold closing k0_pay2 k0_pay3 refNormed
  pointwise
  simp only [rows, hg]

variable (m : (ℓ : Loc nD τ sig) → Buf (Elt Ideal) ℓ)

/-- The kernel's weight of the norm is the argument, as a row. -/
theorem weight_row (c : Dev nD) (k : Fin 2048) : (V m c main_v0 : Vec Ideal S1x2048 .f32) (ix2 0 k) = (m ((c.tc : Thread nD τ).loc main_arg7) : Vec Ideal S2048 .f32) (ix1 k) := by
  have e : (V m c main_v0 : Vec Ideal S1x2048 .f32) = shapeCast S1x2048 (m ((c.tc : Thread nD τ).loc main_arg7) : Vec Ideal S2048 .f32) shapeCasts_S2048_S1x2048 := by
    show StableHlo.after hostOps0 (fun b => m (c, b)) main_v0 = _
    after_results
    rfl
  rw [e]
  pointwise

/-- The result is the reference's. -/
theorem result_eq (c : Dev nD) : outR m c = refNormed (refRows (m ((c.tc : Thread nD τ).loc main_arg5))
    (refMerged (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)))
    (m ((c.tc : Thread nD τ).loc main_arg6))) (m ((c.tc : Thread nD τ).loc main_arg7)) := by
  funext i
  have h0 : (i 0).val < 32768 := (i 0).isLt
  have hi : i = ix2 (i 0) (i 1) := by funext a; match a with | ⟨0, _⟩ => rfl | ⟨1, _⟩ => rfl
  conv_rhs => rw [hi]
  unfold outR result
  rw [V_main_arg5, V_main_arg6]
  refine closing_entry _ _ _ _ _ _ _ (weight_row m c) _ (i 1) (i 0) (fun k => ?_) (fun b z => ?_)
  · unfold rowsOf
    congr 2; apply Fin.ext; show (512 * ((i 0).val / 512) + (i 0).val % 512) % 32768 = (i 0).val; omega
  · unfold merged sumAt
    rw [V_main_arg0, V_main_arg1, V_main_arg2, V_main_arg3, V_main_arg4]
    exact blockSum_entry _ _ _ _ _ _ b.val _ z (i 0) _ (by show _ = 512 * ((i 0).val / 512) + (i 0).val % 512; omega) rfl

end Cert.Kernel2Ideal.Hand

end
-- ==== Proof.Hand.MemKV.Rows.lean ====
/- The row normalisation of the memory's projection: the block of 1024 normalised rows as a function of the input block and the weight, and what the loop over its eight tiles of 128 rows leaves in the scratch. -/
module

public import proofs.«01_k».proof.Proof.Gen.Kernel3Ideal.Frame
public import proofs.«01_k».proof.Proof.Gen.Kernel3Ideal.Loops
public import proofs.«01_k».proof.Proof.Gen.Kernel3Ideal.Skeleton
public import Idealize.ShloMosaic.Lib.WholeRead
public import Idealize.ShloMosaic.Lib.WritesUnit
public import Idealize.ShloMosaic.Lib.Pointwise.Index

@[expose] public section

set_option maxRecDepth 16384

noncomputable section

namespace Cert.Kernel3Ideal.Hand

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Rows `128 r` to `128 r + 127` of a block of 1024 rows. -/
def tileRows (X : Vec F S1024x2048 .f32) (r : ℕ) : Vec F S128x2048 .f32 :=
  fun z => X (ix2 ⟨(128 * r + (z 0).val) % 1024, Nat.mod_lt _ (by decide)⟩ (z 1))

/-- The block of normalised rows: each tile of 128 rows normalised and scaled by the weight, the tiles one under another. -/
def normRows (x0 : Vec F S1024x2048 .f32) (x1 : Vec F S1x2048 .f32) : Vec F S1024x2048 .bf16 :=
  fun y => k0_pay1 (tileRows x0 ((y 0).val / 128)) x1 (ix2 ⟨(y 0).val % 128, Nat.mod_lt _ (by decide)⟩ (y 1))

/-- One trip of the loop writes one tile of normalised rows. -/
theorem trip_eq (𝒱 : Variants) (c : Dev nD) (bd : Option 𝒱.V) (i : grid0.Coords) (arg2 : Memref sig .tc .vmem S1024x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S1024x1024 .bf16) (harg5 : arg5.IsWhole) (arg6 : Memref sig .tc .vmem S1024x2048 .bf16) (harg6 : arg6.IsWhole) (k0_h1 : k0_cond1 i = 1#1)
    (X2 : BufTy.Contents (Elt F) arg2.view.ty) (X3 : BufTy.Contents (Elt F) arg3.view.ty) (k : Fin k0_t1_loop.trips) :
    tripL_k0_t1 (F := F) 𝒱 c bd i arg2 harg2 arg3 harg3 arg4 harg4 arg5 harg5 arg6 harg6 k0_h1 X2 X3 k
      = [⟨Rect.unit (s := S1024x2048) (k0_off1 k) S128x2048.size (k0_off1_inb i k k0_h1),
          k0_pay1 (View.readAt (Elt F) arg2.view (Rect.unit (s := S1024x2048) (k0_off1 k) S128x2048.size (k0_off1_inb i k k0_h1)).toLoadRect X2)
            (View.readAt (Elt F) arg3.view (Rect.unit (s := S1x2048) ![0, 0] S1x2048.size inb_S1x2048_S1x2048_0_0).toLoadRect X3)⟩] := by
  unfold tripL_k0_t1 trip_k0_t1
  rfl

/-- A load of one tile's rows of the input block. -/
theorem load_rows (i : grid0.Coords) (arg2 : Memref sig .tc .vmem S1024x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S1024x1024 .bf16) (harg5 : arg5.IsWhole) (arg6 : Memref sig .tc .vmem S1024x2048 .bf16) (harg6 : arg6.IsWhole) (k0_h1 : k0_cond1 i = 1#1) (x0 : Vec F S1024x2048 .f32) (k : Fin k0_t1_loop.trips) :
    View.readAt (Elt F) arg2.view (Rect.unit (s := S1024x2048) (k0_off1 k) S128x2048.size (k0_off1_inb i k k0_h1)).toLoadRect (harg2.unread x0)
      = tileRows x0 k.val := by
  have hk : k.val < 8 := Nat.lt_of_lt_of_le k.isLt k0_t1_abs.2.1
  funext z
  rw [harg2.readAt_unread]
  unfold tileRows
  congr 1
  have h0 : (z 0).val < 128 := (z 0).isLt
  funext a
  apply Fin.ext
  match a with
  | ⟨0, _⟩ =>
    show k0_off1 k 0 + 1 * (z 0).val = (128 * k.val + (z 0).val) % 1024
    have e0 : k0_off1 k 0 = 128 * k.val := congrFun (k0_off1_eq k) 0
    omega
  | ⟨1, _⟩ =>
    show k0_off1 k 1 + 1 * (z 1).val = (z 1).val
    have e1 : k0_off1 k 1 = 0 := congrFun (k0_off1_eq k) 1
    omega

/-- A load of a whole buffer that reads `X` is `X`. -/
theorem load_whole {s : Shape} {e : EltTy} (M : Memref sig .tc .vmem s e) (hM : M.IsWhole) (X : Vec F s e) (off : Fin s.rank → ℕ) (ho : ∀ a, off a = 0)
    (inb : ∀ a, off a + s.size a ≤ s.size a) :
    View.readAt (Elt F) M.view (Rect.unit off s.size inb).toLoadRect (hM.unread X) = X := by
  funext z
  rw [hM.readAt_unread]
  congr 1
  funext a
  apply Fin.ext
  show off a + 1 * (z a).val = (z a).val
  rw [ho]; omega

/-- A buffer whose whole was just stored holds what was stored. -/
theorem stored_whole {s : Shape} {e : EltTy} (M : Memref sig .tc .vmem s e) (hM : M.IsWhole) (f) (off : Fin s.rank → ℕ) (ho : ∀ a, off a = 0)
    (inb : ∀ a, off a + s.size a ≤ s.size a) (w : s.Idx → Elt F e) :
    M.view.writes (Elt F) f [⟨Rect.unit off s.size inb, w⟩] = hM.unread w :=
  hM.eq_unread (funext fun y => View.read_writes_cons_hit_of_coords M.view f (Rect.unit off s.size inb) w [] y y
    (fun a => by show (y a).val = off a + 1 * (y a).val; rw [ho]; omega))

theorem origin2 : ∀ a : Fin 2, (![0, 0] : Fin 2 → ℕ) a = 0 := by decide

/-- After the first `n` trips the scratch reads the normalised rows on its first `n` tiles. -/
theorem rows_read (𝒱 : Variants) (c : Dev nD) (bd : Option 𝒱.V) (i : grid0.Coords) (arg2 : Memref sig .tc .vmem S1024x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S1024x1024 .bf16) (harg5 : arg5.IsWhole) (arg6 : Memref sig .tc .vmem S1024x2048 .bf16) (harg6 : arg6.IsWhole) (k0_h1 : k0_cond1 i = 1#1)
    (x0 : Vec F S1024x2048 .f32) (x1 : Vec F S1x2048 .f32) (f : BufTy.Contents (Elt F) arg6.view.ty) :
    ∀ (n : ℕ) (hn : n ≤ 8) (y : S1024x2048.Idx), (y 0).val < 128 * n →
      arg6.view.read (Elt F) (arg6.view.writes (Elt F) f (pb_k0_t1 (F := F) 𝒱 c bd i arg2 harg2 arg3 harg3 arg4 harg4 arg5 harg5 arg6 harg6 k0_h1 (harg2.unread x0) (harg3.unread x1) n)) y
        = normRows x0 x1 y
  | 0, _, y, hy => absurd hy (Nat.not_lt_zero _)
  | n + 1, hn, y, hy => by
    have ht : k0_t1_loop.trips = 8 := by decide
    have hk : n < k0_t1_loop.trips := by omega
    have e := pb_k0_t1_succ (F := F) 𝒱 c bd i arg2 harg2 arg3 harg3 arg4 harg4 arg5 harg5 arg6 harg6 k0_h1 (harg2.unread x0) (harg3.unread x1) ⟨n, hk⟩
    dsimp only at e
    rw [e, trip_eq, List.singleton_append, load_rows (F := F) i arg2 harg2 arg3 harg3 arg4 harg4 arg5 harg5 arg6 harg6 k0_h1 x0 ⟨n, hk⟩, load_whole arg3 harg3 x1 _ origin2]
    by_cases hlt : (y 0).val < 128 * n
    · rw [View.read_writes_cons_rows_of_not_mem (o := 128 * n) (W := 128) arg6.view f _ _ _ y (k0_off1_eq ⟨n, hk⟩) rfl (.inl hlt)]
      exact rows_read 𝒱 c bd i arg2 harg2 arg3 harg3 arg4 harg4 arg5 harg5 arg6 harg6 k0_h1 x0 x1 f n (by omega) y hlt
    · have hd : (y 0).val / 128 = n := by omega
      have e0 : k0_off1 ⟨n, hk⟩ 0 = 128 * n := congrFun (k0_off1_eq ⟨n, hk⟩) 0
      have e1 : k0_off1 ⟨n, hk⟩ 1 = 0 := congrFun (k0_off1_eq ⟨n, hk⟩) 1
      refine (View.read_writes_cons_hit_of_coords arg6.view f _ _ _ (ix2 ⟨(y 0).val % 128, Nat.mod_lt _ (by decide)⟩ (y 1)) y (fun a => ?_)).trans ?_
      · match a with
        | ⟨0, _⟩ => show (y 0).val = k0_off1 ⟨n, hk⟩ 0 + 1 * ((y 0).val % 128); omega
        | ⟨1, _⟩ => show (y 1).val = k0_off1 ⟨n, hk⟩ 1 + 1 * (y 1).val; omega
      unfold normRows
      rw [hd]; rfl

/-- After the loop the scratch holds the block of normalised rows. -/
theorem rows_written (𝒱 : Variants) (c : Dev nD) (bd : Option 𝒱.V) (i : grid0.Coords) (arg2 : Memref sig .tc .vmem S1024x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S1024x1024 .bf16) (harg5 : arg5.IsWhole) (arg6 : Memref sig .tc .vmem S1024x2048 .bf16) (harg6 : arg6.IsWhole) (k0_h1 : k0_cond1 i = 1#1)
    (x0 : Vec F S1024x2048 .f32) (x1 : Vec F S1x2048 .f32) (f : BufTy.Contents (Elt F) arg6.view.ty) (n : ℕ) (hn : n = 8) :
    arg6.view.writes (Elt F) f (pb_k0_t1 (F := F) 𝒱 c bd i arg2 harg2 arg3 harg3 arg4 harg4 arg5 harg5 arg6 harg6 k0_h1 (harg2.unread x0) (harg3.unread x1) n)
      = harg6.unread (normRows x0 x1) :=
  harg6.eq_unread (funext fun y => by
    subst hn
    exact rows_read 𝒱 c bd i arg2 harg2 arg3 harg3 arg4 harg4 arg5 harg5 arg6 harg6 k0_h1 x0 x1 f 8 (Nat.le_refl _) y (show (y 0).val < 128 * 8 from (y 0).isLt))

end Cert.Kernel3Ideal.Hand

end
-- ==== Proof.Hand.MemKV.Runs.lean ====
/- The body of the memory's projection at a grid point, as triples: at the first column block of a row block it normalises the rows and stores the first column block; at the others it uses the rows the scratch still holds. -/
module

public import proofs.«01_k».proof.Proof.Hand.MemKV.Rows
public import Idealize.ShloMosaic.Lib.Ring
public import Idealize.ShloMosaic.Lib.Tactic

@[expose] public section

set_option maxRecDepth 16384

noncomputable section

namespace Cert.Kernel3Ideal.Hand

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's branch: taken where the column coordinate of the grid point is 0. -/
abbrev cond0_0 (i : grid0.Coords) : Prop := k0_cond1 i = 1#1
/-- It is taken at the points that are multiples of 4. -/
theorem hcond0_0 : ∀ t : Fin cfg0.N, cond0_0 (grid0.coords t) ↔ t.val % 4 = 0 :=
  (fun t => by
    have ht : t.val < 8 := Nat.lt_of_lt_of_eq t.isLt N_0
    have e0 : (grid0.coords t 0).val = t.val / 4 % 2 := Pipeline.Grid.coords_val t 0 (by decide) rfl
    have e1 : (grid0.coords t 1).val = t.val / 1 % 4 := Pipeline.Grid.coords_val t 1 (by decide) rfl
    simp only [cond0_0, k0_cond1, e0, e1]
    word_cmp
   : ∀ t : Fin grid0.N, cond0_0 (grid0.coords t) ↔ t.val % 4 = 0)

/-- Each window's current staging memref at point `t`, spelled as the pipeline passes it (`bodyAt0`), and its wholeness. -/
abbrev ms0_0 (t : Fin cfg0.N) : Memref sig .tc .vmem S1024x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2048x1024 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x1024 .bf16 := win0_3.stage (cfg0.slots t 3)
abbrev hs0_3 (t : Fin cfg0.N) : (ms0_3 t).IsWhole := hstage0_3 ((cfg0.slots t 3).cast nbuf0_3)
/-- The scratch operands: whole scoped buffers of the kernel's own, passed beside the windows. -/
abbrev scM0_0 : Memref sig .tc .vmem S1024x2048 .bf16 := Memref.whole cc0_scratch0

/-- The invariant the launch hands over, the scratch as a memref owned at some contents. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

set_option maxHeartbeats 1000000 in
/-- The body at a first column block: the scratch ends at the normalised rows, the block of results at their product with the
    block of the weight. -/
theorem run_first (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S1024x1024 .bf16) (harg5 : arg5.IsWhole) (arg6 : Memref sig .tc .vmem S1024x2048 .bf16) (harg6 : arg6.IsWhole) (hc0 : cond0_0 i)
    (x0 : Vec F S1024x2048 .f32) (x1 : Vec F S1x2048 .f32) (x2 : Vec F S2048x1024 .bf16) (E : Set ℕ) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d)
        ∗ (iprop(owns (c : Thread nD τ) arg2 fullShare x0 ∗ owns (c : Thread nD τ) arg3 fullShare x1 ∗ owns (c : Thread nD τ) arg4 fullShare x2 ∗ owns (c : Thread nD τ) arg5 fullShare (k0_pay2 (normRows x0 x1) x2) ∗ owns (c : Thread nD τ) arg6 fullShare (normRows x0 x1)) -∗ K ⟨⟩))
      ⊢ wp frame (wpE (defs₀ (F := F)) Variants.none c none) E (cc0__mem_kv_kernel i arg2 harg2 arg3 harg3 arg4 harg4 arg5 harg5 arg6 harg6) K := by
    simp only [cc0__mem_kv_kernel_eq_skeleton]; unfold cc0__mem_kv_kernel_skel
    unfold owns
    iintro ⟨⟨%f0, %hf0, H0⟩, ⟨%f1, %hf1, H1⟩, ⟨%f2, %hf2, H2⟩, ⟨%d4, %f4, -, H4⟩, ⟨%ds0, %fs0, -, HS0⟩, Hk⟩
    obtain rfl := harg2.eq_unread hf0; obtain rfl := harg3.eq_unread hf1; obtain rfl := harg4.eq_unread hf2
    set_option sl_exec.maxSteps 2 in sl_exec (disch := first | sl_exact hc0)
    rw [rows_written _ _ _ _ _ _ _ _ _ _ _ _ _ _ _ _ _ _ _ (by decide)]
    sl_exec
    sl_step
    rw [stored_whole arg5 harg5 _ _ origin2, load_whole arg4 harg4 _ _ origin2]
    unfold run_first.sl.v3
    rw [rows_written _ _ _ _ _ _ _ _ _ _ _ _ _ _ _ _ _ _ _ (by decide), load_whole arg6 harg6 _ _ origin2]
    iapply Hk
    isplitl [H0]
    · iexists _; isplitr; swap; · iexact H0
      ipureintro; exact harg2.read_unread _
    isplitl [H1]
    · iexists _; isplitr; swap; · iexact H1
      ipureintro; exact harg3.read_unread _
    isplitl [H2]
    · iexists _; isplitr; swap; · iexact H2
      ipureintro; exact harg4.read_unread _
    isplitl [H4]
    · iexists _; isplitr; swap; · iexact H4
      ipureintro; exact harg5.read_unread _
    iexists _; isplitr; swap; · iexact HS0
    ipureintro; exact harg6.read_unread _

set_option maxHeartbeats 1000000 in
/-- The body at a later column block: the scratch stays, the block of results ends at the product of its rows with the block of
    the weight. -/
theorem run_later (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S1024x1024 .bf16) (harg5 : arg5.IsWhole) (arg6 : Memref sig .tc .vmem S1024x2048 .bf16) (harg6 : arg6.IsWhole) (hc0 : ¬cond0_0 i)
    (x0 : Vec F S1024x2048 .f32) (x1 : Vec F S1x2048 .f32) (x2 : Vec F S2048x1024 .bf16) (xn : Vec F S1024x2048 .bf16) (E : Set ℕ) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xn
        ∗ (iprop(owns (c : Thread nD τ) arg2 fullShare x0 ∗ owns (c : Thread nD τ) arg3 fullShare x1 ∗ owns (c : Thread nD τ) arg4 fullShare x2 ∗ owns (c : Thread nD τ) arg5 fullShare (k0_pay2 xn x2) ∗ owns (c : Thread nD τ) arg6 fullShare xn) -∗ K ⟨⟩))
      ⊢ wp frame (wpE (defs₀ (F := F)) Variants.none c none) E (cc0__mem_kv_kernel i arg2 harg2 arg3 harg3 arg4 harg4 arg5 harg5 arg6 harg6) K := by
    simp only [cc0__mem_kv_kernel_eq_skeleton]; unfold cc0__mem_kv_kernel_skel
    unfold owns
    iintro ⟨⟨%f0, %hf0, H0⟩, ⟨%f1, %hf1, H1⟩, ⟨%f2, %hf2, H2⟩, ⟨%d4, %f4, -, H4⟩, ⟨%fs0, %hfs0, HS0⟩, Hk⟩
    obtain rfl := harg2.eq_unread hf0; obtain rfl := harg3.eq_unread hf1; obtain rfl := harg4.eq_unread hf2
    obtain rfl := harg6.eq_unread hfs0
    sl_exec (disch := first | sl_exact hc0)
    sl_step
    rw [stored_whole arg5 harg5 _ _ origin2, load_whole arg6 harg6 _ _ origin2, load_whole arg4 harg4 _ _ origin2]
    iapply Hk
    isplitl [H0]
    · iexists _; isplitr; swap; · iexact H0
      ipureintro; exact harg2.read_unread _
    isplitl [H1]
    · iexists _; isplitr; swap; · iexact H1
      ipureintro; exact harg3.read_unread _
    isplitl [H2]
    · iexists _; isplitr; swap; · iexact H2
      ipureintro; exact harg4.read_unread _
    isplitl [H4]
    · iexists _; isplitr; swap; · iexact H4
      ipureintro; exact harg5.read_unread _
    iexists _; isplitr; swap; · iexact HS0
    ipureintro; exact harg6.read_unread _

end Cert.Kernel3Ideal.Hand

end
-- ==== Proof.Hand.MemKV.Blocks.lean ====
/- The windows of the memory projection: which part of its array each input window holds at a grid point. -/
module

public import proofs.«01_k».proof.Proof.Hand.MemKV.Runs

@[expose] public section

set_option maxRecDepth 16384

noncomputable section

namespace Cert.Kernel3Ideal.Hand

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Rows `1024 r` to `1024 r + 1023` of the memory. -/
def rowBlock (X : Vec F S2048x2048 .f32) (r : ℕ) : Vec F S1024x2048 .f32 :=
  fun y => X (ix2 ⟨(1024 * r + (y 0).val) % 2048, Nat.mod_lt _ (by decide)⟩ (y 1))

/-- Columns `1024 j` to `1024 j + 1023` of the weight. -/
def colBlock (W : Vec F S2048x4096 .bf16) (j : ℕ) : Vec F S2048x1024 .bf16 :=
  fun y => W (ix2 (y 0) ⟨(1024 * j + (y 1).val) % 4096, Nat.mod_lt _ (by decide)⟩)

theorem index0 : ∀ t : Fin cfg0.N, win0_0.index t = ![t.val / 4, 0] :=
  (by decide +kernel : ∀ t : Fin grid0.N, win0_0.index t = ![t.val / 4, 0])
theorem index1 : ∀ t : Fin cfg0.N, win0_1.index t = ![0, 0] :=
  (by decide +kernel : ∀ t : Fin grid0.N, win0_1.index t = ![0, 0])
theorem index2 : ∀ t : Fin cfg0.N, win0_2.index t = ![0, t.val % 4] :=
  (by decide +kernel : ∀ t : Fin grid0.N, win0_2.index t = ![0, t.val % 4])
theorem index3 : ∀ t : Fin cfg0.N, win0_3.index t = ![t.val / 4, t.val % 4] :=
  (by decide +kernel : ∀ t : Fin grid0.N, win0_3.index t = ![t.val / 4, t.val % 4])

/-- Window 0 holds the point's row block of the memory. -/
theorem block0 (c : Dev nD) (t : Fin cfg0.N) : (iblk m c 0 t : Vec F S1024x2048 .f32) = rowBlock (V m c main_arg0) (t.val / 4) := by
  have ht : t.val < 8 := Nat.lt_of_lt_of_eq t.isLt N_0
  funext y
  have h0 : (y 0).val < 1024 := (y 0).isLt
  have i0 : win0_0.index t (0 : Fin 2) = t.val / 4 := congrFun (index0 t) 0
  have i1 : win0_0.index t (1 : Fin 2) = 0 := congrFun (index0 t) 1
  show V m c main_arg0 (((cfg0.win 0).blk t).view.emb y) = V m c main_arg0 _
  congr 1
  funext a; apply Fin.ext
  match a with
  | ⟨0, _⟩ => show win0_0.index t (0 : Fin 2) * 1024 + 1 * (y 0).val = (1024 * (t.val / 4) + (y 0).val) % 2048; rw [i0]; omega
  | ⟨1, _⟩ => show win0_0.index t (1 : Fin 2) * 2048 + 1 * (y 1).val = (y 1).val; rw [i1]; omega

/-- Window 1 holds the norm's weight. -/
theorem block1 (c : Dev nD) (t : Fin cfg0.N) : (iblk m c 1 t : Vec F S1x2048 .f32) = V m c main_v0 := by
  funext y
  have i0 : win0_1.index t (0 : Fin 2) = 0 := congrFun (index1 t) 0
  have i1 : win0_1.index t (1 : Fin 2) = 0 := congrFun (index1 t) 1
  show V m c main_v0 (((cfg0.win 1).blk t).view.emb y) = V m c main_v0 _
  congr 1
  funext a; apply Fin.ext
  match a with
  | ⟨0, _⟩ => show win0_1.index t (0 : Fin 2) * 1 + 1 * (y 0).val = (y 0).val; rw [i0]; omega
  | ⟨1, _⟩ => show win0_1.index t (1 : Fin 2) * 2048 + 1 * (y 1).val = (y 1).val; rw [i1]; omega

/-- Window 2 holds the point's column block of the weight. -/
theorem block2 (c : Dev nD) (t : Fin cfg0.N) : (iblk m c 2 t : Vec F S2048x1024 .bf16) = colBlock (V m c main_arg2) (t.val % 4) := by
  have ht : t.val < 8 := Nat.lt_of_lt_of_eq t.isLt N_0
  funext y
  have h1 : (y 1).val < 1024 := (y 1).isLt
  have i0 : win0_2.index t (0 : Fin 2) = 0 := congrFun (index2 t) 0
  have i1 : win0_2.index t (1 : Fin 2) = t.val % 4 := congrFun (index2 t) 1
  show V m c main_arg2 (((cfg0.win 2).blk t).view.emb y) = V m c main_arg2 _
  congr 1
  funext a; apply Fin.ext
  match a with
  | ⟨0, _⟩ => show win0_2.index t (0 : Fin 2) * 2048 + 1 * (y 0).val = (y 0).val; rw [i0]; omega
  | ⟨1, _⟩ => show win0_2.index t (1 : Fin 2) * 1024 + 1 * (y 1).val = (1024 * (t.val % 4) + (y 1).val) % 4096; rw [i1]; omega

end Cert.Kernel3Ideal.Hand

end
-- ==== Proof.Hand.MemKV.Frame.lean ====
/- The memory's projection run over its grid: at each point the output's buffer and the scratch hold the stated functions of the input arrays; so every execution ends with the arguments unchanged and the results block by block at these functions. -/
module

public import proofs.«01_k».proof.Proof.Hand.MemKV.Blocks
public import Idealize.ShloMosaic.Lib.Pipeline.FrameBody
public import Idealize.ShloMosaic.Lib.Pipeline.TableIdle
public import Idealize.ShloMosaic.Lib.Claim

@[expose] public section

set_option maxRecDepth 16384

noncomputable section

namespace Cert.Kernel3Ideal.Hand

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The normalised rows of row block `r`. -/
def norms (c : Dev nD) (r : ℕ) : Vec F S1024x2048 .bf16 := normRows (rowBlock (V m c main_arg0) r) (V m c main_v0)
/-- The results of row block `r` in column block `j`. -/
def projs (c : Dev nD) (r j : ℕ) : Vec F S1024x1024 .bf16 := k0_pay2 (norms m c r) (colBlock (V m c main_arg2) j)

/-- Between the points the scratch holds the normalised rows of the row block of the point before. -/
def Inv (c : Dev nD) : (n : ℕ) → sProp 𝕄
  | 0 => Pipeline.ΦA spec0 c
  | n + 1 => iprop(owns (c : Thread nD τ) scM0_0 fullShare (norms m c (n / 4)) ∗ (∃ r, prngReg c r))

theorem Inv_pos (c : Dev nD) (n : ℕ) (hz : n ≠ 0) :
    Inv m c n = iprop(owns (c : Thread nD τ) scM0_0 fullShare (norms m c ((n - 1) / 4)) ∗ (∃ r, prngReg c r)) := by
  cases n with
  | zero => exact absurd rfl hz
  | succ n => rfl

/-- What each buffer holds after the body at a point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => projs m c (t.val / 4) (t.val % 4)
  Φ t := Inv m c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = projs m c (t.val / 4) (t.val % 4) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
/-- What the body is given at a point, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t))

set_option maxHeartbeats 3200000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl,
    after0_0, after0_1, after0_2, after0_3]
  rw [show (dats m 0 c).Φ t.succ = Inv m c (t.val + 1) from rfl, show (dats m 0 c).Φ t.castSucc = Inv m c t.val from rfl]
  rw [show Inv m c (t.val + 1) = iprop(owns (c : Thread nD τ) scM0_0 fullShare (norms m c (t.val / 4)) ∗ (∃ r, prngReg c r)) from rfl]
  by_cases h0 : t.val % 4 = 0
  · have hgo : iprop((∃ d, owns (c : Thread nD τ) scM0_0 fullShare d) ∗ (∃ r, prngReg c r) ∗ (dats m 0 c).owesAt () t.castSucc
    ∗ owns (c : Thread nD τ) (ms0_0 t) fullShare (iblk m c 0 t)
    ∗ owns (c : Thread nD τ) (ms0_1 t) fullShare (iblk m c 1 t)
    ∗ owns (c : Thread nD τ) (ms0_2 t) fullShare (iblk m c 2 t)
    ∗ (∃ d, owns (c : Thread nD τ) (ms0_3 t) fullShare d))
        ⊢ wp frame (wpE (defs₀ (F := F)) Variants.none c none) Set.univ (cc0__mem_kv_kernel (grid0.coords t) (ms0_0 t) (hs0_0 t) (ms0_1 t) (hs0_1 t) (ms0_2 t) (hs0_2 t) (ms0_3 t) (hs0_3 t) scM0_0 (Memref.isWhole_whole _))
          (fun _ => iprop((owns (c : Thread nD τ) scM0_0 fullShare (norms m c (t.val / 4)) ∗ (∃ r, prngReg c r)) ∗ (dats m 0 c).owesAt () t.castSucc
    ∗ owns (c : Thread nD τ) (ms0_0 t) fullShare (iblk m c 0 t)
    ∗ owns (c : Thread nD τ) (ms0_1 t) fullShare (iblk m c 1 t)
    ∗ owns (c : Thread nD τ) (ms0_2 t) fullShare (iblk m c 2 t)
    ∗ owns (c : Thread nD τ) (ms0_3 t) fullShare (projs m c (t.val / 4) (t.val % 4)))) := by
      iintro ⟨HS0, Hg, Ho, H0, H1, H2, H3⟩
      iapply (run_first c (grid0.coords t) _ _ _ _ _ _ _ _ _ _ ((hcond0_0 t).mpr h0) (iblk m c 0 t) (iblk m c 1 t) (iblk m c 2 t) Set.univ _)
      isplitl [H0]; · iexact H0
      isplitl [H1]; · iexact H1
      isplitl [H2]; · iexact H2
      isplitl [H3]; · iexact H3
      isplitl [HS0]; · iexact HS0
      iintro ⟨H0, H1, H2, H3, HS0⟩
      rw [show normRows (iblk m c 0 t) (iblk m c 1 t) = norms m c (t.val / 4) from by rw [block0, block1]; rfl,
        show k0_pay2 (norms m c (t.val / 4)) (iblk m c 2 t) = projs m c (t.val / 4) (t.val % 4) from by rw [block2]; rfl]
      isplitl [HS0 Hg]
      · isplitl [HS0]; · iexact HS0
        iexact Hg
      isplitl [Ho]; · iexact Ho
      isplitl [H0]; · iexact H0
      isplitl [H1]; · iexact H1
      isplitl [H2]; · iexact H2
      iexact H3
    refine Idealize.SL.BI.Entails.trans (show (_ : sProp 𝕄) ⊢ _ from ?_) hgo
    by_cases hz : t.val = 0
    · rw [show Inv m c t.val = Pipeline.ΦA spec0 c from by rw [hz]; rfl, PhiA0_eq]
      iintro ⟨⟨HS0, Hg⟩, Ho, ⟨%d0, H0⟩, ⟨%d1, H1⟩, ⟨%d2, H2⟩, ⟨%d3, H3⟩⟩
      isplitl [HS0]; · iexact HS0
      isplitl [Hg]; · iexact Hg
      isplitl [Ho]; · iexact Ho
      isplitl [H0]; · iexact H0
      isplitl [H1]; · iexact H1
      isplitl [H2]; · iexact H2
      iexists _; iexact H3
    · rw [Inv_pos m c _ hz]
      iintro ⟨⟨HS0, Hg⟩, Ho, ⟨%d0, H0⟩, ⟨%d1, H1⟩, ⟨%d2, H2⟩, ⟨%d3, H3⟩⟩
      isplitl [HS0]; · iexists _; iexact HS0
      isplitl [Hg]; · iexact Hg
      isplitl [Ho]; · iexact Ho
      isplitl [H0]; · iexact H0
      isplitl [H1]; · iexact H1
      isplitl [H2]; · iexact H2
      iexists _; iexact H3
  · have hz : t.val ≠ 0 := fun e => h0 (by rw [e])
    rw [Inv_pos m c _ hz, show (t.val - 1) / 4 = t.val / 4 from by omega]
    iintro ⟨⟨HS0, Hg⟩, Ho, ⟨%d0, H0⟩, ⟨%d1, H1⟩, ⟨%d2, H2⟩, ⟨%d3, H3⟩⟩
    iapply (run_later c (grid0.coords t) _ _ _ _ _ _ _ _ _ _ (fun h => h0 ((hcond0_0 t).mp h)) (iblk m c 0 t) (iblk m c 1 t) (iblk m c 2 t) (norms m c (t.val / 4)) Set.univ _)
    isplitl [H0]; · iexact H0
    isplitl [H1]; · iexact H1
    isplitl [H2]; · iexact H2
    isplitl [H3]; · iexists _; iexact H3
    isplitl [HS0]; · iexact HS0
    iintro ⟨H0, H1, H2, H3, HS0⟩
    rw [show k0_pay2 (norms m c (t.val / 4)) (iblk m c 2 t) = projs m c (t.val / 4) (t.val % 4) from by rw [block2]; rfl]
    isplitl [HS0 Hg]
    · isplitl [HS0]; · iexact HS0
      iexact Hg
    isplitl [Ho]; · iexact Ho
    isplitl [H0]; · iexact H0
    isplitl [H1]; · iexact H1
    isplitl [H2]; · iexact H2
    iexact H3

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = Pipeline.ΦA spec0 c from rfl]

theorem hout (c : Dev nD) : (dats m 0 c).Φ (Fin.last cfg0.N) ⊢ Pipeline.ΦA spec0 c := by
  rw [show (dats m 0 c).Φ (Fin.last cfg0.N) = Inv m c (Fin.last cfg0.N).val from rfl,
    Inv_pos m c _ (by rw [Fin.val_last]; have : cfg0.N = 8 := N_0; omega), PhiA0_eq]
  iintro ⟨HS0, Hg⟩
  isplitl [HS0]
  · iexists _; iexact HS0
  iexact Hg

set_option backward.isDefEq.respectTransparency.types false in
/-- Every execution ends, with each array at what the buffers above make of it and every semaphore at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The frame: the arguments end unchanged and no semaphore is left raised. -/
theorem frame : θ_run defs (onTc (τ := τ) (main (F := F))) ⟨m, fun _ => 0, ρ⟩ (fun r => (∀ c : Dev nD,
r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_main_quiescent m ρ))

/-! ## The results as whole arrays -/

/-- The results, block by block. -/
def outP (c : Dev nD) : Vec F S2048x4096 .bf16 := fun i =>
  projs m c ((i 0).val / 1024) ((i 1).val / 1024) (ix2 ⟨(i 0).val % 1024, Nat.mod_lt _ (by decide)⟩ ⟨(i 1).val % 1024, Nat.mod_lt _ (by decide)⟩)
theorem flushed3 (c : Dev nD) (t : Fin cfg0.N) : (dats m 0 c).flushed 3 t = ((cfg0.win 3).blk t).view.read (Elt F) (outP m c) := by
  show (cfg0.win 3).cut (grid0.coords t) ((dats m 0 c).after 3 t) = _
  rw [after0_3]
  have ht : t.val < 8 := Nat.lt_of_lt_of_eq t.isLt N_0
  have i0 : win0_3.index t (0 : Fin 2) = t.val / 4 := congrFun (index3 t) 0
  have i1 : win0_3.index t (1 : Fin 2) = t.val % 4 := congrFun (index3 t) 1
  funext y
  have h0 : (y 0).val < 1024 := (y 0).isLt
  have h1 : (y 1).val < 1024 := (y 1).isLt
  have e0 : (((cfg0.win 3).blk t).view.emb y 0).val = win0_3.index t (0 : Fin 2) * 1024 + 1 * (y 0).val := rfl
  have e1 : (((cfg0.win 3).blk t).view.emb y 1).val = win0_3.index t (1 : Fin 2) * 1024 + 1 * (y 1).val := rfl
  show projs m c (t.val / 4) (t.val % 4) ((cfg0.win 3).xinj (grid0.coords t) y)
    = projs m c ((((cfg0.win 3).blk t).view.emb y 0).val / 1024) ((((cfg0.win 3).blk t).view.emb y 1).val / 1024)
      (ix2 ⟨(((cfg0.win 3).blk t).view.emb y 0).val % 1024, Nat.mod_lt _ (by decide)⟩ ⟨(((cfg0.win 3).blk t).view.emb y 1).val % 1024, Nat.mod_lt _ (by decide)⟩)
  rw [show (((cfg0.win 3).blk t).view.emb y 0).val / 1024 = t.val / 4 from by rw [e0, i0]; omega,
    show (((cfg0.win 3).blk t).view.emb y 1).val / 1024 = t.val % 4 from by rw [e1, i1]; omega]
  congr 1
  funext a; apply Fin.ext
  match a with
  | ⟨0, _⟩ => show (y 0).val = (((cfg0.win 3).blk t).view.emb y 0).val % 1024; rw [e0]; omega
  | ⟨1, _⟩ => show (y 1).val = (((cfg0.win 3).blk t).view.emb y 1).val % 1024; rw [e1]; omega

/-- Every entry of the results lies in a block that is written back. -/
theorem cover3 (i : S2048x4096.Idx) : ∃ t : Fin cfg0.N, (cfg0.win 3).flush t = true ∧ i ∈ ((cfg0.win 3).blk t).view.set := by
  have h0 : (i 0).val < 2048 := (i 0).isLt
  have h1 : (i 1).val < 4096 := (i 1).isLt
  have hlt : 4 * ((i 0).val / 1024) + (i 1).val / 1024 < cfg0.N := Nat.lt_of_lt_of_eq (by omega) N_0.symm
  refine ⟨⟨_, hlt⟩, flush0_3 _, ?_⟩
  have i0 : win0_3.index ⟨_, hlt⟩ (0 : Fin 2) = _ := congrFun (index3 ⟨_, hlt⟩) 0
  have i1 : win0_3.index ⟨_, hlt⟩ (1 : Fin 2) = _ := congrFun (index3 ⟨_, hlt⟩) 1
  show i ∈ ((View.whole main_v1).slice (win0_3.rect ⟨_, hlt⟩)).set
  rw [View.set_slice_whole, Rect.mem_set_unit]
  intro a
  match a with
  | ⟨0, _⟩ => show win0_3.index ⟨_, hlt⟩ (0 : Fin 2) * 1024 ≤ (i 0).val ∧ (i 0).val < win0_3.index ⟨_, hlt⟩ (0 : Fin 2) * 1024 + 1024; rw [i0]; show (4 * ((i 0).val / 1024) + (i 1).val / 1024) / 4 * 1024 ≤ _ ∧ _ < (4 * ((i 0).val / 1024) + (i 1).val / 1024) / 4 * 1024 + 1024; omega
  | ⟨1, _⟩ => show win0_3.index ⟨_, hlt⟩ (1 : Fin 2) * 1024 ≤ (i 1).val ∧ (i 1).val < win0_3.index ⟨_, hlt⟩ (1 : Fin 2) * 1024 + 1024; rw [i1]; show (4 * ((i 0).val / 1024) + (i 1).val / 1024) % 4 * 1024 ≤ _ ∧ _ < (4 * ((i 0).val / 1024) + (i 1).val / 1024) % 4 * 1024 + 1024; omega

/-- The run read: the results at the arrays above, the arguments unchanged. -/
theorem run : θ_run defs (onTc (τ := τ) (main (F := F))) ⟨m, fun _ => 0, ρ⟩ fun r => ∀ c : Dev nD,
      r.2.mem ((c.tc : Thread nD τ).loc main_v1) = outP m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨((h.1 c).1 3).trans ((dats m 0 c).arrAt_eq_of_cover 3 _ (fun t _ => flushed3 m c t) cover3), h.2 c⟩)
    (θ_run_and (run_main m ρ) (frame_of m ρ (dats m) (A_eq m) (run_main m ρ)))

end Cert.Kernel3Ideal.Hand

end
-- ==== Proof.Hand.MemKV.Equation.lean ====
/- The keys and values over the extended reals: the tiles' normalised rows are the reference's normalised memory, and each result entry is the same inner product. -/
module

public import proofs.«01_k».proof.Proof.Hand.MemKV.Frame
public import proofs.«01_k».proof.Proof.Gen.Reference3Ideal.Run
public import Idealize.ShloMosaic.Lib.Tactic.ValueTie

@[expose] public section

set_option maxRecDepth 16384

noncomputable section

namespace Cert.Kernel3Ideal.Hand

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The reference's normalised memory: every row divided by the root of its mean square and scaled by the weight. -/
def refNorm (X : FVec Ideal Cert.Reference3Ideal.S2048x2048 .f32) (g : FVec Ideal Cert.Reference3Ideal.S2048 .f32) : FVec Ideal Cert.Reference3Ideal.S2048x2048 .f32 :=
  (mulf (mulf X (broadcastInDim Cert.Reference3Ideal.S2048x2048 ![0, 1] Cert.Reference3Ideal.Gen.bcast_S2048x1_S2048x2048_0_1 (Host.rsqrt (addf (Host.divf (broadcastInDim Cert.Reference3Ideal.S2048x1 ![0] Cert.Reference3Ideal.Gen.bcast_S2048_S2048x1_0 (Host.reduceAdd (mulf X X) (constant Cert.Reference3Ideal.S_ .f32 0x00000000#32) Cert.Reference3Ideal.Gen.reducesTo_S2048x2048_S2048_d1 Cert.Reference3Ideal.Gen.h_S_)) (broadcastInDim Cert.Reference3Ideal.S2048x1 ![] Cert.Reference3Ideal.Gen.bcast_S_S2048x1 (constant Cert.Reference3Ideal.S_ .f32 0x45000000#32))) (broadcastInDim Cert.Reference3Ideal.S2048x1 ![] Cert.Reference3Ideal.Gen.bcast_S_S2048x1 (constant Cert.Reference3Ideal.S_ .f32 0x358637BD#32)))))) (broadcastInDim Cert.Reference3Ideal.S2048x2048 ![0, 1] Cert.Reference3Ideal.Gen.bcast_S1x2048_S2048x2048_0_1 (broadcastInDim Cert.Reference3Ideal.S1x2048 ![1] Cert.Reference3Ideal.Gen.bcast_S2048_S1x2048_1 g)))

/-- An entry of a tile's normalised rows is that entry of the reference's normalised memory. -/
theorem tile_norm (X : Vec Ideal S2048x2048 .f32) (g : Vec Ideal S2048 .f32) (g' : Vec Ideal S1x2048 .f32) (hg : ∀ k : Fin 2048, g' (ix2 0 k) = g (ix1 k))
    (r : ℕ) (a : Fin 1024) (k : Fin 2048) (n : Fin 2048) (hn : n.val = 1024 * r + a.val) :
    normRows (rowBlock X r) g' (ix2 a k) = refNorm X g (ix2 n k) := by
  unfold normRows tileRows rowBlock k0_pay1 refNorm
  have ha := a.isLt
  have hnl := n.isLt
  have hrow : ∀ k : Fin 2048, X (ix2 (⟨(1024 * r + (128 * (a.val / 128) + a.val % 128) % 1024) % 2048, Nat.mod_lt _ (by decide)⟩ : Fin 2048) k) = X (ix2 n k) := fun k => by
    congr 2; apply Fin.ext; show (1024 * r + (128 * (a.val / 128) + a.val % 128) % 1024) % 2048 = n.val; omega
  pointwise
  simp only [hrow, hg]

variable (m : (ℓ : Loc nD τ sig) → Buf (Elt Ideal) ℓ)

/-- The kernel's weight of the norm is the argument, as a row. -/
theorem weight_row (c : Dev nD) (k : Fin 2048) : (V m c main_v0 : Vec Ideal S1x2048 .f32) (ix2 0 k) = (m ((c.tc : Thread nD τ).loc main_arg1) : Vec Ideal S2048 .f32) (ix1 k) := by
  have e : (V m c main_v0 : Vec Ideal S1x2048 .f32) = shapeCast S1x2048 (m ((c.tc : Thread nD τ).loc main_arg1) : Vec Ideal S2048 .f32) shapeCasts_S2048_S1x2048 := by
    show StableHlo.after hostOps0 (fun b => m (c, b)) main_v0 = _
    after_results
    rfl
  rw [e]
  pointwise

/-- The normalised rows of row block `r` are the reference's. -/
theorem norms_eq (c : Dev nD) (r : ℕ) (a : Fin 1024) (k : Fin 2048) (n : Fin 2048) (hn : n.val = 1024 * r + a.val) :
    norms m c r (ix2 a k) = refNorm (m ((c.tc : Thread nD τ).loc main_arg0)) (m ((c.tc : Thread nD τ).loc main_arg1)) (ix2 n k) := by
  unfold norms
  rw [V_main_arg0]
  exact tile_norm _ _ _ (weight_row m c) r a k n hn

/-- The keys and values are the reference's. -/
theorem pairs_eq (c : Dev nD) : outP m c = truncf .bf16 (Host.dotGeneral (F := Ideal) Cert.Reference3Ideal.dot_S2048x2048_S2048x4096_S2048x4096_1_0_0_1_n_n none
    (refNorm (m ((c.tc : Thread nD τ).loc main_arg0)) (m ((c.tc : Thread nD τ).loc main_arg1))) (extf .f32 (m ((c.tc : Thread nD τ).loc main_arg2) : FVec Ideal S2048x4096 .bf16) Cert.Reference3Ideal.Gen.bitsLt_bf16_f32)) Cert.Reference3Ideal.Gen.bitsLt_bf16_f32 := by
  funext i
  have h0 : (i 0).val < 2048 := (i 0).isLt
  have h1 : (i 1).val < 4096 := (i 1).isLt
  have hw : ∀ k : Fin 2048, colBlock (V m c main_arg2) ((i 1).val / 1024) (ix2 k (⟨(i 1).val % 1024, Nat.mod_lt _ (by decide)⟩ : Fin 1024))
      = (m ((c.tc : Thread nD τ).loc main_arg2) : FVec Ideal S2048x4096 .bf16) (ix2 k (i 1)) := fun k => by
    rw [V_main_arg2]
    unfold colBlock
    congr 2; apply Fin.ext; show (1024 * ((i 1).val / 1024) + (i 1).val % 1024) % 4096 = (i 1).val; omega
  have hx : ∀ k : Fin 2048, norms m c ((i 0).val / 1024) (ix2 (⟨(i 0).val % 1024, Nat.mod_lt _ (by decide)⟩ : Fin 1024) k) = _ :=
    fun k => norms_eq m c ((i 0).val / 1024) _ k (i 0) (by show _ = 1024 * ((i 0).val / 1024) + (i 0).val % 1024; omega)
  unfold outP projs k0_pay2
  pointwise
  simp only [hx, hw]

end Cert.Kernel3Ideal.Hand

end
-- ==== Proof.Hand.Branches.Steps.lean ====
/- The steps of the reference of the branches: its host operations in fifteen parts, and what each part computes. -/
module

public import proofs.«01_k».proof.Proof.Gen.Reference4Ideal
public import Idealize.ShloMosaic.Lib.StableHlo.Run

@[expose] public section

set_option maxRecDepth 16384

noncomputable section

namespace Cert.Reference4Ideal.Hand

open Cert.Reference4Ideal Cert.Reference4Ideal.Gen Idealize.ShloMosaic Idealize.ShloMosaic.TcCoe Idealize.SL.Sem Idealize.ShloMosaic.StableHlo

variable {F : FTy → Type} [FloatOps F]

/-- Part 0: the columns of the projections. -/
def part0 : List (HloOp τ sig (Elt F)) :=
  [ unary main_arg0 main_v0 ((extractStridedSlice S32768x2048 ![0, 6144] · slices_S32768x28672_S32768x2048_0_6144) : (⟨S32768x28672, .bf16⟩ : BufTy).Contents (Elt F) → (⟨S32768x2048, .bf16⟩ : BufTy).Contents (Elt F)),
    unary main_v0 main_v1 ((extf .f32 · bitsLt_bf16_f32) : (⟨S32768x2048, .bf16⟩ : BufTy).Contents (Elt F) → (⟨S32768x2048, .f32⟩ : BufTy).Contents (Elt F)),
    unary main_arg0 main_v2 ((extractStridedSlice S32768x2048 ![0, 8192] · slices_S32768x28672_S32768x2048_0_8192) : (⟨S32768x28672, .bf16⟩ : BufTy).Contents (Elt F) → (⟨S32768x2048, .bf16⟩ : BufTy).Contents (Elt F)),
    unary main_v2 main_v3 ((extf .f32 · bitsLt_bf16_f32) : (⟨S32768x2048, .bf16⟩ : BufTy).Contents (Elt F) → (⟨S32768x2048, .f32⟩ : BufTy).Contents (Elt F)),
    unary main_arg0 main_v4 ((extractStridedSlice S32768x2048 ![0, 10240] · slices_S32768x28672_S32768x2048_0_10240) : (⟨S32768x28672, .bf16⟩ : BufTy).Contents (Elt F) → (⟨S32768x2048, .bf16⟩ : BufTy).Contents (Elt F)),
    unary main_v4 main_v5 ((extf .f32 · bitsLt_bf16_f32) : (⟨S32768x2048, .bf16⟩ : BufTy).Contents (Elt F) → (⟨S32768x2048, .f32⟩ : BufTy).Contents (Elt F)),
    unary main_arg0 main_v6 ((extractStridedSlice S32768x2048 ![0, 12288] · slices_S32768x28672_S32768x2048_0_12288) : (⟨S32768x28672, .bf16⟩ : BufTy).Contents (Elt F) → (⟨S32768x2048, .bf16⟩ : BufTy).Contents (Elt F)),
    unary main_v6 main_v7 ((extf .f32 · bitsLt_bf16_f32) : (⟨S32768x2048, .bf16⟩ : BufTy).Contents (Elt F) → (⟨S32768x2048, .f32⟩ : BufTy).Contents (Elt F)),
    unary main_arg0 main_v8 ((extractStridedSlice S32768x2048 ![0, 14336] · slices_S32768x28672_S32768x2048_0_14336) : (⟨S32768x28672, .bf16⟩ : BufTy).Contents (Elt F) → (⟨S32768x2048, .bf16⟩ : BufTy).Contents (Elt F)),
    unary main_v8 main_v9 ((extf .f32 · bitsLt_bf16_f32) : (⟨S32768x2048, .bf16⟩ : BufTy).Contents (Elt F) → (⟨S32768x2048, .f32⟩ : BufTy).Contents (Elt F)),
    unary main_arg0 main_v10 ((extractStridedSlice S32768x2048 ![0, 16384] · slices_S32768x28672_S32768x2048_0_16384) : (⟨S32768x28672, .bf16⟩ : BufTy).Contents (Elt F) → (⟨S32768x2048, .bf16⟩ : BufTy).Contents (Elt F)),
    unary main_v10 main_v11 ((extf .f32 · bitsLt_bf16_f32) : (⟨S32768x2048, .bf16⟩ : BufTy).Contents (Elt F) → (⟨S32768x2048, .f32⟩ : BufTy).Contents (Elt F)),
    unary main_arg0 main_v12 ((extractStridedSlice S32768x2048 ![0, 18432] · slices_S32768x28672_S32768x2048_0_18432) : (⟨S32768x28672, .bf16⟩ : BufTy).Contents (Elt F) → (⟨S32768x2048, .bf16⟩ : BufTy).Contents (Elt F)),
    unary main_v12 main_v13 ((extf .f32 · bitsLt_bf16_f32) : (⟨S32768x2048, .bf16⟩ : BufTy).Contents (Elt F) → (⟨S32768x2048, .f32⟩ : BufTy).Contents (Elt F)),
    unary main_arg0 main_v14 ((extractStridedSlice S32768x2048 ![0, 20480] · slices_S32768x28672_S32768x2048_0_20480) : (⟨S32768x28672, .bf16⟩ : BufTy).Contents (Elt F) → (⟨S32768x2048, .bf16⟩ : BufTy).Contents (Elt F)),
    unary main_v14 main_v15 ((extf .f32 · bitsLt_bf16_f32) : (⟨S32768x2048, .bf16⟩ : BufTy).Contents (Elt F) → (⟨S32768x2048, .f32⟩ : BufTy).Contents (Elt F)) ]

/-- Part 1: the sum of the two directions and its mean on each head. -/
def part1 : List (HloOp τ sig (Elt F)) :=
  [ unary main_arg1 main_v16 ((extf .f32 · bitsLt_bf16_f32) : (⟨S32768x2048, .bf16⟩ : BufTy).Contents (Elt F) → (⟨S32768x2048, .f32⟩ : BufTy).Contents (Elt F)),
    unary main_arg2 main_v17 ((extf .f32 · bitsLt_bf16_f32) : (⟨S32768x2048, .bf16⟩ : BufTy).Contents (Elt F) → (⟨S32768x2048, .f32⟩ : BufTy).Contents (Elt F)),
    binary main_v16 main_v17 main_v18 (addf : (⟨S32768x2048, .f32⟩ : BufTy).Contents (Elt F) → (⟨S32768x2048, .f32⟩ : BufTy).Contents (Elt F) → (⟨S32768x2048, .f32⟩ : BufTy).Contents (Elt F)),
    reshape main_v18 main_v19 (rfl : (.f32 : EltTy) = .f32) shapeCasts_S32768x2048_S32768x8x256,
    nullary main_cst (constant S_ .f32 0x00000000#32),
    binary main_v19 main_cst main_v20 ((fun x v => Host.reduceAdd x v reducesTo_S32768x8x256_S32768x8_d2 h_S_) : (⟨S32768x8x256, .f32⟩ : BufTy).Contents (Elt F) → (⟨S_, .f32⟩ : BufTy).Contents (Elt F) → (⟨S32768x8, .f32⟩ : BufTy).Contents (Elt F)),
    unary main_v20 main_v21 (broadcastInDim S32768x8x1 ![0, 1] bcast_S32768x8_S32768x8x1_0_1 : (⟨S32768x8, .f32⟩ : BufTy).Contents (Elt F) → (⟨S32768x8x1, .f32⟩ : BufTy).Contents (Elt F)),
    nullary main_cst_0 (constant S_ .f32 0x43800000#32),
    unary main_cst_0 main_v22 (broadcastInDim S32768x8x1 ![] bcast_S_S32768x8x1 : (⟨S_, .f32⟩ : BufTy).Contents (Elt F) → (⟨S32768x8x1, .f32⟩ : BufTy).Contents (Elt F)),
    binary main_v21 main_v22 main_v23 (Host.divf : (⟨S32768x8x1, .f32⟩ : BufTy).Contents (Elt F) → (⟨S32768x8x1, .f32⟩ : BufTy).Contents (Elt F) → (⟨S32768x8x1, .f32⟩ : BufTy).Contents (Elt F)) ]

/-- Part 2: the variance. -/
def part2 : List (HloOp τ sig (Elt F)) :=
  [ unary main_v23 main_v24 (broadcastInDim S32768x8x256 ![0, 1, 2] bcast_S32768x8x1_S32768x8x256_0_1_2 : (⟨S32768x8x1, .f32⟩ : BufTy).Contents (Elt F) → (⟨S32768x8x256, .f32⟩ : BufTy).Contents (Elt F)),
    binary main_v19 main_v24 main_v25 (subf : (⟨S32768x8x256, .f32⟩ : BufTy).Contents (Elt F) → (⟨S32768x8x256, .f32⟩ : BufTy).Contents (Elt F) → (⟨S32768x8x256, .f32⟩ : BufTy).Contents (Elt F)),
    binary main_v25 main_v25 main_v26 (mulf : (⟨S32768x8x256, .f32⟩ : BufTy).Contents (Elt F) → (⟨S32768x8x256, .f32⟩ : BufTy).Contents (Elt F) → (⟨S32768x8x256, .f32⟩ : BufTy).Contents (Elt F)),
    nullary main_cst_1 (constant S_ .f32 0x00000000#32),
    binary main_v26 main_cst_1 main_v27 ((fun x v => Host.reduceAdd x v reducesTo_S32768x8x256_S32768x8_d2 h_S_) : (⟨S32768x8x256, .f32⟩ : BufTy).Contents (Elt F) → (⟨S_, .f32⟩ : BufTy).Contents (Elt F) → (⟨S32768x8, .f32⟩ : BufTy).Contents (Elt F)),
    unary main_v27 main_v28 (broadcastInDim S32768x8x1 ![0, 1] bcast_S32768x8_S32768x8x1_0_1 : (⟨S32768x8, .f32⟩ : BufTy).Contents (Elt F) → (⟨S32768x8x1, .f32⟩ : BufTy).Contents (Elt F)),
    nullary main_cst_2 (constant S_ .f32 0x43800000#32),
    unary main_cst_2 main_v29 (broadcastInDim S32768x8x1 ![] bcast_S_S32768x8x1 : (⟨S_, .f32⟩ : BufTy).Contents (Elt F) → (⟨S32768x8x1, .f32⟩ : BufTy).Contents (Elt F)),
    binary main_v28 main_v29 main_v30 (Host.divf : (⟨S32768x8x1, .f32⟩ : BufTy).Contents (Elt F) → (⟨S32768x8x1, .f32⟩ : BufTy).Contents (Elt F) → (⟨S32768x8x1, .f32⟩ : BufTy).Contents (Elt F)) ]

/-- Part 3: the norm. -/
def part3 : List (HloOp τ sig (Elt F)) :=
  [ unary main_v23 main_v31 (broadcastInDim S32768x8x256 ![0, 1, 2] bcast_S32768x8x1_S32768x8x256_0_1_2 : (⟨S32768x8x1, .f32⟩ : BufTy).Contents (Elt F) → (⟨S32768x8x256, .f32⟩ : BufTy).Contents (Elt F)),
    binary main_v19 main_v31 main_v32 (subf : (⟨S32768x8x256, .f32⟩ : BufTy).Contents (Elt F) → (⟨S32768x8x256, .f32⟩ : BufTy).Contents (Elt F) → (⟨S32768x8x256, .f32⟩ : BufTy).Contents (Elt F)),
    nullary main_cst_3 (constant S_ .f32 0x358637BD#32),
    unary main_cst_3 main_v33 (broadcastInDim S32768x8x1 ![] bcast_S_S32768x8x1 : (⟨S_, .f32⟩ : BufTy).Contents (Elt F) → (⟨S32768x8x1, .f32⟩ : BufTy).Contents (Elt F)),
    binary main_v30 main_v33 main_v34 (addf : (⟨S32768x8x1, .f32⟩ : BufTy).Contents (Elt F) → (⟨S32768x8x1, .f32⟩ : BufTy).Contents (Elt F) → (⟨S32768x8x1, .f32⟩ : BufTy).Contents (Elt F)),
    unary main_v34 main_v35 (Host.rsqrt : (⟨S32768x8x1, .f32⟩ : BufTy).Contents (Elt F) → (⟨S32768x8x1, .f32⟩ : BufTy).Contents (Elt F)),
    unary main_v35 main_v36 (broadcastInDim S32768x8x256 ![0, 1, 2] bcast_S32768x8x1_S32768x8x256_0_1_2 : (⟨S32768x8x1, .f32⟩ : BufTy).Contents (Elt F) → (⟨S32768x8x256, .f32⟩ : BufTy).Contents (Elt F)),
    binary main_v32 main_v36 main_v37 (mulf : (⟨S32768x8x256, .f32⟩ : BufTy).Contents (Elt F) → (⟨S32768x8x256, .f32⟩ : BufTy).Contents (Elt F) → (⟨S32768x8x256, .f32⟩ : BufTy).Contents (Elt F)),
    reshape main_v37 main_v38 (rfl : (.f32 : EltTy) = .f32) shapeCasts_S32768x8x256_S32768x2048,
    unary main_arg4 main_v39 (broadcastInDim S32768x2048 ![0, 1] bcast_S1x2048_S32768x2048_0_1 : (⟨S1x2048, .f32⟩ : BufTy).Contents (Elt F) → (⟨S32768x2048, .f32⟩ : BufTy).Contents (Elt F)),
    binary main_v38 main_v39 main_v40 (mulf : (⟨S32768x2048, .f32⟩ : BufTy).Contents (Elt F) → (⟨S32768x2048, .f32⟩ : BufTy).Contents (Elt F) → (⟨S32768x2048, .f32⟩ : BufTy).Contents (Elt F)) ]

/-- Part 4: the first branch. -/
def part4 : List (HloOp τ sig (Elt F)) :=
  [ unary main_v1 main_v41 (Host.negf : (⟨S32768x2048, .f32⟩ : BufTy).Contents (Elt F) → (⟨S32768x2048, .f32⟩ : BufTy).Contents (Elt F)),
    unary main_v41 main_v42 (Host.exp : (⟨S32768x2048, .f32⟩ : BufTy).Contents (Elt F) → (⟨S32768x2048, .f32⟩ : BufTy).Contents (Elt F)),
    nullary main_cst_4 (constant S_ .f32 0x3F800000#32),
    unary main_cst_4 main_v43 (broadcastInDim S32768x2048 ![] bcast_S_S32768x2048 : (⟨S_, .f32⟩ : BufTy).Contents (Elt F) → (⟨S32768x2048, .f32⟩ : BufTy).Contents (Elt F)),
    binary main_v43 main_v42 main_v44 (addf : (⟨S32768x2048, .f32⟩ : BufTy).Contents (Elt F) → (⟨S32768x2048, .f32⟩ : BufTy).Contents (Elt F) → (⟨S32768x2048, .f32⟩ : BufTy).Contents (Elt F)),
    nullary main_cst_5 (constant S_ .f32 0x3F800000#32),
    unary main_cst_5 main_v45 (broadcastInDim S32768x2048 ![] bcast_S_S32768x2048 : (⟨S_, .f32⟩ : BufTy).Contents (Elt F) → (⟨S32768x2048, .f32⟩ : BufTy).Contents (Elt F)),
    binary main_v45 main_v44 main_v46 (Host.divf : (⟨S32768x2048, .f32⟩ : BufTy).Contents (Elt F) → (⟨S32768x2048, .f32⟩ : BufTy).Contents (Elt F) → (⟨S32768x2048, .f32⟩ : BufTy).Contents (Elt F)),
    binary main_v40 main_v46 main_v47 (mulf : (⟨S32768x2048, .f32⟩ : BufTy).Contents (Elt F) → (⟨S32768x2048, .f32⟩ : BufTy).Contents (Elt F) → (⟨S32768x2048, .f32⟩ : BufTy).Contents (Elt F)),
    TRef.unary (TRef.of (T := ⟨S32768x2048, .f32⟩) main_v3) (TRef.of (T := ⟨S32768x2048, .f32⟩) main_call0_v0) Host.negf,
    TRef.unary (TRef.of (T := ⟨S32768x2048, .f32⟩) main_call0_v0) (TRef.of (T := ⟨S32768x2048, .f32⟩) main_call0_v1) Host.exp,
    TRef.nullary (TRef.of (T := ⟨S_, .f32⟩) main_call0_cst) (constant S_ .f32 0x3F800000#32),
    TRef.unary (TRef.of (T := ⟨S_, .f32⟩) main_call0_cst) (TRef.of (T := ⟨S32768x2048, .f32⟩) main_call0_v2) (broadcastInDim S32768x2048 ![] bcast_S_S32768x2048),
    TRef.binary (TRef.of (T := ⟨S32768x2048, .f32⟩) main_call0_v2) (TRef.of (T := ⟨S32768x2048, .f32⟩) main_call0_v1) (TRef.of (T := ⟨S32768x2048, .f32⟩) main_call0_v3) addf,
    TRef.nullary (TRef.of (T := ⟨S_, .f32⟩) main_call0_cst_0) (constant S_ .f32 0x3F800000#32),
    TRef.unary (TRef.of (T := ⟨S_, .f32⟩) main_call0_cst_0) (TRef.of (T := ⟨S32768x2048, .f32⟩) main_call0_v4) (broadcastInDim S32768x2048 ![] bcast_S_S32768x2048),
    TRef.binary (TRef.of (T := ⟨S32768x2048, .f32⟩) main_call0_v4) (TRef.of (T := ⟨S32768x2048, .f32⟩) main_call0_v3) (TRef.of (T := ⟨S32768x2048, .f32⟩) main_call0_v5) Host.divf,
    TRef.binary (TRef.of (T := ⟨S32768x2048, .f32⟩) main_v3) (TRef.of (T := ⟨S32768x2048, .f32⟩) main_call0_v5) (TRef.of (T := ⟨S32768x2048, .f32⟩) main_v48) mulf,
    binary main_v47 main_v48 main_v49 (mulf : (⟨S32768x2048, .f32⟩ : BufTy).Contents (Elt F) → (⟨S32768x2048, .f32⟩ : BufTy).Contents (Elt F) → (⟨S32768x2048, .f32⟩ : BufTy).Contents (Elt F)) ]

/-- Part 5: the product that is convolved. -/
def part5 : List (HloOp τ sig (Elt F)) :=
  [ binary main_v7 main_v9 main_v50 (mulf : (⟨S32768x2048, .f32⟩ : BufTy).Contents (Elt F) → (⟨S32768x2048, .f32⟩ : BufTy).Contents (Elt F) → (⟨S32768x2048, .f32⟩ : BufTy).Contents (Elt F)),
    reshape main_v50 main_v51 (rfl : (.f32 : EltTy) = .f32) shapeCasts_S32768x2048_S8x4096x2048,
    nullary main_c (constantI S_ 32 0#32) ]

/-- Part 6: its padding. -/
def part6 : List (HloOp τ sig (Elt F)) :=
  [ TRef.unary (TRef.of (T := ⟨S_, .i32⟩) main_c) (TRef.of (T := ⟨S_, .f32⟩) main_call1_v0) (sitofp .f32),
    TRef.binary (TRef.of (T := ⟨S8x4096x2048, .f32⟩) main_v51) (TRef.of (T := ⟨S_, .f32⟩) main_call1_v0) (TRef.of (T := ⟨S8x4098x2048, .f32⟩) main_v52) (fun x v => pad S8x4098x2048 ![0, 1, 0] ![0, 1, 0] ![0, 0, 0] x v pads_S8x4096x2048_S8x4098x2048_000_110_000 h_S_) ]

/-- Part 7: the convolution. -/
def part7 : List (HloOp τ sig (Elt F)) :=
  [ unary main_arg5 main_v53 ((extractStridedSlice S1x2048 ![0, 0] · slices_S8x2048_S1x2048_0_0) : (⟨S8x2048, .f32⟩ : BufTy).Contents (Elt F) → (⟨S1x2048, .f32⟩ : BufTy).Contents (Elt F)),
    reshape main_v53 main_v54 (rfl : (.f32 : EltTy) = .f32) shapeCasts_S1x2048_S2048,
    unary main_v52 main_v55 ((extractStridedSlice S8x4096x2048 ![0, 0, 0] · slices_S8x4098x2048_S8x4096x2048_0_0_0) : (⟨S8x4098x2048, .f32⟩ : BufTy).Contents (Elt F) → (⟨S8x4096x2048, .f32⟩ : BufTy).Contents (Elt F)),
    unary main_v54 main_v56 (broadcastInDim S1x1x2048 ![2] bcast_S2048_S1x1x2048_2 : (⟨S2048, .f32⟩ : BufTy).Contents (Elt F) → (⟨S1x1x2048, .f32⟩ : BufTy).Contents (Elt F)),
    unary main_v56 main_v57 (broadcastInDim S8x4096x2048 ![0, 1, 2] bcast_S1x1x2048_S8x4096x2048_0_1_2 : (⟨S1x1x2048, .f32⟩ : BufTy).Contents (Elt F) → (⟨S8x4096x2048, .f32⟩ : BufTy).Contents (Elt F)),
    binary main_v57 main_v55 main_v58 (mulf : (⟨S8x4096x2048, .f32⟩ : BufTy).Contents (Elt F) → (⟨S8x4096x2048, .f32⟩ : BufTy).Contents (Elt F) → (⟨S8x4096x2048, .f32⟩ : BufTy).Contents (Elt F)),
    unary main_arg5 main_v59 ((extractStridedSlice S1x2048 ![1, 0] · slices_S8x2048_S1x2048_1_0) : (⟨S8x2048, .f32⟩ : BufTy).Contents (Elt F) → (⟨S1x2048, .f32⟩ : BufTy).Contents (Elt F)),
    reshape main_v59 main_v60 (rfl : (.f32 : EltTy) = .f32) shapeCasts_S1x2048_S2048,
    unary main_v52 main_v61 ((extractStridedSlice S8x4096x2048 ![0, 1, 0] · slices_S8x4098x2048_S8x4096x2048_0_1_0) : (⟨S8x4098x2048, .f32⟩ : BufTy).Contents (Elt F) → (⟨S8x4096x2048, .f32⟩ : BufTy).Contents (Elt F)),
    unary main_v60 main_v62 (broadcastInDim S1x1x2048 ![2] bcast_S2048_S1x1x2048_2 : (⟨S2048, .f32⟩ : BufTy).Contents (Elt F) → (⟨S1x1x2048, .f32⟩ : BufTy).Contents (Elt F)),
    unary main_v62 main_v63 (broadcastInDim S8x4096x2048 ![0, 1, 2] bcast_S1x1x2048_S8x4096x2048_0_1_2 : (⟨S1x1x2048, .f32⟩ : BufTy).Contents (Elt F) → (⟨S8x4096x2048, .f32⟩ : BufTy).Contents (Elt F)),
    binary main_v63 main_v61 main_v64 (mulf : (⟨S8x4096x2048, .f32⟩ : BufTy).Contents (Elt F) → (⟨S8x4096x2048, .f32⟩ : BufTy).Contents (Elt F) → (⟨S8x4096x2048, .f32⟩ : BufTy).Contents (Elt F)),
    binary main_v58 main_v64 main_v65 (addf : (⟨S8x4096x2048, .f32⟩ : BufTy).Contents (Elt F) → (⟨S8x4096x2048, .f32⟩ : BufTy).Contents (Elt F) → (⟨S8x4096x2048, .f32⟩ : BufTy).Contents (Elt F)),
    unary main_arg5 main_v66 ((extractStridedSlice S1x2048 ![2, 0] · slices_S8x2048_S1x2048_2_0) : (⟨S8x2048, .f32⟩ : BufTy).Contents (Elt F) → (⟨S1x2048, .f32⟩ : BufTy).Contents (Elt F)),
    reshape main_v66 main_v67 (rfl : (.f32 : EltTy) = .f32) shapeCasts_S1x2048_S2048,
    unary main_v52 main_v68 ((extractStridedSlice S8x4096x2048 ![0, 2, 0] · slices_S8x4098x2048_S8x4096x2048_0_2_0) : (⟨S8x4098x2048, .f32⟩ : BufTy).Contents (Elt F) → (⟨S8x4096x2048, .f32⟩ : BufTy).Contents (Elt F)),
    unary main_v67 main_v69 (broadcastInDim S1x1x2048 ![2] bcast_S2048_S1x1x2048_2 : (⟨S2048, .f32⟩ : BufTy).Contents (Elt F) → (⟨S1x1x2048, .f32⟩ : BufTy).Contents (Elt F)),
    unary main_v69 main_v70 (broadcastInDim S8x4096x2048 ![0, 1, 2] bcast_S1x1x2048_S8x4096x2048_0_1_2 : (⟨S1x1x2048, .f32⟩ : BufTy).Contents (Elt F) → (⟨S8x4096x2048, .f32⟩ : BufTy).Contents (Elt F)),
    binary main_v70 main_v68 main_v71 (mulf : (⟨S8x4096x2048, .f32⟩ : BufTy).Contents (Elt F) → (⟨S8x4096x2048, .f32⟩ : BufTy).Contents (Elt F) → (⟨S8x4096x2048, .f32⟩ : BufTy).Contents (Elt F)),
    binary main_v65 main_v71 main_v72 (addf : (⟨S8x4096x2048, .f32⟩ : BufTy).Contents (Elt F) → (⟨S8x4096x2048, .f32⟩ : BufTy).Contents (Elt F) → (⟨S8x4096x2048, .f32⟩ : BufTy).Contents (Elt F)),
    reshape main_v72 main_v73 (rfl : (.f32 : EltTy) = .f32) shapeCasts_S8x4096x2048_S32768x2048 ]

/-- Part 8: the second branch. -/
def part8 : List (HloOp τ sig (Elt F)) :=
  [ binary main_v5 main_v73 main_v74 (mulf : (⟨S32768x2048, .f32⟩ : BufTy).Contents (Elt F) → (⟨S32768x2048, .f32⟩ : BufTy).Contents (Elt F) → (⟨S32768x2048, .f32⟩ : BufTy).Contents (Elt F)),
    TRef.unary (TRef.of (T := ⟨S32768x2048, .f32⟩) main_v11) (TRef.of (T := ⟨S32768x2048, .f32⟩) main_call2_v0) Host.negf,
    TRef.unary (TRef.of (T := ⟨S32768x2048, .f32⟩) main_call2_v0) (TRef.of (T := ⟨S32768x2048, .f32⟩) main_call2_v1) Host.exp,
    TRef.nullary (TRef.of (T := ⟨S_, .f32⟩) main_call2_cst) (constant S_ .f32 0x3F800000#32),
    TRef.unary (TRef.of (T := ⟨S_, .f32⟩) main_call2_cst) (TRef.of (T := ⟨S32768x2048, .f32⟩) main_call2_v2) (broadcastInDim S32768x2048 ![] bcast_S_S32768x2048),
    TRef.binary (TRef.of (T := ⟨S32768x2048, .f32⟩) main_call2_v2) (TRef.of (T := ⟨S32768x2048, .f32⟩) main_call2_v1) (TRef.of (T := ⟨S32768x2048, .f32⟩) main_call2_v3) addf,
    TRef.nullary (TRef.of (T := ⟨S_, .f32⟩) main_call2_cst_0) (constant S_ .f32 0x3F800000#32),
    TRef.unary (TRef.of (T := ⟨S_, .f32⟩) main_call2_cst_0) (TRef.of (T := ⟨S32768x2048, .f32⟩) main_call2_v4) (broadcastInDim S32768x2048 ![] bcast_S_S32768x2048),
    TRef.binary (TRef.of (T := ⟨S32768x2048, .f32⟩) main_call2_v4) (TRef.of (T := ⟨S32768x2048, .f32⟩) main_call2_v3) (TRef.of (T := ⟨S32768x2048, .f32⟩) main_call2_v5) Host.divf,
    TRef.binary (TRef.of (T := ⟨S32768x2048, .f32⟩) main_v11) (TRef.of (T := ⟨S32768x2048, .f32⟩) main_call2_v5) (TRef.of (T := ⟨S32768x2048, .f32⟩) main_v75) mulf,
    binary main_v74 main_v75 main_v76 (mulf : (⟨S32768x2048, .f32⟩ : BufTy).Contents (Elt F) → (⟨S32768x2048, .f32⟩ : BufTy).Contents (Elt F) → (⟨S32768x2048, .f32⟩ : BufTy).Contents (Elt F)) ]

/-- Part 9: the scores. -/
def part9 : List (HloOp τ sig (Elt F)) :=
  [ reshape main_v13 main_v77 (rfl : (.f32 : EltTy) = .f32) shapeCasts_S32768x2048_S8x4096x4x512,
    unary main_arg3 main_v78 ((extractStridedSlice S2048x2048 ![0, 0] · slices_S2048x4096_S2048x2048_0_0) : (⟨S2048x4096, .bf16⟩ : BufTy).Contents (Elt F) → (⟨S2048x2048, .bf16⟩ : BufTy).Contents (Elt F)),
    unary main_v78 main_v79 ((extf .f32 · bitsLt_bf16_f32) : (⟨S2048x2048, .bf16⟩ : BufTy).Contents (Elt F) → (⟨S2048x2048, .f32⟩ : BufTy).Contents (Elt F)),
    reshape main_v79 main_v80 (rfl : (.f32 : EltTy) = .f32) shapeCasts_S2048x2048_S8x256x4x512,
    unary main_arg3 main_v81 ((extractStridedSlice S2048x2048 ![0, 2048] · slices_S2048x4096_S2048x2048_0_2048) : (⟨S2048x4096, .bf16⟩ : BufTy).Contents (Elt F) → (⟨S2048x2048, .bf16⟩ : BufTy).Contents (Elt F)),
    unary main_v81 main_v82 ((extf .f32 · bitsLt_bf16_f32) : (⟨S2048x2048, .bf16⟩ : BufTy).Contents (Elt F) → (⟨S2048x2048, .f32⟩ : BufTy).Contents (Elt F)),
    reshape main_v82 main_v83 (rfl : (.f32 : EltTy) = .f32) shapeCasts_S2048x2048_S8x256x4x512,
    binary main_v77 main_v80 main_v84 ((fun l r => Host.dotGeneral dot_S8x4096x4x512_S8x256x4x512_S8x4x4096x256_3_3_1_1_02_02 none l r) : (⟨S8x4096x4x512, .f32⟩ : BufTy).Contents (Elt F) → (⟨S8x256x4x512, .f32⟩ : BufTy).Contents (Elt F) → (⟨S8x4x4096x256, .f32⟩ : BufTy).Contents (Elt F)),
    nullary main_cst_6 (constant S_ .f32 0x3D3504F3#32),
    unary main_cst_6 main_v85 (broadcastInDim S8x4x4096x256 ![] bcast_S_S8x4x4096x256 : (⟨S_, .f32⟩ : BufTy).Contents (Elt F) → (⟨S8x4x4096x256, .f32⟩ : BufTy).Contents (Elt F)),
    binary main_v84 main_v85 main_v86 (mulf : (⟨S8x4x4096x256, .f32⟩ : BufTy).Contents (Elt F) → (⟨S8x4x4096x256, .f32⟩ : BufTy).Contents (Elt F) → (⟨S8x4x4096x256, .f32⟩ : BufTy).Contents (Elt F)) ]

/-- Part 10: the rows' maxima. -/
def part10 : List (HloOp τ sig (Elt F)) :=
  [ nullary main_cst_7 (constant S_ .f32 0xFF800000#32),
    binary main_v86 main_cst_7 main_v87 ((fun x v => Host.reduce FloatOps.maximumf x v reducesTo_S8x4x4096x256_S8x4x4096_d3 h_S_) : (⟨S8x4x4096x256, .f32⟩ : BufTy).Contents (Elt F) → (⟨S_, .f32⟩ : BufTy).Contents (Elt F) → (⟨S8x4x4096, .f32⟩ : BufTy).Contents (Elt F)),
    nullary main_cst_8 (constant S_ .f32 0xFF800000#32),
    unary main_cst_8 main_v88 (broadcastInDim S8x4x4096 ![] bcast_S_S8x4x4096 : (⟨S_, .f32⟩ : BufTy).Contents (Elt F) → (⟨S8x4x4096, .f32⟩ : BufTy).Contents (Elt F)),
    binary main_v88 main_v87 main_v89 (maximumf : (⟨S8x4x4096, .f32⟩ : BufTy).Contents (Elt F) → (⟨S8x4x4096, .f32⟩ : BufTy).Contents (Elt F) → (⟨S8x4x4096, .f32⟩ : BufTy).Contents (Elt F)) ]

/-- Part 11: the exponentials. -/
def part11 : List (HloOp τ sig (Elt F)) :=
  [ unary main_v89 main_v90 (broadcastInDim S8x4x4096x1 ![0, 1, 2] bcast_S8x4x4096_S8x4x4096x1_0_1_2 : (⟨S8x4x4096, .f32⟩ : BufTy).Contents (Elt F) → (⟨S8x4x4096x1, .f32⟩ : BufTy).Contents (Elt F)),
    unary main_v90 main_v91 (broadcastInDim S8x4x4096x256 ![0, 1, 2, 3] bcast_S8x4x4096x1_S8x4x4096x256_0_1_2_3 : (⟨S8x4x4096x1, .f32⟩ : BufTy).Contents (Elt F) → (⟨S8x4x4096x256, .f32⟩ : BufTy).Contents (Elt F)),
    binary main_v86 main_v91 main_v92 (subf : (⟨S8x4x4096x256, .f32⟩ : BufTy).Contents (Elt F) → (⟨S8x4x4096x256, .f32⟩ : BufTy).Contents (Elt F) → (⟨S8x4x4096x256, .f32⟩ : BufTy).Contents (Elt F)),
    unary main_v92 main_v93 (Host.exp : (⟨S8x4x4096x256, .f32⟩ : BufTy).Contents (Elt F) → (⟨S8x4x4096x256, .f32⟩ : BufTy).Contents (Elt F)) ]

/-- Part 12: the weights. -/
def part12 : List (HloOp τ sig (Elt F)) :=
  [ nullary main_cst_9 (constant S_ .f32 0x00000000#32),
    binary main_v93 main_cst_9 main_v94 ((fun x v => Host.reduceAdd x v reducesTo_S8x4x4096x256_S8x4x4096_d3 h_S_) : (⟨S8x4x4096x256, .f32⟩ : BufTy).Contents (Elt F) → (⟨S_, .f32⟩ : BufTy).Contents (Elt F) → (⟨S8x4x4096, .f32⟩ : BufTy).Contents (Elt F)),
    unary main_v94 main_v95 (broadcastInDim S8x4x4096x1 ![0, 1, 2] bcast_S8x4x4096_S8x4x4096x1_0_1_2 : (⟨S8x4x4096, .f32⟩ : BufTy).Contents (Elt F) → (⟨S8x4x4096x1, .f32⟩ : BufTy).Contents (Elt F)),
    unary main_v95 main_v96 (broadcastInDim S8x4x4096x256 ![0, 1, 2, 3] bcast_S8x4x4096x1_S8x4x4096x256_0_1_2_3 : (⟨S8x4x4096x1, .f32⟩ : BufTy).Contents (Elt F) → (⟨S8x4x4096x256, .f32⟩ : BufTy).Contents (Elt F)),
    binary main_v93 main_v96 main_v97 (Host.divf : (⟨S8x4x4096x256, .f32⟩ : BufTy).Contents (Elt F) → (⟨S8x4x4096x256, .f32⟩ : BufTy).Contents (Elt F) → (⟨S8x4x4096x256, .f32⟩ : BufTy).Contents (Elt F)) ]

/-- Part 13: the third branch. -/
def part13 : List (HloOp τ sig (Elt F)) :=
  [ binary main_v83 main_v97 main_v98 ((fun l r => Host.dotGeneral dot_S8x256x4x512_S8x4x4096x256_S8x4x512x4096_1_3_3_2_02_01 none l r) : (⟨S8x256x4x512, .f32⟩ : BufTy).Contents (Elt F) → (⟨S8x4x4096x256, .f32⟩ : BufTy).Contents (Elt F) → (⟨S8x4x512x4096, .f32⟩ : BufTy).Contents (Elt F)),
    unary main_v98 main_v99 ((transpose S8x4096x4x512 [0, 3, 1, 2] · transposes_S8x4x512x4096_S8x4096x4x512_0_3_1_2) : (⟨S8x4x512x4096, .f32⟩ : BufTy).Contents (Elt F) → (⟨S8x4096x4x512, .f32⟩ : BufTy).Contents (Elt F)),
    reshape main_v99 main_v100 (rfl : (.f32 : EltTy) = .f32) shapeCasts_S8x4096x4x512_S32768x2048,
    TRef.unary (TRef.of (T := ⟨S32768x2048, .f32⟩) main_v15) (TRef.of (T := ⟨S32768x2048, .f32⟩) main_call3_v0) Host.negf,
    TRef.unary (TRef.of (T := ⟨S32768x2048, .f32⟩) main_call3_v0) (TRef.of (T := ⟨S32768x2048, .f32⟩) main_call3_v1) Host.exp,
    TRef.nullary (TRef.of (T := ⟨S_, .f32⟩) main_call3_cst) (constant S_ .f32 0x3F800000#32),
    TRef.unary (TRef.of (T := ⟨S_, .f32⟩) main_call3_cst) (TRef.of (T := ⟨S32768x2048, .f32⟩) main_call3_v2) (broadcastInDim S32768x2048 ![] bcast_S_S32768x2048),
    TRef.binary (TRef.of (T := ⟨S32768x2048, .f32⟩) main_call3_v2) (TRef.of (T := ⟨S32768x2048, .f32⟩) main_call3_v1) (TRef.of (T := ⟨S32768x2048, .f32⟩) main_call3_v3) addf,
    TRef.nullary (TRef.of (T := ⟨S_, .f32⟩) main_call3_cst_0) (constant S_ .f32 0x3F800000#32),
    TRef.unary (TRef.of (T := ⟨S_, .f32⟩) main_call3_cst_0) (TRef.of (T := ⟨S32768x2048, .f32⟩) main_call3_v4) (broadcastInDim S32768x2048 ![] bcast_S_S32768x2048),
    TRef.binary (TRef.of (T := ⟨S32768x2048, .f32⟩) main_call3_v4) (TRef.of (T := ⟨S32768x2048, .f32⟩) main_call3_v3) (TRef.of (T := ⟨S32768x2048, .f32⟩) main_call3_v5) Host.divf,
    TRef.binary (TRef.of (T := ⟨S32768x2048, .f32⟩) main_v15) (TRef.of (T := ⟨S32768x2048, .f32⟩) main_call3_v5) (TRef.of (T := ⟨S32768x2048, .f32⟩) main_v101) mulf,
    binary main_v100 main_v101 main_v102 (mulf : (⟨S32768x2048, .f32⟩ : BufTy).Contents (Elt F) → (⟨S32768x2048, .f32⟩ : BufTy).Contents (Elt F) → (⟨S32768x2048, .f32⟩ : BufTy).Contents (Elt F)) ]

/-- Part 14: the casts of the results. -/
def part14 : List (HloOp τ sig (Elt F)) :=
  [ unary main_v49 main_v103 ((truncf .bf16 · bitsLt_bf16_f32) : (⟨S32768x2048, .f32⟩ : BufTy).Contents (Elt F) → (⟨S32768x2048, .bf16⟩ : BufTy).Contents (Elt F)),
    unary main_v76 main_v104 ((truncf .bf16 · bitsLt_bf16_f32) : (⟨S32768x2048, .f32⟩ : BufTy).Contents (Elt F) → (⟨S32768x2048, .bf16⟩ : BufTy).Contents (Elt F)),
    unary main_v102 main_v105 ((truncf .bf16 · bitsLt_bf16_f32) : (⟨S32768x2048, .f32⟩ : BufTy).Contents (Elt F) → (⟨S32768x2048, .bf16⟩ : BufTy).Contents (Elt F)) ]

/-- Block 3 of 2048 columns of the projections. -/
def cols0 (P : FVec F S32768x28672 .bf16) : FVec F S32768x2048 .f32 :=
  (extf .f32 (extractStridedSlice S32768x2048 ![0, 6144] P slices_S32768x28672_S32768x2048_0_6144) bitsLt_bf16_f32)

theorem part0_cols0 (W : Valuation τ sig (Elt F)) : after part0 W main_v1 = cols0 (W main_arg0) := by
  simp only [part0, TRef.binary, TRef.nullary, TRef.unary, TRef.toBuf, TRef.ofBuf, cast_eq]
  after_results_simp <;> rfl

/-- Block 4 of 2048 columns of the projections. -/
def cols1 (P : FVec F S32768x28672 .bf16) : FVec F S32768x2048 .f32 :=
  (extf .f32 (extractStridedSlice S32768x2048 ![0, 8192] P slices_S32768x28672_S32768x2048_0_8192) bitsLt_bf16_f32)

theorem part0_cols1 (W : Valuation τ sig (Elt F)) : after part0 W main_v3 = cols1 (W main_arg0) := by
  simp only [part0, TRef.binary, TRef.nullary, TRef.unary, TRef.toBuf, TRef.ofBuf, cast_eq]
  after_results_simp <;> rfl

/-- Block 5 of 2048 columns of the projections. -/
def cols2 (P : FVec F S32768x28672 .bf16) : FVec F S32768x2048 .f32 :=
  (extf .f32 (extractStridedSlice S32768x2048 ![0, 10240] P slices_S32768x28672_S32768x2048_0_10240) bitsLt_bf16_f32)

theorem part0_cols2 (W : Valuation τ sig (Elt F)) : after part0 W main_v5 = cols2 (W main_arg0) := by
  simp only [part0, TRef.binary, TRef.nullary, TRef.unary, TRef.toBuf, TRef.ofBuf, cast_eq]
  after_results_simp <;> rfl

/-- Block 6 of 2048 columns of the projections. -/
def cols3 (P : FVec F S32768x28672 .bf16) : FVec F S32768x2048 .f32 :=
  (extf .f32 (extractStridedSlice S32768x2048 ![0, 12288] P slices_S32768x28672_S32768x2048_0_12288) bitsLt_bf16_f32)

theorem part0_cols3 (W : Valuation τ sig (Elt F)) : after part0 W main_v7 = cols3 (W main_arg0) := by
  simp only [part0, TRef.binary, TRef.nullary, TRef.unary, TRef.toBuf, TRef.ofBuf, cast_eq]
  after_results_simp <;> rfl

/-- Block 7 of 2048 columns of the projections. -/
def cols4 (P : FVec F S32768x28672 .bf16) : FVec F S32768x2048 .f32 :=
  (extf .f32 (extractStridedSlice S32768x2048 ![0, 14336] P slices_S32768x28672_S32768x2048_0_14336) bitsLt_bf16_f32)

theorem part0_cols4 (W : Valuation τ sig (Elt F)) : after part0 W main_v9 = cols4 (W main_arg0) := by
  simp only [part0, TRef.binary, TRef.nullary, TRef.unary, TRef.toBuf, TRef.ofBuf, cast_eq]
  after_results_simp <;> rfl

/-- Block 8 of 2048 columns of the projections. -/
def cols5 (P : FVec F S32768x28672 .bf16) : FVec F S32768x2048 .f32 :=
  (extf .f32 (extractStridedSlice S32768x2048 ![0, 16384] P slices_S32768x28672_S32768x2048_0_16384) bitsLt_bf16_f32)

theorem part0_cols5 (W : Valuation τ sig (Elt F)) : after part0 W main_v11 = cols5 (W main_arg0) := by
  simp only [part0, TRef.binary, TRef.nullary, TRef.unary, TRef.toBuf, TRef.ofBuf, cast_eq]
  after_results_simp <;> rfl

/-- Block 9 of 2048 columns of the projections. -/
def cols6 (P : FVec F S32768x28672 .bf16) : FVec F S32768x2048 .f32 :=
  (extf .f32 (extractStridedSlice S32768x2048 ![0, 18432] P slices_S32768x28672_S32768x2048_0_18432) bitsLt_bf16_f32)

theorem part0_cols6 (W : Valuation τ sig (Elt F)) : after part0 W main_v13 = cols6 (W main_arg0) := by
  simp only [part0, TRef.binary, TRef.nullary, TRef.unary, TRef.toBuf, TRef.ofBuf, cast_eq]
  after_results_simp <;> rfl

/-- Block 10 of 2048 columns of the projections. -/
def cols7 (P : FVec F S32768x28672 .bf16) : FVec F S32768x2048 .f32 :=
  (extf .f32 (extractStridedSlice S32768x2048 ![0, 20480] P slices_S32768x28672_S32768x2048_0_20480) bitsLt_bf16_f32)

theorem part0_cols7 (W : Valuation τ sig (Elt F)) : after part0 W main_v15 = cols7 (W main_arg0) := by
  simp only [part0, TRef.binary, TRef.nullary, TRef.unary, TRef.toBuf, TRef.ofBuf, cast_eq]
  after_results_simp <;> rfl

/-- The two directions added, by head. -/
def both (A : FVec F S32768x2048 .bf16) (B : FVec F S32768x2048 .bf16) : FVec F S32768x8x256 .f32 :=
  (shapeCast S32768x8x256 (addf (extf .f32 A bitsLt_bf16_f32) (extf .f32 B bitsLt_bf16_f32)) shapeCasts_S32768x2048_S32768x8x256)

theorem part1_both (W : Valuation τ sig (Elt F)) : after part1 W main_v19 = both (W main_arg1) (W main_arg2) := by
  simp only [part1, TRef.binary, TRef.nullary, TRef.unary, TRef.toBuf, TRef.ofBuf, cast_eq]
  after_results_simp <;> rfl

/-- The mean of every head of a row. -/
def mean (X : FVec F S32768x8x256 .f32) : FVec F S32768x8x1 .f32 :=
  (Host.divf (broadcastInDim S32768x8x1 ![0, 1] bcast_S32768x8_S32768x8x1_0_1 (Host.reduceAdd X (constant S_ .f32 0x00000000#32) reducesTo_S32768x8x256_S32768x8_d2 h_S_)) (broadcastInDim S32768x8x1 ![] bcast_S_S32768x8x1 (constant S_ .f32 0x43800000#32)))

theorem part1_mean (W : Valuation τ sig (Elt F)) : after part1 W main_v23 = mean (both (W main_arg1) (W main_arg2)) := by
  simp only [part1, TRef.binary, TRef.nullary, TRef.unary, TRef.toBuf, TRef.ofBuf, cast_eq]
  after_results_simp <;> rfl

/-- The mean square of the differences from the mean. -/
def variance (X : FVec F S32768x8x256 .f32) (μ : FVec F S32768x8x1 .f32) : FVec F S32768x8x1 .f32 :=
  (Host.divf (broadcastInDim S32768x8x1 ![0, 1] bcast_S32768x8_S32768x8x1_0_1 (Host.reduceAdd (mulf (subf X (broadcastInDim S32768x8x256 ![0, 1, 2] bcast_S32768x8x1_S32768x8x256_0_1_2 μ)) (subf X (broadcastInDim S32768x8x256 ![0, 1, 2] bcast_S32768x8x1_S32768x8x256_0_1_2 μ))) (constant S_ .f32 0x00000000#32) reducesTo_S32768x8x256_S32768x8_d2 h_S_)) (broadcastInDim S32768x8x1 ![] bcast_S_S32768x8x1 (constant S_ .f32 0x43800000#32)))

theorem part2_variance (W : Valuation τ sig (Elt F)) : after part2 W main_v30 = variance (W main_v19) (W main_v23) := by
  simp only [part2, TRef.binary, TRef.nullary, TRef.unary, TRef.toBuf, TRef.ofBuf, cast_eq]
  after_results_simp <;> rfl

/-- The normalised heads, scaled by the weight. -/
def normed (X : FVec F S32768x8x256 .f32) (μ : FVec F S32768x8x1 .f32) (v : FVec F S32768x8x1 .f32) (g : FVec F S1x2048 .f32) : FVec F S32768x2048 .f32 :=
  (mulf (shapeCast S32768x2048 (mulf (subf X (broadcastInDim S32768x8x256 ![0, 1, 2] bcast_S32768x8x1_S32768x8x256_0_1_2 μ)) (broadcastInDim S32768x8x256 ![0, 1, 2] bcast_S32768x8x1_S32768x8x256_0_1_2 (Host.rsqrt (addf v (broadcastInDim S32768x8x1 ![] bcast_S_S32768x8x1 (constant S_ .f32 0x358637BD#32)))))) shapeCasts_S32768x8x256_S32768x2048) (broadcastInDim S32768x2048 ![0, 1] bcast_S1x2048_S32768x2048_0_1 g))

theorem part3_normed (W : Valuation τ sig (Elt F)) : after part3 W main_v40 = normed (W main_v19) (W main_v23) (W main_v30) (W main_arg4) := by
  simp only [part3, TRef.binary, TRef.nullary, TRef.unary, TRef.toBuf, TRef.ofBuf, cast_eq]
  after_results_simp <;> rfl

/-- The first branch: the normalised heads times the two gates. -/
def gated (Y : FVec F S32768x2048 .f32) (O : FVec F S32768x2048 .f32) (Z : FVec F S32768x2048 .f32) : FVec F S32768x2048 .f32 :=
  (mulf (mulf Y (Host.divf (broadcastInDim S32768x2048 ![] bcast_S_S32768x2048 (constant S_ .f32 0x3F800000#32)) (addf (broadcastInDim S32768x2048 ![] bcast_S_S32768x2048 (constant S_ .f32 0x3F800000#32)) (Host.exp (Host.negf O))))) (mulf Z (Host.divf ((broadcastInDim S32768x2048 ![] bcast_S_S32768x2048) (constant S_ .f32 0x3F800000#32)) (addf ((broadcastInDim S32768x2048 ![] bcast_S_S32768x2048) (constant S_ .f32 0x3F800000#32)) (Host.exp (Host.negf Z))))))

theorem part4_gated (W : Valuation τ sig (Elt F)) : after part4 W main_v49 = gated (W main_v40) (W main_v1) (W main_v3) := by
  simp only [part4, TRef.binary, TRef.nullary, TRef.unary, TRef.toBuf, TRef.ofBuf, cast_eq]
  after_results_simp <;> rfl

/-- The product of two column blocks, by batch. -/
def product (A : FVec F S32768x2048 .f32) (B : FVec F S32768x2048 .f32) : FVec F S8x4096x2048 .f32 :=
  (shapeCast S8x4096x2048 (mulf A B) shapeCasts_S32768x2048_S8x4096x2048)

theorem part5_product (W : Valuation τ sig (Elt F)) : after part5 W main_v51 = product (W main_v7) (W main_v9) := by
  simp only [part5, TRef.binary, TRef.nullary, TRef.unary, TRef.toBuf, TRef.ofBuf, cast_eq]
  after_results_simp <;> rfl

/-- The word zero. -/
def zeroWord  : (⟨S_, .i32⟩ : BufTy).Contents (Elt F) :=
  (constantI S_ 32 0#32)

theorem part5_zeroWord (W : Valuation τ sig (Elt F)) : after part5 W main_c = zeroWord  := by
  simp only [part5, TRef.binary, TRef.nullary, TRef.unary, TRef.toBuf, TRef.ofBuf, cast_eq]
  after_results_simp <;> rfl

/-- A row of zeros before and after every batch. -/
def padded (U : FVec F S8x4096x2048 .f32) (z : (⟨S_, .i32⟩ : BufTy).Contents (Elt F)) : FVec F S8x4098x2048 .f32 :=
  (pad S8x4098x2048 ![0, 1, 0] ![0, 1, 0] ![0, 0, 0] U ((sitofp .f32) z) pads_S8x4096x2048_S8x4098x2048_000_110_000 h_S_)

theorem part6_padded (W : Valuation τ sig (Elt F)) : after part6 W main_v52 = padded (W main_v51) (W main_c) := by
  simp only [part6, TRef.binary, TRef.nullary, TRef.unary, TRef.toBuf, TRef.ofBuf, cast_eq]
  after_results_simp <;> rfl

/-- The three taps of the convolution. -/
def conv (U : FVec F S8x4098x2048 .f32) (w : FVec F S8x2048 .f32) : FVec F S32768x2048 .f32 :=
  (shapeCast S32768x2048 (addf (addf (mulf (broadcastInDim S8x4096x2048 ![0, 1, 2] bcast_S1x1x2048_S8x4096x2048_0_1_2 (broadcastInDim S1x1x2048 ![2] bcast_S2048_S1x1x2048_2 (shapeCast S2048 (extractStridedSlice S1x2048 ![0, 0] w slices_S8x2048_S1x2048_0_0) shapeCasts_S1x2048_S2048))) (extractStridedSlice S8x4096x2048 ![0, 0, 0] U slices_S8x4098x2048_S8x4096x2048_0_0_0)) (mulf (broadcastInDim S8x4096x2048 ![0, 1, 2] bcast_S1x1x2048_S8x4096x2048_0_1_2 (broadcastInDim S1x1x2048 ![2] bcast_S2048_S1x1x2048_2 (shapeCast S2048 (extractStridedSlice S1x2048 ![1, 0] w slices_S8x2048_S1x2048_1_0) shapeCasts_S1x2048_S2048))) (extractStridedSlice S8x4096x2048 ![0, 1, 0] U slices_S8x4098x2048_S8x4096x2048_0_1_0))) (mulf (broadcastInDim S8x4096x2048 ![0, 1, 2] bcast_S1x1x2048_S8x4096x2048_0_1_2 (broadcastInDim S1x1x2048 ![2] bcast_S2048_S1x1x2048_2 (shapeCast S2048 (extractStridedSlice S1x2048 ![2, 0] w slices_S8x2048_S1x2048_2_0) shapeCasts_S1x2048_S2048))) (extractStridedSlice S8x4096x2048 ![0, 2, 0] U slices_S8x4098x2048_S8x4096x2048_0_2_0))) shapeCasts_S8x4096x2048_S32768x2048)

theorem part7_conv (W : Valuation τ sig (Elt F)) : after part7 W main_v73 = conv (W main_v52) (W main_arg5) := by
  simp only [part7, TRef.binary, TRef.nullary, TRef.unary, TRef.toBuf, TRef.ofBuf, cast_eq]
  after_results_simp <;> rfl

/-- The second branch. -/
def gatedConv (Y : FVec F S32768x2048 .f32) (B : FVec F S32768x2048 .f32) (Z : FVec F S32768x2048 .f32) : FVec F S32768x2048 .f32 :=
  (mulf (mulf B Y) (mulf Z (Host.divf ((broadcastInDim S32768x2048 ![] bcast_S_S32768x2048) (constant S_ .f32 0x3F800000#32)) (addf ((broadcastInDim S32768x2048 ![] bcast_S_S32768x2048) (constant S_ .f32 0x3F800000#32)) (Host.exp (Host.negf Z))))))

theorem part8_gatedConv (W : Valuation τ sig (Elt F)) : after part8 W main_v76 = gatedConv (W main_v73) (W main_v5) (W main_v11) := by
  simp only [part8, TRef.binary, TRef.nullary, TRef.unary, TRef.toBuf, TRef.ofBuf, cast_eq]
  after_results_simp <;> rfl

/-- The scaled scores of the queries against the keys. -/
def scores (Q : FVec F S32768x2048 .f32) (K : FVec F S2048x4096 .bf16) : FVec F S8x4x4096x256 .f32 :=
  (mulf (Host.dotGeneral dot_S8x4096x4x512_S8x256x4x512_S8x4x4096x256_3_3_1_1_02_02 none (shapeCast S8x4096x4x512 Q shapeCasts_S32768x2048_S8x4096x4x512) (shapeCast S8x256x4x512 (extf .f32 (extractStridedSlice S2048x2048 ![0, 0] K slices_S2048x4096_S2048x2048_0_0) bitsLt_bf16_f32) shapeCasts_S2048x2048_S8x256x4x512)) (broadcastInDim S8x4x4096x256 ![] bcast_S_S8x4x4096x256 (constant S_ .f32 0x3D3504F3#32)))

theorem part9_scores (W : Valuation τ sig (Elt F)) : after part9 W main_v86 = scores (W main_v13) (W main_arg3) := by
  simp only [part9, TRef.binary, TRef.nullary, TRef.unary, TRef.toBuf, TRef.ofBuf, cast_eq]
  after_results_simp <;> rfl

/-- The values, by head. -/
def vals (K : FVec F S2048x4096 .bf16) : FVec F S8x256x4x512 .f32 :=
  (shapeCast S8x256x4x512 (extf .f32 (extractStridedSlice S2048x2048 ![0, 2048] K slices_S2048x4096_S2048x2048_0_2048) bitsLt_bf16_f32) shapeCasts_S2048x2048_S8x256x4x512)

theorem part9_vals (W : Valuation τ sig (Elt F)) : after part9 W main_v83 = vals (W main_arg3) := by
  simp only [part9, TRef.binary, TRef.nullary, TRef.unary, TRef.toBuf, TRef.ofBuf, cast_eq]
  after_results_simp <;> rfl

/-- The largest score of every row. -/
def rowMax (S : FVec F S8x4x4096x256 .f32) : FVec F S8x4x4096 .f32 :=
  (maximumf (broadcastInDim S8x4x4096 ![] bcast_S_S8x4x4096 (constant S_ .f32 0xFF800000#32)) (Host.reduce FloatOps.maximumf S (constant S_ .f32 0xFF800000#32) reducesTo_S8x4x4096x256_S8x4x4096_d3 h_S_))

theorem part10_rowMax (W : Valuation τ sig (Elt F)) : after part10 W main_v89 = rowMax (W main_v86) := by
  simp only [part10, TRef.binary, TRef.nullary, TRef.unary, TRef.toBuf, TRef.ofBuf, cast_eq]
  after_results_simp <;> rfl

/-- The exponentials of the scores less the maximum. -/
def exps (S : FVec F S8x4x4096x256 .f32) (M : FVec F S8x4x4096 .f32) : FVec F S8x4x4096x256 .f32 :=
  (Host.exp (subf S (broadcastInDim S8x4x4096x256 ![0, 1, 2, 3] bcast_S8x4x4096x1_S8x4x4096x256_0_1_2_3 (broadcastInDim S8x4x4096x1 ![0, 1, 2] bcast_S8x4x4096_S8x4x4096x1_0_1_2 M))))

theorem part11_exps (W : Valuation τ sig (Elt F)) : after part11 W main_v93 = exps (W main_v86) (W main_v89) := by
  simp only [part11, TRef.binary, TRef.nullary, TRef.unary, TRef.toBuf, TRef.ofBuf, cast_eq]
  after_results_simp <;> rfl

/-- The exponentials divided by their sum. -/
def weights (E : FVec F S8x4x4096x256 .f32) : FVec F S8x4x4096x256 .f32 :=
  (Host.divf E (broadcastInDim S8x4x4096x256 ![0, 1, 2, 3] bcast_S8x4x4096x1_S8x4x4096x256_0_1_2_3 (broadcastInDim S8x4x4096x1 ![0, 1, 2] bcast_S8x4x4096_S8x4x4096x1_0_1_2 (Host.reduceAdd E (constant S_ .f32 0x00000000#32) reducesTo_S8x4x4096x256_S8x4x4096_d3 h_S_))))

theorem part12_weights (W : Valuation τ sig (Elt F)) : after part12 W main_v97 = weights (W main_v93) := by
  simp only [part12, TRef.binary, TRef.nullary, TRef.unary, TRef.toBuf, TRef.ofBuf, cast_eq]
  after_results_simp <;> rfl

/-- The third branch: the weighted values times the gate. -/
def attended (A : FVec F S8x4x4096x256 .f32) (V : FVec F S8x256x4x512 .f32) (Z : FVec F S32768x2048 .f32) : FVec F S32768x2048 .f32 :=
  (mulf (shapeCast S32768x2048 (transpose S8x4096x4x512 [0, 3, 1, 2] (Host.dotGeneral dot_S8x256x4x512_S8x4x4096x256_S8x4x512x4096_1_3_3_2_02_01 none V A) transposes_S8x4x512x4096_S8x4096x4x512_0_3_1_2) shapeCasts_S8x4096x4x512_S32768x2048) (mulf Z (Host.divf ((broadcastInDim S32768x2048 ![] bcast_S_S32768x2048) (constant S_ .f32 0x3F800000#32)) (addf ((broadcastInDim S32768x2048 ![] bcast_S_S32768x2048) (constant S_ .f32 0x3F800000#32)) (Host.exp (Host.negf Z))))))

theorem part13_attended (W : Valuation τ sig (Elt F)) : after part13 W main_v102 = attended (W main_v97) (W main_v83) (W main_v15) := by
  simp only [part13, TRef.binary, TRef.nullary, TRef.unary, TRef.toBuf, TRef.ofBuf, cast_eq]
  after_results_simp <;> rfl

/-- The first result. -/
def out0 (Y : FVec F S32768x2048 .f32) : FVec F S32768x2048 .bf16 :=
  (truncf .bf16 Y bitsLt_bf16_f32)

theorem part14_out0 (W : Valuation τ sig (Elt F)) : after part14 W main_v103 = out0 (W main_v49) := by
  simp only [part14, TRef.binary, TRef.nullary, TRef.unary, TRef.toBuf, TRef.ofBuf, cast_eq]
  after_results_simp <;> rfl

/-- The second result. -/
def out1 (Y : FVec F S32768x2048 .f32) : FVec F S32768x2048 .bf16 :=
  (truncf .bf16 Y bitsLt_bf16_f32)

theorem part14_out1 (W : Valuation τ sig (Elt F)) : after part14 W main_v104 = out1 (W main_v76) := by
  simp only [part14, TRef.binary, TRef.nullary, TRef.unary, TRef.toBuf, TRef.ofBuf, cast_eq]
  after_results_simp <;> rfl

/-- The third result. -/
def out2 (Y : FVec F S32768x2048 .f32) : FVec F S32768x2048 .bf16 :=
  (truncf .bf16 Y bitsLt_bf16_f32)

theorem part14_out2 (W : Valuation τ sig (Elt F)) : after part14 W main_v105 = out2 (W main_v102) := by
  simp only [part14, TRef.binary, TRef.nullary, TRef.unary, TRef.toBuf, TRef.ofBuf, cast_eq]
  after_results_simp <;> rfl

theorem part0_main_arg1 (W : Valuation τ sig (Elt F)) : after part0 W main_arg1 = W main_arg1 := by
  simp only [part0, TRef.binary, TRef.nullary, TRef.unary, TRef.toBuf, TRef.ofBuf, cast_eq]
  after_results_simp

theorem part0_main_arg2 (W : Valuation τ sig (Elt F)) : after part0 W main_arg2 = W main_arg2 := by
  simp only [part0, TRef.binary, TRef.nullary, TRef.unary, TRef.toBuf, TRef.ofBuf, cast_eq]
  after_results_simp

theorem part0_main_arg4 (W : Valuation τ sig (Elt F)) : after part0 W main_arg4 = W main_arg4 := by
  simp only [part0, TRef.binary, TRef.nullary, TRef.unary, TRef.toBuf, TRef.ofBuf, cast_eq]
  after_results_simp

theorem part0_main_arg5 (W : Valuation τ sig (Elt F)) : after part0 W main_arg5 = W main_arg5 := by
  simp only [part0, TRef.binary, TRef.nullary, TRef.unary, TRef.toBuf, TRef.ofBuf, cast_eq]
  after_results_simp

theorem part0_main_arg3 (W : Valuation τ sig (Elt F)) : after part0 W main_arg3 = W main_arg3 := by
  simp only [part0, TRef.binary, TRef.nullary, TRef.unary, TRef.toBuf, TRef.ofBuf, cast_eq]
  after_results_simp

theorem part0_main_arg0 (W : Valuation τ sig (Elt F)) : after part0 W main_arg0 = W main_arg0 := by
  simp only [part0, TRef.binary, TRef.nullary, TRef.unary, TRef.toBuf, TRef.ofBuf, cast_eq]
  after_results_simp

theorem part1_main_arg4 (W : Valuation τ sig (Elt F)) : after part1 W main_arg4 = W main_arg4 := by
  simp only [part1, TRef.binary, TRef.nullary, TRef.unary, TRef.toBuf, TRef.ofBuf, cast_eq]
  after_results_simp

theorem part1_main_v1 (W : Valuation τ sig (Elt F)) : after part1 W main_v1 = W main_v1 := by
  simp only [part1, TRef.binary, TRef.nullary, TRef.unary, TRef.toBuf, TRef.ofBuf, cast_eq]
  after_results_simp

theorem part1_main_v3 (W : Valuation τ sig (Elt F)) : after part1 W main_v3 = W main_v3 := by
  simp only [part1, TRef.binary, TRef.nullary, TRef.unary, TRef.toBuf, TRef.ofBuf, cast_eq]
  after_results_simp

theorem part1_main_v7 (W : Valuation τ sig (Elt F)) : after part1 W main_v7 = W main_v7 := by
  simp only [part1, TRef.binary, TRef.nullary, TRef.unary, TRef.toBuf, TRef.ofBuf, cast_eq]
  after_results_simp

theorem part1_main_v9 (W : Valuation τ sig (Elt F)) : after part1 W main_v9 = W main_v9 := by
  simp only [part1, TRef.binary, TRef.nullary, TRef.unary, TRef.toBuf, TRef.ofBuf, cast_eq]
  after_results_simp

theorem part1_main_arg5 (W : Valuation τ sig (Elt F)) : after part1 W main_arg5 = W main_arg5 := by
  simp only [part1, TRef.binary, TRef.nullary, TRef.unary, TRef.toBuf, TRef.ofBuf, cast_eq]
  after_results_simp

theorem part1_main_v5 (W : Valuation τ sig (Elt F)) : after part1 W main_v5 = W main_v5 := by
  simp only [part1, TRef.binary, TRef.nullary, TRef.unary, TRef.toBuf, TRef.ofBuf, cast_eq]
  after_results_simp

theorem part1_main_v11 (W : Valuation τ sig (Elt F)) : after part1 W main_v11 = W main_v11 := by
  simp only [part1, TRef.binary, TRef.nullary, TRef.unary, TRef.toBuf, TRef.ofBuf, cast_eq]
  after_results_simp

theorem part1_main_v13 (W : Valuation τ sig (Elt F)) : after part1 W main_v13 = W main_v13 := by
  simp only [part1, TRef.binary, TRef.nullary, TRef.unary, TRef.toBuf, TRef.ofBuf, cast_eq]
  after_results_simp

theorem part1_main_arg3 (W : Valuation τ sig (Elt F)) : after part1 W main_arg3 = W main_arg3 := by
  simp only [part1, TRef.binary, TRef.nullary, TRef.unary, TRef.toBuf, TRef.ofBuf, cast_eq]
  after_results_simp

theorem part1_main_v15 (W : Valuation τ sig (Elt F)) : after part1 W main_v15 = W main_v15 := by
  simp only [part1, TRef.binary, TRef.nullary, TRef.unary, TRef.toBuf, TRef.ofBuf, cast_eq]
  after_results_simp

theorem part1_main_arg0 (W : Valuation τ sig (Elt F)) : after part1 W main_arg0 = W main_arg0 := by
  simp only [part1, TRef.binary, TRef.nullary, TRef.unary, TRef.toBuf, TRef.ofBuf, cast_eq]
  after_results_simp

theorem part1_main_arg1 (W : Valuation τ sig (Elt F)) : after part1 W main_arg1 = W main_arg1 := by
  simp only [part1, TRef.binary, TRef.nullary, TRef.unary, TRef.toBuf, TRef.ofBuf, cast_eq]
  after_results_simp

theorem part1_main_arg2 (W : Valuation τ sig (Elt F)) : after part1 W main_arg2 = W main_arg2 := by
  simp only [part1, TRef.binary, TRef.nullary, TRef.unary, TRef.toBuf, TRef.ofBuf, cast_eq]
  after_results_simp

theorem part2_main_v19 (W : Valuation τ sig (Elt F)) : after part2 W main_v19 = W main_v19 := by
  simp only [part2, TRef.binary, TRef.nullary, TRef.unary, TRef.toBuf, TRef.ofBuf, cast_eq]
  after_results_simp

theorem part2_main_v23 (W : Valuation τ sig (Elt F)) : after part2 W main_v23 = W main_v23 := by
  simp only [part2, TRef.binary, TRef.nullary, TRef.unary, TRef.toBuf, TRef.ofBuf, cast_eq]
  after_results_simp

theorem part2_main_arg4 (W : Valuation τ sig (Elt F)) : after part2 W main_arg4 = W main_arg4 := by
  simp only [part2, TRef.binary, TRef.nullary, TRef.unary, TRef.toBuf, TRef.ofBuf, cast_eq]
  after_results_simp

theorem part2_main_v1 (W : Valuation τ sig (Elt F)) : after part2 W main_v1 = W main_v1 := by
  simp only [part2, TRef.binary, TRef.nullary, TRef.unary, TRef.toBuf, TRef.ofBuf, cast_eq]
  after_results_simp

theorem part2_main_v3 (W : Valuation τ sig (Elt F)) : after part2 W main_v3 = W main_v3 := by
  simp only [part2, TRef.binary, TRef.nullary, TRef.unary, TRef.toBuf, TRef.ofBuf, cast_eq]
  after_results_simp

theorem part2_main_v7 (W : Valuation τ sig (Elt F)) : after part2 W main_v7 = W main_v7 := by
  simp only [part2, TRef.binary, TRef.nullary, TRef.unary, TRef.toBuf, TRef.ofBuf, cast_eq]
  after_results_simp

theorem part2_main_v9 (W : Valuation τ sig (Elt F)) : after part2 W main_v9 = W main_v9 := by
  simp only [part2, TRef.binary, TRef.nullary, TRef.unary, TRef.toBuf, TRef.ofBuf, cast_eq]
  after_results_simp

theorem part2_main_arg5 (W : Valuation τ sig (Elt F)) : after part2 W main_arg5 = W main_arg5 := by
  simp only [part2, TRef.binary, TRef.nullary, TRef.unary, TRef.toBuf, TRef.ofBuf, cast_eq]
  after_results_simp

theorem part2_main_v5 (W : Valuation τ sig (Elt F)) : after part2 W main_v5 = W main_v5 := by
  simp only [part2, TRef.binary, TRef.nullary, TRef.unary, TRef.toBuf, TRef.ofBuf, cast_eq]
  after_results_simp

theorem part2_main_v11 (W : Valuation τ sig (Elt F)) : after part2 W main_v11 = W main_v11 := by
  simp only [part2, TRef.binary, TRef.nullary, TRef.unary, TRef.toBuf, TRef.ofBuf, cast_eq]
  after_results_simp

theorem part2_main_v13 (W : Valuation τ sig (Elt F)) : after part2 W main_v13 = W main_v13 := by
  simp only [part2, TRef.binary, TRef.nullary, TRef.unary, TRef.toBuf, TRef.ofBuf, cast_eq]
  after_results_simp

theorem part2_main_arg3 (W : Valuation τ sig (Elt F)) : after part2 W main_arg3 = W main_arg3 := by
  simp only [part2, TRef.binary, TRef.nullary, TRef.unary, TRef.toBuf, TRef.ofBuf, cast_eq]
  after_results_simp

theorem part2_main_v15 (W : Valuation τ sig (Elt F)) : after part2 W main_v15 = W main_v15 := by
  simp only [part2, TRef.binary, TRef.nullary, TRef.unary, TRef.toBuf, TRef.ofBuf, cast_eq]
  after_results_simp

theorem part2_main_arg0 (W : Valuation τ sig (Elt F)) : after part2 W main_arg0 = W main_arg0 := by
  simp only [part2, TRef.binary, TRef.nullary, TRef.unary, TRef.toBuf, TRef.ofBuf, cast_eq]
  after_results_simp

theorem part2_main_arg1 (W : Valuation τ sig (Elt F)) : after part2 W main_arg1 = W main_arg1 := by
  simp only [part2, TRef.binary, TRef.nullary, TRef.unary, TRef.toBuf, TRef.ofBuf, cast_eq]
  after_results_simp

theorem part2_main_arg2 (W : Valuation τ sig (Elt F)) : after part2 W main_arg2 = W main_arg2 := by
  simp only [part2, TRef.binary, TRef.nullary, TRef.unary, TRef.toBuf, TRef.ofBuf, cast_eq]
  after_results_simp

theorem part3_main_v1 (W : Valuation τ sig (Elt F)) : after part3 W main_v1 = W main_v1 := by
  simp only [part3, TRef.binary, TRef.nullary, TRef.unary, TRef.toBuf, TRef.ofBuf, cast_eq]
  after_results_simp

theorem part3_main_v3 (W : Valuation τ sig (Elt F)) : after part3 W main_v3 = W main_v3 := by
  simp only [part3, TRef.binary, TRef.nullary, TRef.unary, TRef.toBuf, TRef.ofBuf, cast_eq]
  after_results_simp

theorem part3_main_v7 (W : Valuation τ sig (Elt F)) : after part3 W main_v7 = W main_v7 := by
  simp only [part3, TRef.binary, TRef.nullary, TRef.unary, TRef.toBuf, TRef.ofBuf, cast_eq]
  after_results_simp

theorem part3_main_v9 (W : Valuation τ sig (Elt F)) : after part3 W main_v9 = W main_v9 := by
  simp only [part3, TRef.binary, TRef.nullary, TRef.unary, TRef.toBuf, TRef.ofBuf, cast_eq]
  after_results_simp

theorem part3_main_arg5 (W : Valuation τ sig (Elt F)) : after part3 W main_arg5 = W main_arg5 := by
  simp only [part3, TRef.binary, TRef.nullary, TRef.unary, TRef.toBuf, TRef.ofBuf, cast_eq]
  after_results_simp

theorem part3_main_v5 (W : Valuation τ sig (Elt F)) : after part3 W main_v5 = W main_v5 := by
  simp only [part3, TRef.binary, TRef.nullary, TRef.unary, TRef.toBuf, TRef.ofBuf, cast_eq]
  after_results_simp

theorem part3_main_v11 (W : Valuation τ sig (Elt F)) : after part3 W main_v11 = W main_v11 := by
  simp only [part3, TRef.binary, TRef.nullary, TRef.unary, TRef.toBuf, TRef.ofBuf, cast_eq]
  after_results_simp

theorem part3_main_v13 (W : Valuation τ sig (Elt F)) : after part3 W main_v13 = W main_v13 := by
  simp only [part3, TRef.binary, TRef.nullary, TRef.unary, TRef.toBuf, TRef.ofBuf, cast_eq]
  after_results_simp

theorem part3_main_arg3 (W : Valuation τ sig (Elt F)) : after part3 W main_arg3 = W main_arg3 := by
  simp only [part3, TRef.binary, TRef.nullary, TRef.unary, TRef.toBuf, TRef.ofBuf, cast_eq]
  after_results_simp

theorem part3_main_v15 (W : Valuation τ sig (Elt F)) : after part3 W main_v15 = W main_v15 := by
  simp only [part3, TRef.binary, TRef.nullary, TRef.unary, TRef.toBuf, TRef.ofBuf, cast_eq]
  after_results_simp

theorem part3_main_arg0 (W : Valuation τ sig (Elt F)) : after part3 W main_arg0 = W main_arg0 := by
  simp only [part3, TRef.binary, TRef.nullary, TRef.unary, TRef.toBuf, TRef.ofBuf, cast_eq]
  after_results_simp

theorem part3_main_arg1 (W : Valuation τ sig (Elt F)) : after part3 W main_arg1 = W main_arg1 := by
  simp only [part3, TRef.binary, TRef.nullary, TRef.unary, TRef.toBuf, TRef.ofBuf, cast_eq]
  after_results_simp

theorem part3_main_arg2 (W : Valuation τ sig (Elt F)) : after part3 W main_arg2 = W main_arg2 := by
  simp only [part3, TRef.binary, TRef.nullary, TRef.unary, TRef.toBuf, TRef.ofBuf, cast_eq]
  after_results_simp

theorem part3_main_arg4 (W : Valuation τ sig (Elt F)) : after part3 W main_arg4 = W main_arg4 := by
  simp only [part3, TRef.binary, TRef.nullary, TRef.unary, TRef.toBuf, TRef.ofBuf, cast_eq]
  after_results_simp

theorem part4_main_v7 (W : Valuation τ sig (Elt F)) : after part4 W main_v7 = W main_v7 := by
  simp only [part4, TRef.binary, TRef.nullary, TRef.unary, TRef.toBuf, TRef.ofBuf, cast_eq]
  after_results_simp

theorem part4_main_v9 (W : Valuation τ sig (Elt F)) : after part4 W main_v9 = W main_v9 := by
  simp only [part4, TRef.binary, TRef.nullary, TRef.unary, TRef.toBuf, TRef.ofBuf, cast_eq]
  after_results_simp

theorem part4_main_arg5 (W : Valuation τ sig (Elt F)) : after part4 W main_arg5 = W main_arg5 := by
  simp only [part4, TRef.binary, TRef.nullary, TRef.unary, TRef.toBuf, TRef.ofBuf, cast_eq]
  after_results_simp

theorem part4_main_v5 (W : Valuation τ sig (Elt F)) : after part4 W main_v5 = W main_v5 := by
  simp only [part4, TRef.binary, TRef.nullary, TRef.unary, TRef.toBuf, TRef.ofBuf, cast_eq]
  after_results_simp

theorem part4_main_v11 (W : Valuation τ sig (Elt F)) : after part4 W main_v11 = W main_v11 := by
  simp only [part4, TRef.binary, TRef.nullary, TRef.unary, TRef.toBuf, TRef.ofBuf, cast_eq]
  after_results_simp

theorem part4_main_v13 (W : Valuation τ sig (Elt F)) : after part4 W main_v13 = W main_v13 := by
  simp only [part4, TRef.binary, TRef.nullary, TRef.unary, TRef.toBuf, TRef.ofBuf, cast_eq]
  after_results_simp

theorem part4_main_arg3 (W : Valuation τ sig (Elt F)) : after part4 W main_arg3 = W main_arg3 := by
  simp only [part4, TRef.binary, TRef.nullary, TRef.unary, TRef.toBuf, TRef.ofBuf, cast_eq]
  after_results_simp

theorem part4_main_v15 (W : Valuation τ sig (Elt F)) : after part4 W main_v15 = W main_v15 := by
  simp only [part4, TRef.binary, TRef.nullary, TRef.unary, TRef.toBuf, TRef.ofBuf, cast_eq]
  after_results_simp

theorem part4_main_arg0 (W : Valuation τ sig (Elt F)) : after part4 W main_arg0 = W main_arg0 := by
  simp only [part4, TRef.binary, TRef.nullary, TRef.unary, TRef.toBuf, TRef.ofBuf, cast_eq]
  after_results_simp

theorem part4_main_arg1 (W : Valuation τ sig (Elt F)) : after part4 W main_arg1 = W main_arg1 := by
  simp only [part4, TRef.binary, TRef.nullary, TRef.unary, TRef.toBuf, TRef.ofBuf, cast_eq]
  after_results_simp

theorem part4_main_arg2 (W : Valuation τ sig (Elt F)) : after part4 W main_arg2 = W main_arg2 := by
  simp only [part4, TRef.binary, TRef.nullary, TRef.unary, TRef.toBuf, TRef.ofBuf, cast_eq]
  after_results_simp

theorem part4_main_arg4 (W : Valuation τ sig (Elt F)) : after part4 W main_arg4 = W main_arg4 := by
  simp only [part4, TRef.binary, TRef.nullary, TRef.unary, TRef.toBuf, TRef.ofBuf, cast_eq]
  after_results_simp

theorem part5_main_arg5 (W : Valuation τ sig (Elt F)) : after part5 W main_arg5 = W main_arg5 := by
  simp only [part5, TRef.binary, TRef.nullary, TRef.unary, TRef.toBuf, TRef.ofBuf, cast_eq]
  after_results_simp

theorem part5_main_v5 (W : Valuation τ sig (Elt F)) : after part5 W main_v5 = W main_v5 := by
  simp only [part5, TRef.binary, TRef.nullary, TRef.unary, TRef.toBuf, TRef.ofBuf, cast_eq]
  after_results_simp

theorem part5_main_v11 (W : Valuation τ sig (Elt F)) : after part5 W main_v11 = W main_v11 := by
  simp only [part5, TRef.binary, TRef.nullary, TRef.unary, TRef.toBuf, TRef.ofBuf, cast_eq]
  after_results_simp

theorem part5_main_v13 (W : Valuation τ sig (Elt F)) : after part5 W main_v13 = W main_v13 := by
  simp only [part5, TRef.binary, TRef.nullary, TRef.unary, TRef.toBuf, TRef.ofBuf, cast_eq]
  after_results_simp

theorem part5_main_arg3 (W : Valuation τ sig (Elt F)) : after part5 W main_arg3 = W main_arg3 := by
  simp only [part5, TRef.binary, TRef.nullary, TRef.unary, TRef.toBuf, TRef.ofBuf, cast_eq]
  after_results_simp

theorem part5_main_v15 (W : Valuation τ sig (Elt F)) : after part5 W main_v15 = W main_v15 := by
  simp only [part5, TRef.binary, TRef.nullary, TRef.unary, TRef.toBuf, TRef.ofBuf, cast_eq]
  after_results_simp

theorem part5_main_v49 (W : Valuation τ sig (Elt F)) : after part5 W main_v49 = W main_v49 := by
  simp only [part5, TRef.binary, TRef.nullary, TRef.unary, TRef.toBuf, TRef.ofBuf, cast_eq]
  after_results_simp

theorem part5_main_arg0 (W : Valuation τ sig (Elt F)) : after part5 W main_arg0 = W main_arg0 := by
  simp only [part5, TRef.binary, TRef.nullary, TRef.unary, TRef.toBuf, TRef.ofBuf, cast_eq]
  after_results_simp

theorem part5_main_arg1 (W : Valuation τ sig (Elt F)) : after part5 W main_arg1 = W main_arg1 := by
  simp only [part5, TRef.binary, TRef.nullary, TRef.unary, TRef.toBuf, TRef.ofBuf, cast_eq]
  after_results_simp

theorem part5_main_arg2 (W : Valuation τ sig (Elt F)) : after part5 W main_arg2 = W main_arg2 := by
  simp only [part5, TRef.binary, TRef.nullary, TRef.unary, TRef.toBuf, TRef.ofBuf, cast_eq]
  after_results_simp

theorem part5_main_arg4 (W : Valuation τ sig (Elt F)) : after part5 W main_arg4 = W main_arg4 := by
  simp only [part5, TRef.binary, TRef.nullary, TRef.unary, TRef.toBuf, TRef.ofBuf, cast_eq]
  after_results_simp

theorem part6_main_arg5 (W : Valuation τ sig (Elt F)) : after part6 W main_arg5 = W main_arg5 := by
  simp only [part6, TRef.binary, TRef.nullary, TRef.unary, TRef.toBuf, TRef.ofBuf, cast_eq]
  after_results_simp

theorem part6_main_v5 (W : Valuation τ sig (Elt F)) : after part6 W main_v5 = W main_v5 := by
  simp only [part6, TRef.binary, TRef.nullary, TRef.unary, TRef.toBuf, TRef.ofBuf, cast_eq]
  after_results_simp

theorem part6_main_v11 (W : Valuation τ sig (Elt F)) : after part6 W main_v11 = W main_v11 := by
  simp only [part6, TRef.binary, TRef.nullary, TRef.unary, TRef.toBuf, TRef.ofBuf, cast_eq]
  after_results_simp

theorem part6_main_v13 (W : Valuation τ sig (Elt F)) : after part6 W main_v13 = W main_v13 := by
  simp only [part6, TRef.binary, TRef.nullary, TRef.unary, TRef.toBuf, TRef.ofBuf, cast_eq]
  after_results_simp

theorem part6_main_arg3 (W : Valuation τ sig (Elt F)) : after part6 W main_arg3 = W main_arg3 := by
  simp only [part6, TRef.binary, TRef.nullary, TRef.unary, TRef.toBuf, TRef.ofBuf, cast_eq]
  after_results_simp

theorem part6_main_v15 (W : Valuation τ sig (Elt F)) : after part6 W main_v15 = W main_v15 := by
  simp only [part6, TRef.binary, TRef.nullary, TRef.unary, TRef.toBuf, TRef.ofBuf, cast_eq]
  after_results_simp

theorem part6_main_v49 (W : Valuation τ sig (Elt F)) : after part6 W main_v49 = W main_v49 := by
  simp only [part6, TRef.binary, TRef.nullary, TRef.unary, TRef.toBuf, TRef.ofBuf, cast_eq]
  after_results_simp

theorem part6_main_arg0 (W : Valuation τ sig (Elt F)) : after part6 W main_arg0 = W main_arg0 := by
  simp only [part6, TRef.binary, TRef.nullary, TRef.unary, TRef.toBuf, TRef.ofBuf, cast_eq]
  after_results_simp

theorem part6_main_arg1 (W : Valuation τ sig (Elt F)) : after part6 W main_arg1 = W main_arg1 := by
  simp only [part6, TRef.binary, TRef.nullary, TRef.unary, TRef.toBuf, TRef.ofBuf, cast_eq]
  after_results_simp

theorem part6_main_arg2 (W : Valuation τ sig (Elt F)) : after part6 W main_arg2 = W main_arg2 := by
  simp only [part6, TRef.binary, TRef.nullary, TRef.unary, TRef.toBuf, TRef.ofBuf, cast_eq]
  after_results_simp

theorem part6_main_arg4 (W : Valuation τ sig (Elt F)) : after part6 W main_arg4 = W main_arg4 := by
  simp only [part6, TRef.binary, TRef.nullary, TRef.unary, TRef.toBuf, TRef.ofBuf, cast_eq]
  after_results_simp

theorem part7_main_v5 (W : Valuation τ sig (Elt F)) : after part7 W main_v5 = W main_v5 := by
  simp only [part7, TRef.binary, TRef.nullary, TRef.unary, TRef.toBuf, TRef.ofBuf, cast_eq]
  after_results_simp

theorem part7_main_v11 (W : Valuation τ sig (Elt F)) : after part7 W main_v11 = W main_v11 := by
  simp only [part7, TRef.binary, TRef.nullary, TRef.unary, TRef.toBuf, TRef.ofBuf, cast_eq]
  after_results_simp

theorem part7_main_v13 (W : Valuation τ sig (Elt F)) : after part7 W main_v13 = W main_v13 := by
  simp only [part7, TRef.binary, TRef.nullary, TRef.unary, TRef.toBuf, TRef.ofBuf, cast_eq]
  after_results_simp

theorem part7_main_arg3 (W : Valuation τ sig (Elt F)) : after part7 W main_arg3 = W main_arg3 := by
  simp only [part7, TRef.binary, TRef.nullary, TRef.unary, TRef.toBuf, TRef.ofBuf, cast_eq]
  after_results_simp

theorem part7_main_v15 (W : Valuation τ sig (Elt F)) : after part7 W main_v15 = W main_v15 := by
  simp only [part7, TRef.binary, TRef.nullary, TRef.unary, TRef.toBuf, TRef.ofBuf, cast_eq]
  after_results_simp

theorem part7_main_v49 (W : Valuation τ sig (Elt F)) : after part7 W main_v49 = W main_v49 := by
  simp only [part7, TRef.binary, TRef.nullary, TRef.unary, TRef.toBuf, TRef.ofBuf, cast_eq]
  after_results_simp

theorem part7_main_arg0 (W : Valuation τ sig (Elt F)) : after part7 W main_arg0 = W main_arg0 := by
  simp only [part7, TRef.binary, TRef.nullary, TRef.unary, TRef.toBuf, TRef.ofBuf, cast_eq]
  after_results_simp

theorem part7_main_arg1 (W : Valuation τ sig (Elt F)) : after part7 W main_arg1 = W main_arg1 := by
  simp only [part7, TRef.binary, TRef.nullary, TRef.unary, TRef.toBuf, TRef.ofBuf, cast_eq]
  after_results_simp

theorem part7_main_arg2 (W : Valuation τ sig (Elt F)) : after part7 W main_arg2 = W main_arg2 := by
  simp only [part7, TRef.binary, TRef.nullary, TRef.unary, TRef.toBuf, TRef.ofBuf, cast_eq]
  after_results_simp

theorem part7_main_arg4 (W : Valuation τ sig (Elt F)) : after part7 W main_arg4 = W main_arg4 := by
  simp only [part7, TRef.binary, TRef.nullary, TRef.unary, TRef.toBuf, TRef.ofBuf, cast_eq]
  after_results_simp

theorem part7_main_arg5 (W : Valuation τ sig (Elt F)) : after part7 W main_arg5 = W main_arg5 := by
  simp only [part7, TRef.binary, TRef.nullary, TRef.unary, TRef.toBuf, TRef.ofBuf, cast_eq]
  after_results_simp

theorem part8_main_v13 (W : Valuation τ sig (Elt F)) : after part8 W main_v13 = W main_v13 := by
  simp only [part8, TRef.binary, TRef.nullary, TRef.unary, TRef.toBuf, TRef.ofBuf, cast_eq]
  after_results_simp

theorem part8_main_arg3 (W : Valuation τ sig (Elt F)) : after part8 W main_arg3 = W main_arg3 := by
  simp only [part8, TRef.binary, TRef.nullary, TRef.unary, TRef.toBuf, TRef.ofBuf, cast_eq]
  after_results_simp

theorem part8_main_v15 (W : Valuation τ sig (Elt F)) : after part8 W main_v15 = W main_v15 := by
  simp only [part8, TRef.binary, TRef.nullary, TRef.unary, TRef.toBuf, TRef.ofBuf, cast_eq]
  after_results_simp

theorem part8_main_v49 (W : Valuation τ sig (Elt F)) : after part8 W main_v49 = W main_v49 := by
  simp only [part8, TRef.binary, TRef.nullary, TRef.unary, TRef.toBuf, TRef.ofBuf, cast_eq]
  after_results_simp

theorem part8_main_arg0 (W : Valuation τ sig (Elt F)) : after part8 W main_arg0 = W main_arg0 := by
  simp only [part8, TRef.binary, TRef.nullary, TRef.unary, TRef.toBuf, TRef.ofBuf, cast_eq]
  after_results_simp

theorem part8_main_arg1 (W : Valuation τ sig (Elt F)) : after part8 W main_arg1 = W main_arg1 := by
  simp only [part8, TRef.binary, TRef.nullary, TRef.unary, TRef.toBuf, TRef.ofBuf, cast_eq]
  after_results_simp

theorem part8_main_arg2 (W : Valuation τ sig (Elt F)) : after part8 W main_arg2 = W main_arg2 := by
  simp only [part8, TRef.binary, TRef.nullary, TRef.unary, TRef.toBuf, TRef.ofBuf, cast_eq]
  after_results_simp

theorem part8_main_arg4 (W : Valuation τ sig (Elt F)) : after part8 W main_arg4 = W main_arg4 := by
  simp only [part8, TRef.binary, TRef.nullary, TRef.unary, TRef.toBuf, TRef.ofBuf, cast_eq]
  after_results_simp

theorem part8_main_arg5 (W : Valuation τ sig (Elt F)) : after part8 W main_arg5 = W main_arg5 := by
  simp only [part8, TRef.binary, TRef.nullary, TRef.unary, TRef.toBuf, TRef.ofBuf, cast_eq]
  after_results_simp

theorem part9_main_v15 (W : Valuation τ sig (Elt F)) : after part9 W main_v15 = W main_v15 := by
  simp only [part9, TRef.binary, TRef.nullary, TRef.unary, TRef.toBuf, TRef.ofBuf, cast_eq]
  after_results_simp

theorem part9_main_v49 (W : Valuation τ sig (Elt F)) : after part9 W main_v49 = W main_v49 := by
  simp only [part9, TRef.binary, TRef.nullary, TRef.unary, TRef.toBuf, TRef.ofBuf, cast_eq]
  after_results_simp

theorem part9_main_v76 (W : Valuation τ sig (Elt F)) : after part9 W main_v76 = W main_v76 := by
  simp only [part9, TRef.binary, TRef.nullary, TRef.unary, TRef.toBuf, TRef.ofBuf, cast_eq]
  after_results_simp

theorem part9_main_arg0 (W : Valuation τ sig (Elt F)) : after part9 W main_arg0 = W main_arg0 := by
  simp only [part9, TRef.binary, TRef.nullary, TRef.unary, TRef.toBuf, TRef.ofBuf, cast_eq]
  after_results_simp

theorem part9_main_arg1 (W : Valuation τ sig (Elt F)) : after part9 W main_arg1 = W main_arg1 := by
  simp only [part9, TRef.binary, TRef.nullary, TRef.unary, TRef.toBuf, TRef.ofBuf, cast_eq]
  after_results_simp

theorem part9_main_arg2 (W : Valuation τ sig (Elt F)) : after part9 W main_arg2 = W main_arg2 := by
  simp only [part9, TRef.binary, TRef.nullary, TRef.unary, TRef.toBuf, TRef.ofBuf, cast_eq]
  after_results_simp

theorem part9_main_arg3 (W : Valuation τ sig (Elt F)) : after part9 W main_arg3 = W main_arg3 := by
  simp only [part9, TRef.binary, TRef.nullary, TRef.unary, TRef.toBuf, TRef.ofBuf, cast_eq]
  after_results_simp

theorem part9_main_arg4 (W : Valuation τ sig (Elt F)) : after part9 W main_arg4 = W main_arg4 := by
  simp only [part9, TRef.binary, TRef.nullary, TRef.unary, TRef.toBuf, TRef.ofBuf, cast_eq]
  after_results_simp

theorem part9_main_arg5 (W : Valuation τ sig (Elt F)) : after part9 W main_arg5 = W main_arg5 := by
  simp only [part9, TRef.binary, TRef.nullary, TRef.unary, TRef.toBuf, TRef.ofBuf, cast_eq]
  after_results_simp

theorem part10_main_v86 (W : Valuation τ sig (Elt F)) : after part10 W main_v86 = W main_v86 := by
  simp only [part10, TRef.binary, TRef.nullary, TRef.unary, TRef.toBuf, TRef.ofBuf, cast_eq]
  after_results_simp

theorem part10_main_v83 (W : Valuation τ sig (Elt F)) : after part10 W main_v83 = W main_v83 := by
  simp only [part10, TRef.binary, TRef.nullary, TRef.unary, TRef.toBuf, TRef.ofBuf, cast_eq]
  after_results_simp

theorem part10_main_v15 (W : Valuation τ sig (Elt F)) : after part10 W main_v15 = W main_v15 := by
  simp only [part10, TRef.binary, TRef.nullary, TRef.unary, TRef.toBuf, TRef.ofBuf, cast_eq]
  after_results_simp

theorem part10_main_v49 (W : Valuation τ sig (Elt F)) : after part10 W main_v49 = W main_v49 := by
  simp only [part10, TRef.binary, TRef.nullary, TRef.unary, TRef.toBuf, TRef.ofBuf, cast_eq]
  after_results_simp

theorem part10_main_v76 (W : Valuation τ sig (Elt F)) : after part10 W main_v76 = W main_v76 := by
  simp only [part10, TRef.binary, TRef.nullary, TRef.unary, TRef.toBuf, TRef.ofBuf, cast_eq]
  after_results_simp

theorem part10_main_arg0 (W : Valuation τ sig (Elt F)) : after part10 W main_arg0 = W main_arg0 := by
  simp only [part10, TRef.binary, TRef.nullary, TRef.unary, TRef.toBuf, TRef.ofBuf, cast_eq]
  after_results_simp

theorem part10_main_arg1 (W : Valuation τ sig (Elt F)) : after part10 W main_arg1 = W main_arg1 := by
  simp only [part10, TRef.binary, TRef.nullary, TRef.unary, TRef.toBuf, TRef.ofBuf, cast_eq]
  after_results_simp

theorem part10_main_arg2 (W : Valuation τ sig (Elt F)) : after part10 W main_arg2 = W main_arg2 := by
  simp only [part10, TRef.binary, TRef.nullary, TRef.unary, TRef.toBuf, TRef.ofBuf, cast_eq]
  after_results_simp

theorem part10_main_arg3 (W : Valuation τ sig (Elt F)) : after part10 W main_arg3 = W main_arg3 := by
  simp only [part10, TRef.binary, TRef.nullary, TRef.unary, TRef.toBuf, TRef.ofBuf, cast_eq]
  after_results_simp

theorem part10_main_arg4 (W : Valuation τ sig (Elt F)) : after part10 W main_arg4 = W main_arg4 := by
  simp only [part10, TRef.binary, TRef.nullary, TRef.unary, TRef.toBuf, TRef.ofBuf, cast_eq]
  after_results_simp

theorem part10_main_arg5 (W : Valuation τ sig (Elt F)) : after part10 W main_arg5 = W main_arg5 := by
  simp only [part10, TRef.binary, TRef.nullary, TRef.unary, TRef.toBuf, TRef.ofBuf, cast_eq]
  after_results_simp

theorem part11_main_v83 (W : Valuation τ sig (Elt F)) : after part11 W main_v83 = W main_v83 := by
  simp only [part11, TRef.binary, TRef.nullary, TRef.unary, TRef.toBuf, TRef.ofBuf, cast_eq]
  after_results_simp

theorem part11_main_v15 (W : Valuation τ sig (Elt F)) : after part11 W main_v15 = W main_v15 := by
  simp only [part11, TRef.binary, TRef.nullary, TRef.unary, TRef.toBuf, TRef.ofBuf, cast_eq]
  after_results_simp

theorem part11_main_v49 (W : Valuation τ sig (Elt F)) : after part11 W main_v49 = W main_v49 := by
  simp only [part11, TRef.binary, TRef.nullary, TRef.unary, TRef.toBuf, TRef.ofBuf, cast_eq]
  after_results_simp

theorem part11_main_v76 (W : Valuation τ sig (Elt F)) : after part11 W main_v76 = W main_v76 := by
  simp only [part11, TRef.binary, TRef.nullary, TRef.unary, TRef.toBuf, TRef.ofBuf, cast_eq]
  after_results_simp

theorem part11_main_arg0 (W : Valuation τ sig (Elt F)) : after part11 W main_arg0 = W main_arg0 := by
  simp only [part11, TRef.binary, TRef.nullary, TRef.unary, TRef.toBuf, TRef.ofBuf, cast_eq]
  after_results_simp

theorem part11_main_arg1 (W : Valuation τ sig (Elt F)) : after part11 W main_arg1 = W main_arg1 := by
  simp only [part11, TRef.binary, TRef.nullary, TRef.unary, TRef.toBuf, TRef.ofBuf, cast_eq]
  after_results_simp

theorem part11_main_arg2 (W : Valuation τ sig (Elt F)) : after part11 W main_arg2 = W main_arg2 := by
  simp only [part11, TRef.binary, TRef.nullary, TRef.unary, TRef.toBuf, TRef.ofBuf, cast_eq]
  after_results_simp

theorem part11_main_arg3 (W : Valuation τ sig (Elt F)) : after part11 W main_arg3 = W main_arg3 := by
  simp only [part11, TRef.binary, TRef.nullary, TRef.unary, TRef.toBuf, TRef.ofBuf, cast_eq]
  after_results_simp

theorem part11_main_arg4 (W : Valuation τ sig (Elt F)) : after part11 W main_arg4 = W main_arg4 := by
  simp only [part11, TRef.binary, TRef.nullary, TRef.unary, TRef.toBuf, TRef.ofBuf, cast_eq]
  after_results_simp

theorem part11_main_arg5 (W : Valuation τ sig (Elt F)) : after part11 W main_arg5 = W main_arg5 := by
  simp only [part11, TRef.binary, TRef.nullary, TRef.unary, TRef.toBuf, TRef.ofBuf, cast_eq]
  after_results_simp

theorem part12_main_v83 (W : Valuation τ sig (Elt F)) : after part12 W main_v83 = W main_v83 := by
  simp only [part12, TRef.binary, TRef.nullary, TRef.unary, TRef.toBuf, TRef.ofBuf, cast_eq]
  after_results_simp

theorem part12_main_v15 (W : Valuation τ sig (Elt F)) : after part12 W main_v15 = W main_v15 := by
  simp only [part12, TRef.binary, TRef.nullary, TRef.unary, TRef.toBuf, TRef.ofBuf, cast_eq]
  after_results_simp

theorem part12_main_v49 (W : Valuation τ sig (Elt F)) : after part12 W main_v49 = W main_v49 := by
  simp only [part12, TRef.binary, TRef.nullary, TRef.unary, TRef.toBuf, TRef.ofBuf, cast_eq]
  after_results_simp

theorem part12_main_v76 (W : Valuation τ sig (Elt F)) : after part12 W main_v76 = W main_v76 := by
  simp only [part12, TRef.binary, TRef.nullary, TRef.unary, TRef.toBuf, TRef.ofBuf, cast_eq]
  after_results_simp

theorem part12_main_arg0 (W : Valuation τ sig (Elt F)) : after part12 W main_arg0 = W main_arg0 := by
  simp only [part12, TRef.binary, TRef.nullary, TRef.unary, TRef.toBuf, TRef.ofBuf, cast_eq]
  after_results_simp

theorem part12_main_arg1 (W : Valuation τ sig (Elt F)) : after part12 W main_arg1 = W main_arg1 := by
  simp only [part12, TRef.binary, TRef.nullary, TRef.unary, TRef.toBuf, TRef.ofBuf, cast_eq]
  after_results_simp

theorem part12_main_arg2 (W : Valuation τ sig (Elt F)) : after part12 W main_arg2 = W main_arg2 := by
  simp only [part12, TRef.binary, TRef.nullary, TRef.unary, TRef.toBuf, TRef.ofBuf, cast_eq]
  after_results_simp

theorem part12_main_arg3 (W : Valuation τ sig (Elt F)) : after part12 W main_arg3 = W main_arg3 := by
  simp only [part12, TRef.binary, TRef.nullary, TRef.unary, TRef.toBuf, TRef.ofBuf, cast_eq]
  after_results_simp

theorem part12_main_arg4 (W : Valuation τ sig (Elt F)) : after part12 W main_arg4 = W main_arg4 := by
  simp only [part12, TRef.binary, TRef.nullary, TRef.unary, TRef.toBuf, TRef.ofBuf, cast_eq]
  after_results_simp

theorem part12_main_arg5 (W : Valuation τ sig (Elt F)) : after part12 W main_arg5 = W main_arg5 := by
  simp only [part12, TRef.binary, TRef.nullary, TRef.unary, TRef.toBuf, TRef.ofBuf, cast_eq]
  after_results_simp

theorem part13_main_v49 (W : Valuation τ sig (Elt F)) : after part13 W main_v49 = W main_v49 := by
  simp only [part13, TRef.binary, TRef.nullary, TRef.unary, TRef.toBuf, TRef.ofBuf, cast_eq]
  after_results_simp

theorem part13_main_v76 (W : Valuation τ sig (Elt F)) : after part13 W main_v76 = W main_v76 := by
  simp only [part13, TRef.binary, TRef.nullary, TRef.unary, TRef.toBuf, TRef.ofBuf, cast_eq]
  after_results_simp

theorem part13_main_arg0 (W : Valuation τ sig (Elt F)) : after part13 W main_arg0 = W main_arg0 := by
  simp only [part13, TRef.binary, TRef.nullary, TRef.unary, TRef.toBuf, TRef.ofBuf, cast_eq]
  after_results_simp

theorem part13_main_arg1 (W : Valuation τ sig (Elt F)) : after part13 W main_arg1 = W main_arg1 := by
  simp only [part13, TRef.binary, TRef.nullary, TRef.unary, TRef.toBuf, TRef.ofBuf, cast_eq]
  after_results_simp

theorem part13_main_arg2 (W : Valuation τ sig (Elt F)) : after part13 W main_arg2 = W main_arg2 := by
  simp only [part13, TRef.binary, TRef.nullary, TRef.unary, TRef.toBuf, TRef.ofBuf, cast_eq]
  after_results_simp

theorem part13_main_arg3 (W : Valuation τ sig (Elt F)) : after part13 W main_arg3 = W main_arg3 := by
  simp only [part13, TRef.binary, TRef.nullary, TRef.unary, TRef.toBuf, TRef.ofBuf, cast_eq]
  after_results_simp

theorem part13_main_arg4 (W : Valuation τ sig (Elt F)) : after part13 W main_arg4 = W main_arg4 := by
  simp only [part13, TRef.binary, TRef.nullary, TRef.unary, TRef.toBuf, TRef.ofBuf, cast_eq]
  after_results_simp

theorem part13_main_arg5 (W : Valuation τ sig (Elt F)) : after part13 W main_arg5 = W main_arg5 := by
  simp only [part13, TRef.binary, TRef.nullary, TRef.unary, TRef.toBuf, TRef.ofBuf, cast_eq]
  after_results_simp

theorem part14_main_arg0 (W : Valuation τ sig (Elt F)) : after part14 W main_arg0 = W main_arg0 := by
  simp only [part14, TRef.binary, TRef.nullary, TRef.unary, TRef.toBuf, TRef.ofBuf, cast_eq]
  after_results_simp

theorem part14_main_arg1 (W : Valuation τ sig (Elt F)) : after part14 W main_arg1 = W main_arg1 := by
  simp only [part14, TRef.binary, TRef.nullary, TRef.unary, TRef.toBuf, TRef.ofBuf, cast_eq]
  after_results_simp

theorem part14_main_arg2 (W : Valuation τ sig (Elt F)) : after part14 W main_arg2 = W main_arg2 := by
  simp only [part14, TRef.binary, TRef.nullary, TRef.unary, TRef.toBuf, TRef.ofBuf, cast_eq]
  after_results_simp

theorem part14_main_arg3 (W : Valuation τ sig (Elt F)) : after part14 W main_arg3 = W main_arg3 := by
  simp only [part14, TRef.binary, TRef.nullary, TRef.unary, TRef.toBuf, TRef.ofBuf, cast_eq]
  after_results_simp

theorem part14_main_arg4 (W : Valuation τ sig (Elt F)) : after part14 W main_arg4 = W main_arg4 := by
  simp only [part14, TRef.binary, TRef.nullary, TRef.unary, TRef.toBuf, TRef.ofBuf, cast_eq]
  after_results_simp

theorem part14_main_arg5 (W : Valuation τ sig (Elt F)) : after part14 W main_arg5 = W main_arg5 := by
  simp only [part14, TRef.binary, TRef.nullary, TRef.unary, TRef.toBuf, TRef.ofBuf, cast_eq]
  after_results_simp

end Cert.Reference4Ideal.Hand

end
-- ==== Proof.Hand.Branches.Reference.lean ====
/- The run of the reference of the branches: its three results as terms of the arguments. -/
module

public import proofs.«01_k».proof.Proof.Hand.Branches.Steps

@[expose] public section

set_option maxRecDepth 16384

noncomputable section

namespace Cert.Reference4Ideal.Hand

open Cert.Reference4Ideal Cert.Reference4Ideal.Gen Idealize.ShloMosaic Idealize.ShloMosaic.TcCoe Idealize.SL.Sem Idealize.ShloMosaic.StableHlo

variable {F : FTy → Type} [FloatOps F]

theorem after_both (l₁ l₂ : List (HloOp τ sig (Elt F))) (W : Valuation τ sig (Elt F)) : after (l₁ ++ l₂) W = after l₂ (after l₁ W) := by
  induction l₁ generalizing W with
  | nil => rfl
  | cons op l ih => exact ih _

/-- The statements of part 0, before others. -/
theorem block0 (L : List (HloOp τ sig (Elt F))) : (do
  hlo rfl (StableHlo.unary main_arg0 main_v0 ((extractStridedSlice S32768x2048 ![0, 6144] · slices_S32768x28672_S32768x2048_0_6144) : (⟨S32768x28672, .bf16⟩ : BufTy).Contents (Elt F) → (⟨S32768x2048, .bf16⟩ : BufTy).Contents (Elt F))) (fun _ => .ret ⟨⟩)
  hlo rfl (StableHlo.unary main_v0 main_v1 ((extf .f32 · bitsLt_bf16_f32) : (⟨S32768x2048, .bf16⟩ : BufTy).Contents (Elt F) → (⟨S32768x2048, .f32⟩ : BufTy).Contents (Elt F))) (fun _ => .ret ⟨⟩)
  hlo rfl (StableHlo.unary main_arg0 main_v2 ((extractStridedSlice S32768x2048 ![0, 8192] · slices_S32768x28672_S32768x2048_0_8192) : (⟨S32768x28672, .bf16⟩ : BufTy).Contents (Elt F) → (⟨S32768x2048, .bf16⟩ : BufTy).Contents (Elt F))) (fun _ => .ret ⟨⟩)
  hlo rfl (StableHlo.unary main_v2 main_v3 ((extf .f32 · bitsLt_bf16_f32) : (⟨S32768x2048, .bf16⟩ : BufTy).Contents (Elt F) → (⟨S32768x2048, .f32⟩ : BufTy).Contents (Elt F))) (fun _ => .ret ⟨⟩)
  hlo rfl (StableHlo.unary main_arg0 main_v4 ((extractStridedSlice S32768x2048 ![0, 10240] · slices_S32768x28672_S32768x2048_0_10240) : (⟨S32768x28672, .bf16⟩ : BufTy).Contents (Elt F) → (⟨S32768x2048, .bf16⟩ : BufTy).Contents (Elt F))) (fun _ => .ret ⟨⟩)
  hlo rfl (StableHlo.unary main_v4 main_v5 ((extf .f32 · bitsLt_bf16_f32) : (⟨S32768x2048, .bf16⟩ : BufTy).Contents (Elt F) → (⟨S32768x2048, .f32⟩ : BufTy).Contents (Elt F))) (fun _ => .ret ⟨⟩)
  hlo rfl (StableHlo.unary main_arg0 main_v6 ((extractStridedSlice S32768x2048 ![0, 12288] · slices_S32768x28672_S32768x2048_0_12288) : (⟨S32768x28672, .bf16⟩ : BufTy).Contents (Elt F) → (⟨S32768x2048, .bf16⟩ : BufTy).Contents (Elt F))) (fun _ => .ret ⟨⟩)
  hlo rfl (StableHlo.unary main_v6 main_v7 ((extf .f32 · bitsLt_bf16_f32) : (⟨S32768x2048, .bf16⟩ : BufTy).Contents (Elt F) → (⟨S32768x2048, .f32⟩ : BufTy).Contents (Elt F))) (fun _ => .ret ⟨⟩)
  hlo rfl (StableHlo.unary main_arg0 main_v8 ((extractStridedSlice S32768x2048 ![0, 14336] · slices_S32768x28672_S32768x2048_0_14336) : (⟨S32768x28672, .bf16⟩ : BufTy).Contents (Elt F) → (⟨S32768x2048, .bf16⟩ : BufTy).Contents (Elt F))) (fun _ => .ret ⟨⟩)
  hlo rfl (StableHlo.unary main_v8 main_v9 ((extf .f32 · bitsLt_bf16_f32) : (⟨S32768x2048, .bf16⟩ : BufTy).Contents (Elt F) → (⟨S32768x2048, .f32⟩ : BufTy).Contents (Elt F))) (fun _ => .ret ⟨⟩)
  hlo rfl (StableHlo.unary main_arg0 main_v10 ((extractStridedSlice S32768x2048 ![0, 16384] · slices_S32768x28672_S32768x2048_0_16384) : (⟨S32768x28672, .bf16⟩ : BufTy).Contents (Elt F) → (⟨S32768x2048, .bf16⟩ : BufTy).Contents (Elt F))) (fun _ => .ret ⟨⟩)
  hlo rfl (StableHlo.unary main_v10 main_v11 ((extf .f32 · bitsLt_bf16_f32) : (⟨S32768x2048, .bf16⟩ : BufTy).Contents (Elt F) → (⟨S32768x2048, .f32⟩ : BufTy).Contents (Elt F))) (fun _ => .ret ⟨⟩)
  hlo rfl (StableHlo.unary main_arg0 main_v12 ((extractStridedSlice S32768x2048 ![0, 18432] · slices_S32768x28672_S32768x2048_0_18432) : (⟨S32768x28672, .bf16⟩ : BufTy).Contents (Elt F) → (⟨S32768x2048, .bf16⟩ : BufTy).Contents (Elt F))) (fun _ => .ret ⟨⟩)
  hlo rfl (StableHlo.unary main_v12 main_v13 ((extf .f32 · bitsLt_bf16_f32) : (⟨S32768x2048, .bf16⟩ : BufTy).Contents (Elt F) → (⟨S32768x2048, .f32⟩ : BufTy).Contents (Elt F))) (fun _ => .ret ⟨⟩)
  hlo rfl (StableHlo.unary main_arg0 main_v14 ((extractStridedSlice S32768x2048 ![0, 20480] · slices_S32768x28672_S32768x2048_0_20480) : (⟨S32768x28672, .bf16⟩ : BufTy).Contents (Elt F) → (⟨S32768x2048, .bf16⟩ : BufTy).Contents (Elt F))) (fun _ => .ret ⟨⟩)
  hlo rfl (StableHlo.unary main_v14 main_v15 ((extf .f32 · bitsLt_bf16_f32) : (⟨S32768x2048, .bf16⟩ : BufTy).Contents (Elt F) → (⟨S32768x2048, .f32⟩ : BufTy).Contents (Elt F))) (fun _ => .ret ⟨⟩)
  seq L : (Prog (TpuEff nD τ sig (Elt F) (Pipeline.Sig Λ₀ (Fin 0) fun p => (pcfgs (F := F) p).Adm) .tc) PUnit)) = seq (part0 ++ L) := rfl

/-- The statements of part 1, before others. -/
theorem block1 (L : List (HloOp τ sig (Elt F))) : (do
  hlo rfl (StableHlo.unary main_arg1 main_v16 ((extf .f32 · bitsLt_bf16_f32) : (⟨S32768x2048, .bf16⟩ : BufTy).Contents (Elt F) → (⟨S32768x2048, .f32⟩ : BufTy).Contents (Elt F))) (fun _ => .ret ⟨⟩)
  hlo rfl (StableHlo.unary main_arg2 main_v17 ((extf .f32 · bitsLt_bf16_f32) : (⟨S32768x2048, .bf16⟩ : BufTy).Contents (Elt F) → (⟨S32768x2048, .f32⟩ : BufTy).Contents (Elt F))) (fun _ => .ret ⟨⟩)
  hlo rfl (StableHlo.binary main_v16 main_v17 main_v18 (addf : (⟨S32768x2048, .f32⟩ : BufTy).Contents (Elt F) → (⟨S32768x2048, .f32⟩ : BufTy).Contents (Elt F) → (⟨S32768x2048, .f32⟩ : BufTy).Contents (Elt F))) (fun _ => .ret ⟨⟩)
  hlo rfl (StableHlo.reshape main_v18 main_v19 (rfl : (.f32 : EltTy) = .f32) shapeCasts_S32768x2048_S32768x8x256) (fun _ => .ret ⟨⟩)
  hlo rfl (StableHlo.nullary main_cst (constant S_ .f32 0x00000000#32)) (fun _ => .ret ⟨⟩)
  hlo rfl (StableHlo.binary main_v19 main_cst main_v20 ((fun x v => Host.reduceAdd x v reducesTo_S32768x8x256_S32768x8_d2 h_S_) : (⟨S32768x8x256, .f32⟩ : BufTy).Contents (Elt F) → (⟨S_, .f32⟩ : BufTy).Contents (Elt F) → (⟨S32768x8, .f32⟩ : BufTy).Contents (Elt F))) (fun _ => .ret ⟨⟩)
  hlo rfl (StableHlo.unary main_v20 main_v21 (broadcastInDim S32768x8x1 ![0, 1] bcast_S32768x8_S32768x8x1_0_1 : (⟨S32768x8, .f32⟩ : BufTy).Contents (Elt F) → (⟨S32768x8x1, .f32⟩ : BufTy).Contents (Elt F))) (fun _ => .ret ⟨⟩)
  hlo rfl (StableHlo.nullary main_cst_0 (constant S_ .f32 0x43800000#32)) (fun _ => .ret ⟨⟩)
  hlo rfl (StableHlo.unary main_cst_0 main_v22 (broadcastInDim S32768x8x1 ![] bcast_S_S32768x8x1 : (⟨S_, .f32⟩ : BufTy).Contents (Elt F) → (⟨S32768x8x1, .f32⟩ : BufTy).Contents (Elt F))) (fun _ => .ret ⟨⟩)
  hlo rfl (StableHlo.binary main_v21 main_v22 main_v23 (Host.divf : (⟨S32768x8x1, .f32⟩ : BufTy).Contents (Elt F) → (⟨S32768x8x1, .f32⟩ : BufTy).Contents (Elt F) → (⟨S32768x8x1, .f32⟩ : BufTy).Contents (Elt F))) (fun _ => .ret ⟨⟩)
  seq L : (Prog (TpuEff nD τ sig (Elt F) (Pipeline.Sig Λ₀ (Fin 0) fun p => (pcfgs (F := F) p).Adm) .tc) PUnit)) = seq (part1 ++ L) := rfl

/-- The statements of part 2, before others. -/
theorem block2 (L : List (HloOp τ sig (Elt F))) : (do
  hlo rfl (StableHlo.unary main_v23 main_v24 (broadcastInDim S32768x8x256 ![0, 1, 2] bcast_S32768x8x1_S32768x8x256_0_1_2 : (⟨S32768x8x1, .f32⟩ : BufTy).Contents (Elt F) → (⟨S32768x8x256, .f32⟩ : BufTy).Contents (Elt F))) (fun _ => .ret ⟨⟩)
  hlo rfl (StableHlo.binary main_v19 main_v24 main_v25 (subf : (⟨S32768x8x256, .f32⟩ : BufTy).Contents (Elt F) → (⟨S32768x8x256, .f32⟩ : BufTy).Contents (Elt F) → (⟨S32768x8x256, .f32⟩ : BufTy).Contents (Elt F))) (fun _ => .ret ⟨⟩)
  hlo rfl (StableHlo.binary main_v25 main_v25 main_v26 (mulf : (⟨S32768x8x256, .f32⟩ : BufTy).Contents (Elt F) → (⟨S32768x8x256, .f32⟩ : BufTy).Contents (Elt F) → (⟨S32768x8x256, .f32⟩ : BufTy).Contents (Elt F))) (fun _ => .ret ⟨⟩)
  hlo rfl (StableHlo.nullary main_cst_1 (constant S_ .f32 0x00000000#32)) (fun _ => .ret ⟨⟩)
  hlo rfl (StableHlo.binary main_v26 main_cst_1 main_v27 ((fun x v => Host.reduceAdd x v reducesTo_S32768x8x256_S32768x8_d2 h_S_) : (⟨S32768x8x256, .f32⟩ : BufTy).Contents (Elt F) → (⟨S_, .f32⟩ : BufTy).Contents (Elt F) → (⟨S32768x8, .f32⟩ : BufTy).Contents (Elt F))) (fun _ => .ret ⟨⟩)
  hlo rfl (StableHlo.unary main_v27 main_v28 (broadcastInDim S32768x8x1 ![0, 1] bcast_S32768x8_S32768x8x1_0_1 : (⟨S32768x8, .f32⟩ : BufTy).Contents (Elt F) → (⟨S32768x8x1, .f32⟩ : BufTy).Contents (Elt F))) (fun _ => .ret ⟨⟩)
  hlo rfl (StableHlo.nullary main_cst_2 (constant S_ .f32 0x43800000#32)) (fun _ => .ret ⟨⟩)
  hlo rfl (StableHlo.unary main_cst_2 main_v29 (broadcastInDim S32768x8x1 ![] bcast_S_S32768x8x1 : (⟨S_, .f32⟩ : BufTy).Contents (Elt F) → (⟨S32768x8x1, .f32⟩ : BufTy).Contents (Elt F))) (fun _ => .ret ⟨⟩)
  hlo rfl (StableHlo.binary main_v28 main_v29 main_v30 (Host.divf : (⟨S32768x8x1, .f32⟩ : BufTy).Contents (Elt F) → (⟨S32768x8x1, .f32⟩ : BufTy).Contents (Elt F) → (⟨S32768x8x1, .f32⟩ : BufTy).Contents (Elt F))) (fun _ => .ret ⟨⟩)
  seq L : (Prog (TpuEff nD τ sig (Elt F) (Pipeline.Sig Λ₀ (Fin 0) fun p => (pcfgs (F := F) p).Adm) .tc) PUnit)) = seq (part2 ++ L) := rfl

/-- The statements of part 3, before others. -/
theorem block3 (L : List (HloOp τ sig (Elt F))) : (do
  hlo rfl (StableHlo.unary main_v23 main_v31 (broadcastInDim S32768x8x256 ![0, 1, 2] bcast_S32768x8x1_S32768x8x256_0_1_2 : (⟨S32768x8x1, .f32⟩ : BufTy).Contents (Elt F) → (⟨S32768x8x256, .f32⟩ : BufTy).Contents (Elt F))) (fun _ => .ret ⟨⟩)
  hlo rfl (StableHlo.binary main_v19 main_v31 main_v32 (subf : (⟨S32768x8x256, .f32⟩ : BufTy).Contents (Elt F) → (⟨S32768x8x256, .f32⟩ : BufTy).Contents (Elt F) → (⟨S32768x8x256, .f32⟩ : BufTy).Contents (Elt F))) (fun _ => .ret ⟨⟩)
  hlo rfl (StableHlo.nullary main_cst_3 (constant S_ .f32 0x358637BD#32)) (fun _ => .ret ⟨⟩)
  hlo rfl (StableHlo.unary main_cst_3 main_v33 (broadcastInDim S32768x8x1 ![] bcast_S_S32768x8x1 : (⟨S_, .f32⟩ : BufTy).Contents (Elt F) → (⟨S32768x8x1, .f32⟩ : BufTy).Contents (Elt F))) (fun _ => .ret ⟨⟩)
  hlo rfl (StableHlo.binary main_v30 main_v33 main_v34 (addf : (⟨S32768x8x1, .f32⟩ : BufTy).Contents (Elt F) → (⟨S32768x8x1, .f32⟩ : BufTy).Contents (Elt F) → (⟨S32768x8x1, .f32⟩ : BufTy).Contents (Elt F))) (fun _ => .ret ⟨⟩)
  hlo rfl (StableHlo.unary main_v34 main_v35 (Host.rsqrt : (⟨S32768x8x1, .f32⟩ : BufTy).Contents (Elt F) → (⟨S32768x8x1, .f32⟩ : BufTy).Contents (Elt F))) (fun _ => .ret ⟨⟩)
  hlo rfl (StableHlo.unary main_v35 main_v36 (broadcastInDim S32768x8x256 ![0, 1, 2] bcast_S32768x8x1_S32768x8x256_0_1_2 : (⟨S32768x8x1, .f32⟩ : BufTy).Contents (Elt F) → (⟨S32768x8x256, .f32⟩ : BufTy).Contents (Elt F))) (fun _ => .ret ⟨⟩)
  hlo rfl (StableHlo.binary main_v32 main_v36 main_v37 (mulf : (⟨S32768x8x256, .f32⟩ : BufTy).Contents (Elt F) → (⟨S32768x8x256, .f32⟩ : BufTy).Contents (Elt F) → (⟨S32768x8x256, .f32⟩ : BufTy).Contents (Elt F))) (fun _ => .ret ⟨⟩)
  hlo rfl (StableHlo.reshape main_v37 main_v38 (rfl : (.f32 : EltTy) = .f32) shapeCasts_S32768x8x256_S32768x2048) (fun _ => .ret ⟨⟩)
  hlo rfl (StableHlo.unary main_arg4 main_v39 (broadcastInDim S32768x2048 ![0, 1] bcast_S1x2048_S32768x2048_0_1 : (⟨S1x2048, .f32⟩ : BufTy).Contents (Elt F) → (⟨S32768x2048, .f32⟩ : BufTy).Contents (Elt F))) (fun _ => .ret ⟨⟩)
  hlo rfl (StableHlo.binary main_v38 main_v39 main_v40 (mulf : (⟨S32768x2048, .f32⟩ : BufTy).Contents (Elt F) → (⟨S32768x2048, .f32⟩ : BufTy).Contents (Elt F) → (⟨S32768x2048, .f32⟩ : BufTy).Contents (Elt F))) (fun _ => .ret ⟨⟩)
  seq L : (Prog (TpuEff nD τ sig (Elt F) (Pipeline.Sig Λ₀ (Fin 0) fun p => (pcfgs (F := F) p).Adm) .tc) PUnit)) = seq (part3 ++ L) := rfl

/-- The statements of part 4, before others. -/
theorem block4 (L : List (HloOp τ sig (Elt F))) : (do
  hlo rfl (StableHlo.unary main_v1 main_v41 (Host.negf : (⟨S32768x2048, .f32⟩ : BufTy).Contents (Elt F) → (⟨S32768x2048, .f32⟩ : BufTy).Contents (Elt F))) (fun _ => .ret ⟨⟩)
  hlo rfl (StableHlo.unary main_v41 main_v42 (Host.exp : (⟨S32768x2048, .f32⟩ : BufTy).Contents (Elt F) → (⟨S32768x2048, .f32⟩ : BufTy).Contents (Elt F))) (fun _ => .ret ⟨⟩)
  hlo rfl (StableHlo.nullary main_cst_4 (constant S_ .f32 0x3F800000#32)) (fun _ => .ret ⟨⟩)
  hlo rfl (StableHlo.unary main_cst_4 main_v43 (broadcastInDim S32768x2048 ![] bcast_S_S32768x2048 : (⟨S_, .f32⟩ : BufTy).Contents (Elt F) → (⟨S32768x2048, .f32⟩ : BufTy).Contents (Elt F))) (fun _ => .ret ⟨⟩)
  hlo rfl (StableHlo.binary main_v43 main_v42 main_v44 (addf : (⟨S32768x2048, .f32⟩ : BufTy).Contents (Elt F) → (⟨S32768x2048, .f32⟩ : BufTy).Contents (Elt F) → (⟨S32768x2048, .f32⟩ : BufTy).Contents (Elt F))) (fun _ => .ret ⟨⟩)
  hlo rfl (StableHlo.nullary main_cst_5 (constant S_ .f32 0x3F800000#32)) (fun _ => .ret ⟨⟩)
  hlo rfl (StableHlo.unary main_cst_5 main_v45 (broadcastInDim S32768x2048 ![] bcast_S_S32768x2048 : (⟨S_, .f32⟩ : BufTy).Contents (Elt F) → (⟨S32768x2048, .f32⟩ : BufTy).Contents (Elt F))) (fun _ => .ret ⟨⟩)
  hlo rfl (StableHlo.binary main_v45 main_v44 main_v46 (Host.divf : (⟨S32768x2048, .f32⟩ : BufTy).Contents (Elt F) → (⟨S32768x2048, .f32⟩ : BufTy).Contents (Elt F) → (⟨S32768x2048, .f32⟩ : BufTy).Contents (Elt F))) (fun _ => .ret ⟨⟩)
  hlo rfl (StableHlo.binary main_v40 main_v46 main_v47 (mulf : (⟨S32768x2048, .f32⟩ : BufTy).Contents (Elt F) → (⟨S32768x2048, .f32⟩ : BufTy).Contents (Elt F) → (⟨S32768x2048, .f32⟩ : BufTy).Contents (Elt F))) (fun _ => .ret ⟨⟩)
  fn_silu.body (.of main_v3) main_call0
  hlo rfl (StableHlo.binary main_v47 main_v48 main_v49 (mulf : (⟨S32768x2048, .f32⟩ : BufTy).Contents (Elt F) → (⟨S32768x2048, .f32⟩ : BufTy).Contents (Elt F) → (⟨S32768x2048, .f32⟩ : BufTy).Contents (Elt F))) (fun _ => .ret ⟨⟩)
  seq L : (Prog (TpuEff nD τ sig (Elt F) (Pipeline.Sig Λ₀ (Fin 0) fun p => (pcfgs (F := F) p).Adm) .tc) PUnit)) = seq (part4 ++ L) := rfl

/-- The statements of part 5, which end a block. -/
theorem block5 : (do
  hlo rfl (StableHlo.binary main_v7 main_v9 main_v50 (mulf : (⟨S32768x2048, .f32⟩ : BufTy).Contents (Elt F) → (⟨S32768x2048, .f32⟩ : BufTy).Contents (Elt F) → (⟨S32768x2048, .f32⟩ : BufTy).Contents (Elt F))) (fun _ => .ret ⟨⟩)
  hlo rfl (StableHlo.reshape main_v50 main_v51 (rfl : (.f32 : EltTy) = .f32) shapeCasts_S32768x2048_S8x4096x2048) (fun _ => .ret ⟨⟩)
  hlo rfl (StableHlo.nullary main_c (constantI S_ 32 0#32)) (fun _ => .ret ⟨⟩)
  : (Prog (TpuEff nD τ sig (Elt F) (Pipeline.Sig Λ₀ (Fin 0) fun p => (pcfgs (F := F) p).Adm) .tc) PUnit)) = seq part5 := rfl

/-- The statements of part 6, before others. -/
theorem block6 (L : List (HloOp τ sig (Elt F))) : (do
  fn_pad.body (.of main_v51) (.of main_c) main_call1
  seq L : (Prog (TpuEff nD τ sig (Elt F) (Pipeline.Sig Λ₀ (Fin 0) fun p => (pcfgs (F := F) p).Adm) .tc) PUnit)) = seq (part6 ++ L) := rfl

/-- The statements of part 7, before others. -/
theorem block7 (L : List (HloOp τ sig (Elt F))) : (do
  hlo rfl (StableHlo.unary main_arg5 main_v53 ((extractStridedSlice S1x2048 ![0, 0] · slices_S8x2048_S1x2048_0_0) : (⟨S8x2048, .f32⟩ : BufTy).Contents (Elt F) → (⟨S1x2048, .f32⟩ : BufTy).Contents (Elt F))) (fun _ => .ret ⟨⟩)
  hlo rfl (StableHlo.reshape main_v53 main_v54 (rfl : (.f32 : EltTy) = .f32) shapeCasts_S1x2048_S2048) (fun _ => .ret ⟨⟩)
  hlo rfl (StableHlo.unary main_v52 main_v55 ((extractStridedSlice S8x4096x2048 ![0, 0, 0] · slices_S8x4098x2048_S8x4096x2048_0_0_0) : (⟨S8x4098x2048, .f32⟩ : BufTy).Contents (Elt F) → (⟨S8x4096x2048, .f32⟩ : BufTy).Contents (Elt F))) (fun _ => .ret ⟨⟩)
  hlo rfl (StableHlo.unary main_v54 main_v56 (broadcastInDim S1x1x2048 ![2] bcast_S2048_S1x1x2048_2 : (⟨S2048, .f32⟩ : BufTy).Contents (Elt F) → (⟨S1x1x2048, .f32⟩ : BufTy).Contents (Elt F))) (fun _ => .ret ⟨⟩)
  hlo rfl (StableHlo.unary main_v56 main_v57 (broadcastInDim S8x4096x2048 ![0, 1, 2] bcast_S1x1x2048_S8x4096x2048_0_1_2 : (⟨S1x1x2048, .f32⟩ : BufTy).Contents (Elt F) → (⟨S8x4096x2048, .f32⟩ : BufTy).Contents (Elt F))) (fun _ => .ret ⟨⟩)
  hlo rfl (StableHlo.binary main_v57 main_v55 main_v58 (mulf : (⟨S8x4096x2048, .f32⟩ : BufTy).Contents (Elt F) → (⟨S8x4096x2048, .f32⟩ : BufTy).Contents (Elt F) → (⟨S8x4096x2048, .f32⟩ : BufTy).Contents (Elt F))) (fun _ => .ret ⟨⟩)
  hlo rfl (StableHlo.unary main_arg5 main_v59 ((extractStridedSlice S1x2048 ![1, 0] · slices_S8x2048_S1x2048_1_0) : (⟨S8x2048, .f32⟩ : BufTy).Contents (Elt F) → (⟨S1x2048, .f32⟩ : BufTy).Contents (Elt F))) (fun _ => .ret ⟨⟩)
  hlo rfl (StableHlo.reshape main_v59 main_v60 (rfl : (.f32 : EltTy) = .f32) shapeCasts_S1x2048_S2048) (fun _ => .ret ⟨⟩)
  hlo rfl (StableHlo.unary main_v52 main_v61 ((extractStridedSlice S8x4096x2048 ![0, 1, 0] · slices_S8x4098x2048_S8x4096x2048_0_1_0) : (⟨S8x4098x2048, .f32⟩ : BufTy).Contents (Elt F) → (⟨S8x4096x2048, .f32⟩ : BufTy).Contents (Elt F))) (fun _ => .ret ⟨⟩)
  hlo rfl (StableHlo.unary main_v60 main_v62 (broadcastInDim S1x1x2048 ![2] bcast_S2048_S1x1x2048_2 : (⟨S2048, .f32⟩ : BufTy).Contents (Elt F) → (⟨S1x1x2048, .f32⟩ : BufTy).Contents (Elt F))) (fun _ => .ret ⟨⟩)
  hlo rfl (StableHlo.unary main_v62 main_v63 (broadcastInDim S8x4096x2048 ![0, 1, 2] bcast_S1x1x2048_S8x4096x2048_0_1_2 : (⟨S1x1x2048, .f32⟩ : BufTy).Contents (Elt F) → (⟨S8x4096x2048, .f32⟩ : BufTy).Contents (Elt F))) (fun _ => .ret ⟨⟩)
  hlo rfl (StableHlo.binary main_v63 main_v61 main_v64 (mulf : (⟨S8x4096x2048, .f32⟩ : BufTy).Contents (Elt F) → (⟨S8x4096x2048, .f32⟩ : BufTy).Contents (Elt F) → (⟨S8x4096x2048, .f32⟩ : BufTy).Contents (Elt F))) (fun _ => .ret ⟨⟩)
  hlo rfl (StableHlo.binary main_v58 main_v64 main_v65 (addf : (⟨S8x4096x2048, .f32⟩ : BufTy).Contents (Elt F) → (⟨S8x4096x2048, .f32⟩ : BufTy).Contents (Elt F) → (⟨S8x4096x2048, .f32⟩ : BufTy).Contents (Elt F))) (fun _ => .ret ⟨⟩)
  hlo rfl (StableHlo.unary main_arg5 main_v66 ((extractStridedSlice S1x2048 ![2, 0] · slices_S8x2048_S1x2048_2_0) : (⟨S8x2048, .f32⟩ : BufTy).Contents (Elt F) → (⟨S1x2048, .f32⟩ : BufTy).Contents (Elt F))) (fun _ => .ret ⟨⟩)
  hlo rfl (StableHlo.reshape main_v66 main_v67 (rfl : (.f32 : EltTy) = .f32) shapeCasts_S1x2048_S2048) (fun _ => .ret ⟨⟩)
  hlo rfl (StableHlo.unary main_v52 main_v68 ((extractStridedSlice S8x4096x2048 ![0, 2, 0] · slices_S8x4098x2048_S8x4096x2048_0_2_0) : (⟨S8x4098x2048, .f32⟩ : BufTy).Contents (Elt F) → (⟨S8x4096x2048, .f32⟩ : BufTy).Contents (Elt F))) (fun _ => .ret ⟨⟩)
  hlo rfl (StableHlo.unary main_v67 main_v69 (broadcastInDim S1x1x2048 ![2] bcast_S2048_S1x1x2048_2 : (⟨S2048, .f32⟩ : BufTy).Contents (Elt F) → (⟨S1x1x2048, .f32⟩ : BufTy).Contents (Elt F))) (fun _ => .ret ⟨⟩)
  hlo rfl (StableHlo.unary main_v69 main_v70 (broadcastInDim S8x4096x2048 ![0, 1, 2] bcast_S1x1x2048_S8x4096x2048_0_1_2 : (⟨S1x1x2048, .f32⟩ : BufTy).Contents (Elt F) → (⟨S8x4096x2048, .f32⟩ : BufTy).Contents (Elt F))) (fun _ => .ret ⟨⟩)
  hlo rfl (StableHlo.binary main_v70 main_v68 main_v71 (mulf : (⟨S8x4096x2048, .f32⟩ : BufTy).Contents (Elt F) → (⟨S8x4096x2048, .f32⟩ : BufTy).Contents (Elt F) → (⟨S8x4096x2048, .f32⟩ : BufTy).Contents (Elt F))) (fun _ => .ret ⟨⟩)
  hlo rfl (StableHlo.binary main_v65 main_v71 main_v72 (addf : (⟨S8x4096x2048, .f32⟩ : BufTy).Contents (Elt F) → (⟨S8x4096x2048, .f32⟩ : BufTy).Contents (Elt F) → (⟨S8x4096x2048, .f32⟩ : BufTy).Contents (Elt F))) (fun _ => .ret ⟨⟩)
  hlo rfl (StableHlo.reshape main_v72 main_v73 (rfl : (.f32 : EltTy) = .f32) shapeCasts_S8x4096x2048_S32768x2048) (fun _ => .ret ⟨⟩)
  seq L : (Prog (TpuEff nD τ sig (Elt F) (Pipeline.Sig Λ₀ (Fin 0) fun p => (pcfgs (F := F) p).Adm) .tc) PUnit)) = seq (part7 ++ L) := rfl

/-- The statements of part 8, before others. -/
theorem block8 (L : List (HloOp τ sig (Elt F))) : (do
  hlo rfl (StableHlo.binary main_v5 main_v73 main_v74 (mulf : (⟨S32768x2048, .f32⟩ : BufTy).Contents (Elt F) → (⟨S32768x2048, .f32⟩ : BufTy).Contents (Elt F) → (⟨S32768x2048, .f32⟩ : BufTy).Contents (Elt F))) (fun _ => .ret ⟨⟩)
  fn_silu.body (.of main_v11) main_call2
  hlo rfl (StableHlo.binary main_v74 main_v75 main_v76 (mulf : (⟨S32768x2048, .f32⟩ : BufTy).Contents (Elt F) → (⟨S32768x2048, .f32⟩ : BufTy).Contents (Elt F) → (⟨S32768x2048, .f32⟩ : BufTy).Contents (Elt F))) (fun _ => .ret ⟨⟩)
  seq L : (Prog (TpuEff nD τ sig (Elt F) (Pipeline.Sig Λ₀ (Fin 0) fun p => (pcfgs (F := F) p).Adm) .tc) PUnit)) = seq (part8 ++ L) := rfl

/-- The statements of part 9, before others. -/
theorem block9 (L : List (HloOp τ sig (Elt F))) : (do
  hlo rfl (StableHlo.reshape main_v13 main_v77 (rfl : (.f32 : EltTy) = .f32) shapeCasts_S32768x2048_S8x4096x4x512) (fun _ => .ret ⟨⟩)
  hlo rfl (StableHlo.unary main_arg3 main_v78 ((extractStridedSlice S2048x2048 ![0, 0] · slices_S2048x4096_S2048x2048_0_0) : (⟨S2048x4096, .bf16⟩ : BufTy).Contents (Elt F) → (⟨S2048x2048, .bf16⟩ : BufTy).Contents (Elt F))) (fun _ => .ret ⟨⟩)
  hlo rfl (StableHlo.unary main_v78 main_v79 ((extf .f32 · bitsLt_bf16_f32) : (⟨S2048x2048, .bf16⟩ : BufTy).Contents (Elt F) → (⟨S2048x2048, .f32⟩ : BufTy).Contents (Elt F))) (fun _ => .ret ⟨⟩)
  hlo rfl (StableHlo.reshape main_v79 main_v80 (rfl : (.f32 : EltTy) = .f32) shapeCasts_S2048x2048_S8x256x4x512) (fun _ => .ret ⟨⟩)
  hlo rfl (StableHlo.unary main_arg3 main_v81 ((extractStridedSlice S2048x2048 ![0, 2048] · slices_S2048x4096_S2048x2048_0_2048) : (⟨S2048x4096, .bf16⟩ : BufTy).Contents (Elt F) → (⟨S2048x2048, .bf16⟩ : BufTy).Contents (Elt F))) (fun _ => .ret ⟨⟩)
  hlo rfl (StableHlo.unary main_v81 main_v82 ((extf .f32 · bitsLt_bf16_f32) : (⟨S2048x2048, .bf16⟩ : BufTy).Contents (Elt F) → (⟨S2048x2048, .f32⟩ : BufTy).Contents (Elt F))) (fun _ => .ret ⟨⟩)
  hlo rfl (StableHlo.reshape main_v82 main_v83 (rfl : (.f32 : EltTy) = .f32) shapeCasts_S2048x2048_S8x256x4x512) (fun _ => .ret ⟨⟩)
  hlo rfl (StableHlo.binary main_v77 main_v80 main_v84 ((fun l r => Host.dotGeneral dot_S8x4096x4x512_S8x256x4x512_S8x4x4096x256_3_3_1_1_02_02 none l r) : (⟨S8x4096x4x512, .f32⟩ : BufTy).Contents (Elt F) → (⟨S8x256x4x512, .f32⟩ : BufTy).Contents (Elt F) → (⟨S8x4x4096x256, .f32⟩ : BufTy).Contents (Elt F))) (fun _ => .ret ⟨⟩)
  hlo rfl (StableHlo.nullary main_cst_6 (constant S_ .f32 0x3D3504F3#32)) (fun _ => .ret ⟨⟩)
  hlo rfl (StableHlo.unary main_cst_6 main_v85 (broadcastInDim S8x4x4096x256 ![] bcast_S_S8x4x4096x256 : (⟨S_, .f32⟩ : BufTy).Contents (Elt F) → (⟨S8x4x4096x256, .f32⟩ : BufTy).Contents (Elt F))) (fun _ => .ret ⟨⟩)
  hlo rfl (StableHlo.binary main_v84 main_v85 main_v86 (mulf : (⟨S8x4x4096x256, .f32⟩ : BufTy).Contents (Elt F) → (⟨S8x4x4096x256, .f32⟩ : BufTy).Contents (Elt F) → (⟨S8x4x4096x256, .f32⟩ : BufTy).Contents (Elt F))) (fun _ => .ret ⟨⟩)
  seq L : (Prog (TpuEff nD τ sig (Elt F) (Pipeline.Sig Λ₀ (Fin 0) fun p => (pcfgs (F := F) p).Adm) .tc) PUnit)) = seq (part9 ++ L) := rfl

/-- The statements of part 10, before others. -/
theorem block10 (L : List (HloOp τ sig (Elt F))) : (do
  hlo rfl (StableHlo.nullary main_cst_7 (constant S_ .f32 0xFF800000#32)) (fun _ => .ret ⟨⟩)
  hlo rfl (StableHlo.binary main_v86 main_cst_7 main_v87 ((fun x v => Host.reduce FloatOps.maximumf x v reducesTo_S8x4x4096x256_S8x4x4096_d3 h_S_) : (⟨S8x4x4096x256, .f32⟩ : BufTy).Contents (Elt F) → (⟨S_, .f32⟩ : BufTy).Contents (Elt F) → (⟨S8x4x4096, .f32⟩ : BufTy).Contents (Elt F))) (fun _ => .ret ⟨⟩)
  hlo rfl (StableHlo.nullary main_cst_8 (constant S_ .f32 0xFF800000#32)) (fun _ => .ret ⟨⟩)
  hlo rfl (StableHlo.unary main_cst_8 main_v88 (broadcastInDim S8x4x4096 ![] bcast_S_S8x4x4096 : (⟨S_, .f32⟩ : BufTy).Contents (Elt F) → (⟨S8x4x4096, .f32⟩ : BufTy).Contents (Elt F))) (fun _ => .ret ⟨⟩)
  hlo rfl (StableHlo.binary main_v88 main_v87 main_v89 (maximumf : (⟨S8x4x4096, .f32⟩ : BufTy).Contents (Elt F) → (⟨S8x4x4096, .f32⟩ : BufTy).Contents (Elt F) → (⟨S8x4x4096, .f32⟩ : BufTy).Contents (Elt F))) (fun _ => .ret ⟨⟩)
  seq L : (Prog (TpuEff nD τ sig (Elt F) (Pipeline.Sig Λ₀ (Fin 0) fun p => (pcfgs (F := F) p).Adm) .tc) PUnit)) = seq (part10 ++ L) := rfl

/-- The statements of part 11, before others. -/
theorem block11 (L : List (HloOp τ sig (Elt F))) : (do
  hlo rfl (StableHlo.unary main_v89 main_v90 (broadcastInDim S8x4x4096x1 ![0, 1, 2] bcast_S8x4x4096_S8x4x4096x1_0_1_2 : (⟨S8x4x4096, .f32⟩ : BufTy).Contents (Elt F) → (⟨S8x4x4096x1, .f32⟩ : BufTy).Contents (Elt F))) (fun _ => .ret ⟨⟩)
  hlo rfl (StableHlo.unary main_v90 main_v91 (broadcastInDim S8x4x4096x256 ![0, 1, 2, 3] bcast_S8x4x4096x1_S8x4x4096x256_0_1_2_3 : (⟨S8x4x4096x1, .f32⟩ : BufTy).Contents (Elt F) → (⟨S8x4x4096x256, .f32⟩ : BufTy).Contents (Elt F))) (fun _ => .ret ⟨⟩)
  hlo rfl (StableHlo.binary main_v86 main_v91 main_v92 (subf : (⟨S8x4x4096x256, .f32⟩ : BufTy).Contents (Elt F) → (⟨S8x4x4096x256, .f32⟩ : BufTy).Contents (Elt F) → (⟨S8x4x4096x256, .f32⟩ : BufTy).Contents (Elt F))) (fun _ => .ret ⟨⟩)
  hlo rfl (StableHlo.unary main_v92 main_v93 (Host.exp : (⟨S8x4x4096x256, .f32⟩ : BufTy).Contents (Elt F) → (⟨S8x4x4096x256, .f32⟩ : BufTy).Contents (Elt F))) (fun _ => .ret ⟨⟩)
  seq L : (Prog (TpuEff nD τ sig (Elt F) (Pipeline.Sig Λ₀ (Fin 0) fun p => (pcfgs (F := F) p).Adm) .tc) PUnit)) = seq (part11 ++ L) := rfl

/-- The statements of part 12, before others. -/
theorem block12 (L : List (HloOp τ sig (Elt F))) : (do
  hlo rfl (StableHlo.nullary main_cst_9 (constant S_ .f32 0x00000000#32)) (fun _ => .ret ⟨⟩)
  hlo rfl (StableHlo.binary main_v93 main_cst_9 main_v94 ((fun x v => Host.reduceAdd x v reducesTo_S8x4x4096x256_S8x4x4096_d3 h_S_) : (⟨S8x4x4096x256, .f32⟩ : BufTy).Contents (Elt F) → (⟨S_, .f32⟩ : BufTy).Contents (Elt F) → (⟨S8x4x4096, .f32⟩ : BufTy).Contents (Elt F))) (fun _ => .ret ⟨⟩)
  hlo rfl (StableHlo.unary main_v94 main_v95 (broadcastInDim S8x4x4096x1 ![0, 1, 2] bcast_S8x4x4096_S8x4x4096x1_0_1_2 : (⟨S8x4x4096, .f32⟩ : BufTy).Contents (Elt F) → (⟨S8x4x4096x1, .f32⟩ : BufTy).Contents (Elt F))) (fun _ => .ret ⟨⟩)
  hlo rfl (StableHlo.unary main_v95 main_v96 (broadcastInDim S8x4x4096x256 ![0, 1, 2, 3] bcast_S8x4x4096x1_S8x4x4096x256_0_1_2_3 : (⟨S8x4x4096x1, .f32⟩ : BufTy).Contents (Elt F) → (⟨S8x4x4096x256, .f32⟩ : BufTy).Contents (Elt F))) (fun _ => .ret ⟨⟩)
  hlo rfl (StableHlo.binary main_v93 main_v96 main_v97 (Host.divf : (⟨S8x4x4096x256, .f32⟩ : BufTy).Contents (Elt F) → (⟨S8x4x4096x256, .f32⟩ : BufTy).Contents (Elt F) → (⟨S8x4x4096x256, .f32⟩ : BufTy).Contents (Elt F))) (fun _ => .ret ⟨⟩)
  seq L : (Prog (TpuEff nD τ sig (Elt F) (Pipeline.Sig Λ₀ (Fin 0) fun p => (pcfgs (F := F) p).Adm) .tc) PUnit)) = seq (part12 ++ L) := rfl

/-- The statements of part 13, before others. -/
theorem block13 (L : List (HloOp τ sig (Elt F))) : (do
  hlo rfl (StableHlo.binary main_v83 main_v97 main_v98 ((fun l r => Host.dotGeneral dot_S8x256x4x512_S8x4x4096x256_S8x4x512x4096_1_3_3_2_02_01 none l r) : (⟨S8x256x4x512, .f32⟩ : BufTy).Contents (Elt F) → (⟨S8x4x4096x256, .f32⟩ : BufTy).Contents (Elt F) → (⟨S8x4x512x4096, .f32⟩ : BufTy).Contents (Elt F))) (fun _ => .ret ⟨⟩)
  hlo rfl (StableHlo.unary main_v98 main_v99 ((transpose S8x4096x4x512 [0, 3, 1, 2] · transposes_S8x4x512x4096_S8x4096x4x512_0_3_1_2) : (⟨S8x4x512x4096, .f32⟩ : BufTy).Contents (Elt F) → (⟨S8x4096x4x512, .f32⟩ : BufTy).Contents (Elt F))) (fun _ => .ret ⟨⟩)
  hlo rfl (StableHlo.reshape main_v99 main_v100 (rfl : (.f32 : EltTy) = .f32) shapeCasts_S8x4096x4x512_S32768x2048) (fun _ => .ret ⟨⟩)
  fn_silu.body (.of main_v15) main_call3
  hlo rfl (StableHlo.binary main_v100 main_v101 main_v102 (mulf : (⟨S32768x2048, .f32⟩ : BufTy).Contents (Elt F) → (⟨S32768x2048, .f32⟩ : BufTy).Contents (Elt F) → (⟨S32768x2048, .f32⟩ : BufTy).Contents (Elt F))) (fun _ => .ret ⟨⟩)
  seq L : (Prog (TpuEff nD τ sig (Elt F) (Pipeline.Sig Λ₀ (Fin 0) fun p => (pcfgs (F := F) p).Adm) .tc) PUnit)) = seq (part13 ++ L) := rfl

/-- The statements of part 14, before others. -/
theorem block14 (L : List (HloOp τ sig (Elt F))) : (do
  hlo rfl (StableHlo.unary main_v49 main_v103 ((truncf .bf16 · bitsLt_bf16_f32) : (⟨S32768x2048, .f32⟩ : BufTy).Contents (Elt F) → (⟨S32768x2048, .bf16⟩ : BufTy).Contents (Elt F))) (fun _ => .ret ⟨⟩)
  hlo rfl (StableHlo.unary main_v76 main_v104 ((truncf .bf16 · bitsLt_bf16_f32) : (⟨S32768x2048, .f32⟩ : BufTy).Contents (Elt F) → (⟨S32768x2048, .bf16⟩ : BufTy).Contents (Elt F))) (fun _ => .ret ⟨⟩)
  hlo rfl (StableHlo.unary main_v102 main_v105 ((truncf .bf16 · bitsLt_bf16_f32) : (⟨S32768x2048, .f32⟩ : BufTy).Contents (Elt F) → (⟨S32768x2048, .bf16⟩ : BufTy).Contents (Elt F))) (fun _ => .ret ⟨⟩)
  seq L : (Prog (TpuEff nD τ sig (Elt F) (Pipeline.Sig Λ₀ (Fin 0) fun p => (pcfgs (F := F) p).Adm) .tc) PUnit)) = seq (part14 ++ L) := rfl

theorem first_half (c : Dev nD) : main_part0 (F := F) c = seq (part0 ++ (part1 ++ (part2 ++ (part3 ++ (part4 ++ (part5)))))) := by
  rw [← block0, ← block1, ← block2, ← block3, ← block4, ← block5]
  rfl

theorem second_half (c : Dev nD) : main_part1 (F := F) c = seq (part6 ++ (part7 ++ (part8 ++ (part9 ++ (part10 ++ (part11 ++ (part12 ++ (part13 ++ (part14 ++ []))))))))) := by
  rw [← block6, ← block7, ← block8, ← block9, ← block10, ← block11, ← block12, ← block13, ← block14]
  rfl

/-- All the operations, in order. -/
def steps : List (HloOp τ sig (Elt F)) :=
  (part0 ++ (part1 ++ (part2 ++ (part3 ++ (part4 ++ (part5)))))) ++ (part6 ++ (part7 ++ (part8 ++ (part9 ++ (part10 ++ (part11 ++ (part12 ++ (part13 ++ (part14 ++ [])))))))))

theorem main_steps (c : Dev nD) : main (F := F) c = seq steps := by
  rw [steps, seq_append, ← first_half c, ← second_half c]
  rfl

theorem no_scoped_refs : (Finset.univ.filter fun b : Ref sig .tc => b.isScoped) = ∅ := by decide
theorem no_scoped_sems : (Finset.univ.filter fun sm : SemLoc sig => sm.isScoped .tc) = ∅ := by decide

/-- What holds of two lists' members holds of the members of both. -/
theorem forall_both {α : Type*} (p : α → Prop) (l₁ l₂ : List α) (h₁ : l₁.Forall p) (h₂ : l₂.Forall p) : (l₁ ++ l₂).Forall p := by
  rw [List.forall_iff_forall_mem] at *
  intro x hx
  rcases List.mem_append.mp hx with h | h
  · exact h₁ x h
  · exact h₂ x h

theorem part0_sub : (part0 : List (HloOp τ sig (Elt F))).Forall fun op => op.bufs ⊆ tcRefs τ sig := by
  unfold part0
  exact ⟨unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub ..⟩
theorem part0_fresh : ∀ op ∈ (part0 : List (HloOp τ sig (Elt F))), op.fresh = ∅ := by
  unfold part0
  intro _ h
  (repeat (cases h with | head => rfl | tail _ h => ?_)); exact nomatch h

theorem part1_sub : (part1 : List (HloOp τ sig (Elt F))).Forall fun op => op.bufs ⊆ tcRefs τ sig := by
  unfold part1
  exact ⟨unary_bufs_sub .., unary_bufs_sub .., binary_bufs_sub .., reshape_bufs_sub .., nullary_bufs_sub .., binary_bufs_sub .., unary_bufs_sub .., nullary_bufs_sub .., unary_bufs_sub .., binary_bufs_sub ..⟩
theorem part1_fresh : ∀ op ∈ (part1 : List (HloOp τ sig (Elt F))), op.fresh = ∅ := by
  unfold part1
  intro _ h
  (repeat (cases h with | head => rfl | tail _ h => ?_)); exact nomatch h

theorem part2_sub : (part2 : List (HloOp τ sig (Elt F))).Forall fun op => op.bufs ⊆ tcRefs τ sig := by
  unfold part2
  exact ⟨unary_bufs_sub .., binary_bufs_sub .., binary_bufs_sub .., nullary_bufs_sub .., binary_bufs_sub .., unary_bufs_sub .., nullary_bufs_sub .., unary_bufs_sub .., binary_bufs_sub ..⟩
theorem part2_fresh : ∀ op ∈ (part2 : List (HloOp τ sig (Elt F))), op.fresh = ∅ := by
  unfold part2
  intro _ h
  (repeat (cases h with | head => rfl | tail _ h => ?_)); exact nomatch h

theorem part3_sub : (part3 : List (HloOp τ sig (Elt F))).Forall fun op => op.bufs ⊆ tcRefs τ sig := by
  unfold part3
  exact ⟨unary_bufs_sub .., binary_bufs_sub .., nullary_bufs_sub .., unary_bufs_sub .., binary_bufs_sub .., unary_bufs_sub .., unary_bufs_sub .., binary_bufs_sub .., reshape_bufs_sub .., unary_bufs_sub .., binary_bufs_sub ..⟩
theorem part3_fresh : ∀ op ∈ (part3 : List (HloOp τ sig (Elt F))), op.fresh = ∅ := by
  unfold part3
  intro _ h
  (repeat (cases h with | head => rfl | tail _ h => ?_)); exact nomatch h

theorem part4_sub : (part4 : List (HloOp τ sig (Elt F))).Forall fun op => op.bufs ⊆ tcRefs τ sig := by
  unfold part4
  exact ⟨unary_bufs_sub .., unary_bufs_sub .., nullary_bufs_sub .., unary_bufs_sub .., binary_bufs_sub .., nullary_bufs_sub .., unary_bufs_sub .., binary_bufs_sub .., binary_bufs_sub .., unary_bufs_sub .., unary_bufs_sub .., nullary_bufs_sub .., unary_bufs_sub .., binary_bufs_sub .., nullary_bufs_sub .., unary_bufs_sub .., binary_bufs_sub .., binary_bufs_sub .., binary_bufs_sub ..⟩
theorem part4_fresh : ∀ op ∈ (part4 : List (HloOp τ sig (Elt F))), op.fresh = ∅ := by
  unfold part4
  intro _ h
  (repeat (cases h with | head => rfl | tail _ h => ?_)); exact nomatch h

theorem part5_sub : (part5 : List (HloOp τ sig (Elt F))).Forall fun op => op.bufs ⊆ tcRefs τ sig := by
  unfold part5
  exact ⟨binary_bufs_sub .., reshape_bufs_sub .., nullary_bufs_sub ..⟩
theorem part5_fresh : ∀ op ∈ (part5 : List (HloOp τ sig (Elt F))), op.fresh = ∅ := by
  unfold part5
  intro _ h
  (repeat (cases h with | head => rfl | tail _ h => ?_)); exact nomatch h

theorem part6_sub : (part6 : List (HloOp τ sig (Elt F))).Forall fun op => op.bufs ⊆ tcRefs τ sig := by
  unfold part6
  exact ⟨unary_bufs_sub .., binary_bufs_sub ..⟩
theorem part6_fresh : ∀ op ∈ (part6 : List (HloOp τ sig (Elt F))), op.fresh = ∅ := by
  unfold part6
  intro _ h
  (repeat (cases h with | head => rfl | tail _ h => ?_)); exact nomatch h

theorem part7_sub : (part7 : List (HloOp τ sig (Elt F))).Forall fun op => op.bufs ⊆ tcRefs τ sig := by
  unfold part7
  exact ⟨unary_bufs_sub .., reshape_bufs_sub .., unary_bufs_sub .., unary_bufs_sub .., unary_bufs_sub .., binary_bufs_sub .., unary_bufs_sub .., reshape_bufs_sub .., unary_bufs_sub .., unary_bufs_sub .., unary_bufs_sub .., binary_bufs_sub .., binary_bufs_sub .., unary_bufs_sub .., reshape_bufs_sub .., unary_bufs_sub .., unary_bufs_sub .., unary_bufs_sub .., binary_bufs_sub .., binary_bufs_sub .., reshape_bufs_sub ..⟩
theorem part7_fresh : ∀ op ∈ (part7 : List (HloOp τ sig (Elt F))), op.fresh = ∅ := by
  unfold part7
  intro _ h
  (repeat (cases h with | head => rfl | tail _ h => ?_)); exact nomatch h

theorem part8_sub : (part8 : List (HloOp τ sig (Elt F))).Forall fun op => op.bufs ⊆ tcRefs τ sig := by
  unfold part8
  exact ⟨binary_bufs_sub .., unary_bufs_sub .., unary_bufs_sub .., nullary_bufs_sub .., unary_bufs_sub .., binary_bufs_sub .., nullary_bufs_sub .., unary_bufs_sub .., binary_bufs_sub .., binary_bufs_sub .., binary_bufs_sub ..⟩
theorem part8_fresh : ∀ op ∈ (part8 : List (HloOp τ sig (Elt F))), op.fresh = ∅ := by
  unfold part8
  intro _ h
  (repeat (cases h with | head => rfl | tail _ h => ?_)); exact nomatch h

theorem part9_sub : (part9 : List (HloOp τ sig (Elt F))).Forall fun op => op.bufs ⊆ tcRefs τ sig := by
  unfold part9
  exact ⟨reshape_bufs_sub .., unary_bufs_sub .., unary_bufs_sub .., reshape_bufs_sub .., unary_bufs_sub .., unary_bufs_sub .., reshape_bufs_sub .., binary_bufs_sub .., nullary_bufs_sub .., unary_bufs_sub .., binary_bufs_sub ..⟩
theorem part9_fresh : ∀ op ∈ (part9 : List (HloOp τ sig (Elt F))), op.fresh = ∅ := by
  unfold part9
  intro _ h
  (repeat (cases h with | head => rfl | tail _ h => ?_)); exact nomatch h

theorem part10_sub : (part10 : List (HloOp τ sig (Elt F))).Forall fun op => op.bufs ⊆ tcRefs τ sig := by
  unfold part10
  exact ⟨nullary_bufs_sub .., binary_bufs_sub .., nullary_bufs_sub .., unary_bufs_sub .., binary_bufs_sub ..⟩
theorem part10_fresh : ∀ op ∈ (part10 : List (HloOp τ sig (Elt F))), op.fresh = ∅ := by
  unfold part10
  intro _ h
  (repeat (cases h with | head => rfl | tail _ h => ?_)); exact nomatch h

theorem part11_sub : (part11 : List (HloOp τ sig (Elt F))).Forall fun op => op.bufs ⊆ tcRefs τ sig := by
  unfold part11
  exact ⟨unary_bufs_sub .., unary_bufs_sub .., binary_bufs_sub .., unary_bufs_sub ..⟩
theorem part11_fresh : ∀ op ∈ (part11 : List (HloOp τ sig (Elt F))), op.fresh = ∅ := by
  unfold part11
  intro _ h
  (repeat (cases h with | head => rfl | tail _ h => ?_)); exact nomatch h

theorem part12_sub : (part12 : List (HloOp τ sig (Elt F))).Forall fun op => op.bufs ⊆ tcRefs τ sig := by
  unfold part12
  exact ⟨nullary_bufs_sub .., binary_bufs_sub .., unary_bufs_sub .., unary_bufs_sub .., binary_bufs_sub ..⟩
theorem part12_fresh : ∀ op ∈ (part12 : List (HloOp τ sig (Elt F))), op.fresh = ∅ := by
  unfold part12
  intro _ h
  (repeat (cases h with | head => rfl | tail _ h => ?_)); exact nomatch h

theorem part13_sub : (part13 : List (HloOp τ sig (Elt F))).Forall fun op => op.bufs ⊆ tcRefs τ sig := by
  unfold part13
  exact ⟨binary_bufs_sub .., unary_bufs_sub .., reshape_bufs_sub .., unary_bufs_sub .., unary_bufs_sub .., nullary_bufs_sub .., unary_bufs_sub .., binary_bufs_sub .., nullary_bufs_sub .., unary_bufs_sub .., binary_bufs_sub .., binary_bufs_sub .., binary_bufs_sub ..⟩
theorem part13_fresh : ∀ op ∈ (part13 : List (HloOp τ sig (Elt F))), op.fresh = ∅ := by
  unfold part13
  intro _ h
  (repeat (cases h with | head => rfl | tail _ h => ?_)); exact nomatch h

theorem part14_sub : (part14 : List (HloOp τ sig (Elt F))).Forall fun op => op.bufs ⊆ tcRefs τ sig := by
  unfold part14
  exact ⟨unary_bufs_sub .., unary_bufs_sub .., unary_bufs_sub ..⟩
theorem part14_fresh : ∀ op ∈ (part14 : List (HloOp τ sig (Elt F))), op.fresh = ∅ := by
  unfold part14
  intro _ h
  (repeat (cases h with | head => rfl | tail _ h => ?_)); exact nomatch h

theorem steps_sub : (steps : List (HloOp τ sig (Elt F))).Forall fun op => op.bufs ⊆ tcRefs τ sig :=
  forall_both _ _ _ (forall_both _ _ _ part0_sub (forall_both _ _ _ part1_sub (forall_both _ _ _ part2_sub (forall_both _ _ _ part3_sub (forall_both _ _ _ part4_sub (part5_sub)))))) (forall_both _ _ _ part6_sub (forall_both _ _ _ part7_sub (forall_both _ _ _ part8_sub (forall_both _ _ _ part9_sub (forall_both _ _ _ part10_sub (forall_both _ _ _ part11_sub (forall_both _ _ _ part12_sub (forall_both _ _ _ part13_sub (forall_both _ _ _ part14_sub (trivial))))))))))

theorem steps_fresh : ∀ op ∈ (steps : List (HloOp τ sig (Elt F))), op.fresh = ∅ := by
  intro op h
  simp only [steps, List.mem_append, List.not_mem_nil, or_false] at h
  rcases h with (h | h | h | h | h | h) | (h | h | h | h | h | h | h | h | h)
  · exact part0_fresh op h
  · exact part1_fresh op h
  · exact part2_fresh op h
  · exact part3_fresh op h
  · exact part4_fresh op h
  · exact part5_fresh op h
  · exact part6_fresh op h
  · exact part7_fresh op h
  · exact part8_fresh op h
  · exact part9_fresh op h
  · exact part10_fresh op h
  · exact part11_fresh op h
  · exact part12_fresh op h
  · exact part13_fresh op h
  · exact part14_fresh op h

variable (W : Valuation τ sig (Elt F))

theorem steps_main_v103 : after steps W main_v103 = out0 (gated (normed (both (W main_arg1) (W main_arg2)) (mean (both (W main_arg1) (W main_arg2))) (variance (both (W main_arg1) (W main_arg2)) (mean (both (W main_arg1) (W main_arg2)))) (W main_arg4)) (cols0 (W main_arg0)) (cols1 (W main_arg0))) := by
  unfold steps
  simp only [after_both, after_nil]
  rw [part14_out0, part13_main_v49, part12_main_v49, part11_main_v49, part10_main_v49, part9_main_v49, part8_main_v49, part7_main_v49, part6_main_v49, part5_main_v49, part4_gated, part3_normed, part3_main_v1, part3_main_v3, part2_main_v19, part2_main_v23, part2_variance, part2_main_arg4, part2_main_v1, part2_main_v3, part1_both, part1_mean, part1_main_arg4, part1_main_v1, part1_main_v3, part0_main_arg1, part0_main_arg2, part0_main_arg4, part0_cols0, part0_cols1]

theorem steps_main_v104 : after steps W main_v104 = out1 (gatedConv (conv (padded (product (cols3 (W main_arg0)) (cols4 (W main_arg0))) (zeroWord )) (W main_arg5)) (cols2 (W main_arg0)) (cols5 (W main_arg0))) := by
  unfold steps
  simp only [after_both, after_nil]
  rw [part14_out1, part13_main_v76, part12_main_v76, part11_main_v76, part10_main_v76, part9_main_v76, part8_gatedConv, part7_conv, part7_main_v5, part7_main_v11, part6_padded, part6_main_arg5, part6_main_v5, part6_main_v11, part5_product, part5_zeroWord, part5_main_arg5, part5_main_v5, part5_main_v11, part4_main_v7, part4_main_v9, part4_main_arg5, part4_main_v5, part4_main_v11, part3_main_v7, part3_main_v9, part3_main_arg5, part3_main_v5, part3_main_v11, part2_main_v7, part2_main_v9, part2_main_arg5, part2_main_v5, part2_main_v11, part1_main_v7, part1_main_v9, part1_main_arg5, part1_main_v5, part1_main_v11, part0_cols3, part0_cols4, part0_main_arg5, part0_cols2, part0_cols5]

theorem steps_main_v105 : after steps W main_v105 = out2 (attended (weights (exps (scores (cols6 (W main_arg0)) (W main_arg3)) (rowMax (scores (cols6 (W main_arg0)) (W main_arg3))))) (vals (W main_arg3)) (cols7 (W main_arg0))) := by
  unfold steps
  simp only [after_both, after_nil]
  rw [part14_out2, part13_attended, part12_weights, part12_main_v83, part12_main_v15, part11_exps, part11_main_v83, part11_main_v15, part10_main_v86, part10_rowMax, part10_main_v83, part10_main_v15, part9_scores, part9_vals, part9_main_v15, part8_main_v13, part8_main_arg3, part8_main_v15, part7_main_v13, part7_main_arg3, part7_main_v15, part6_main_v13, part6_main_arg3, part6_main_v15, part5_main_v13, part5_main_arg3, part5_main_v15, part4_main_v13, part4_main_arg3, part4_main_v15, part3_main_v13, part3_main_arg3, part3_main_v15, part2_main_v13, part2_main_arg3, part2_main_v15, part1_main_v13, part1_main_arg3, part1_main_v15, part0_cols6, part0_main_arg3, part0_cols7]

theorem steps_main_arg0 : after steps W main_arg0 = W main_arg0 := by
  unfold steps
  simp only [after_both, after_nil]
  rw [part14_main_arg0, part13_main_arg0, part12_main_arg0, part11_main_arg0, part10_main_arg0, part9_main_arg0, part8_main_arg0, part7_main_arg0, part6_main_arg0, part5_main_arg0, part4_main_arg0, part3_main_arg0, part2_main_arg0, part1_main_arg0, part0_main_arg0]

theorem steps_main_arg1 : after steps W main_arg1 = W main_arg1 := by
  unfold steps
  simp only [after_both, after_nil]
  rw [part14_main_arg1, part13_main_arg1, part12_main_arg1, part11_main_arg1, part10_main_arg1, part9_main_arg1, part8_main_arg1, part7_main_arg1, part6_main_arg1, part5_main_arg1, part4_main_arg1, part3_main_arg1, part2_main_arg1, part1_main_arg1, part0_main_arg1]

theorem steps_main_arg2 : after steps W main_arg2 = W main_arg2 := by
  unfold steps
  simp only [after_both, after_nil]
  rw [part14_main_arg2, part13_main_arg2, part12_main_arg2, part11_main_arg2, part10_main_arg2, part9_main_arg2, part8_main_arg2, part7_main_arg2, part6_main_arg2, part5_main_arg2, part4_main_arg2, part3_main_arg2, part2_main_arg2, part1_main_arg2, part0_main_arg2]

theorem steps_main_arg3 : after steps W main_arg3 = W main_arg3 := by
  unfold steps
  simp only [after_both, after_nil]
  rw [part14_main_arg3, part13_main_arg3, part12_main_arg3, part11_main_arg3, part10_main_arg3, part9_main_arg3, part8_main_arg3, part7_main_arg3, part6_main_arg3, part5_main_arg3, part4_main_arg3, part3_main_arg3, part2_main_arg3, part1_main_arg3, part0_main_arg3]

theorem steps_main_arg4 : after steps W main_arg4 = W main_arg4 := by
  unfold steps
  simp only [after_both, after_nil]
  rw [part14_main_arg4, part13_main_arg4, part12_main_arg4, part11_main_arg4, part10_main_arg4, part9_main_arg4, part8_main_arg4, part7_main_arg4, part6_main_arg4, part5_main_arg4, part4_main_arg4, part3_main_arg4, part2_main_arg4, part1_main_arg4, part0_main_arg4]

theorem steps_main_arg5 : after steps W main_arg5 = W main_arg5 := by
  unfold steps
  simp only [after_both, after_nil]
  rw [part14_main_arg5, part13_main_arg5, part12_main_arg5, part11_main_arg5, part10_main_arg5, part9_main_arg5, part8_main_arg5, part7_main_arg5, part6_main_arg5, part5_main_arg5, part4_main_arg5, part3_main_arg5, part2_main_arg5, part1_main_arg5, part0_main_arg5]

/-- Every execution of the reference ends with these results, and leaves the arguments. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v103) = out0 (gated (normed (both (m ((c.tc : Thread nD τ).loc main_arg1)) (m ((c.tc : Thread nD τ).loc main_arg2))) (mean (both (m ((c.tc : Thread nD τ).loc main_arg1)) (m ((c.tc : Thread nD τ).loc main_arg2)))) (variance (both (m ((c.tc : Thread nD τ).loc main_arg1)) (m ((c.tc : Thread nD τ).loc main_arg2))) (mean (both (m ((c.tc : Thread nD τ).loc main_arg1)) (m ((c.tc : Thread nD τ).loc main_arg2))))) (m ((c.tc : Thread nD τ).loc main_arg4))) (cols0 (m ((c.tc : Thread nD τ).loc main_arg0))) (cols1 (m ((c.tc : Thread nD τ).loc main_arg0))))
      ∧ r.2.mem ((c.tc : Thread nD τ).loc main_v104) = out1 (gatedConv (conv (padded (product (cols3 (m ((c.tc : Thread nD τ).loc main_arg0))) (cols4 (m ((c.tc : Thread nD τ).loc main_arg0)))) (zeroWord )) (m ((c.tc : Thread nD τ).loc main_arg5))) (cols2 (m ((c.tc : Thread nD τ).loc main_arg0))) (cols5 (m ((c.tc : Thread nD τ).loc main_arg0))))
      ∧ r.2.mem ((c.tc : Thread nD τ).loc main_v105) = out2 (attended (weights (exps (scores (cols6 (m ((c.tc : Thread nD τ).loc main_arg0))) (m ((c.tc : Thread nD τ).loc main_arg3))) (rowMax (scores (cols6 (m ((c.tc : Thread nD τ).loc main_arg0))) (m ((c.tc : Thread nD τ).loc main_arg3)))))) (vals (m ((c.tc : Thread nD τ).loc main_arg3))) (cols7 (m ((c.tc : Thread nD τ).loc main_arg0))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v103).trans (steps_main_v103 _),
      (h c main_v104).trans (steps_main_v104 _),
      (h c main_v105).trans (steps_main_v105 _),
      (h c main_arg0).trans (steps_main_arg0 _),
      (h c main_arg1).trans (steps_main_arg1 _),
      (h c main_arg2).trans (steps_main_arg2 _),
      (h c main_arg3).trans (steps_main_arg3 _),
      (h c main_arg4).trans (steps_main_arg4 _),
      (h c main_arg5).trans (steps_main_arg5 _)⟩)
    (run_seq no_scoped_refs no_scoped_sems defs main (fun _ => steps) main_steps (fun _ => steps_sub) m ρ (fun _ => steps_fresh))

end Cert.Reference4Ideal.Hand

end
-- ==== Proof.Hand.Branches.Entries.lean ====
/- The three branches on one block of rows, entry by entry, over the extended reals. -/
module

public import proofs.«01_k».proof.Proof.Gen.Kernel4Ideal.Frame
public import Idealize.ShloMosaic.Lib.Tactic.ValueTie

@[expose] public section

set_option maxRecDepth 32768

noncomputable section

namespace Cert.Kernel4Ideal.Hand

open Cert.Kernel4Ideal Cert.Kernel4Ideal.Gen
open Idealize.ShloMosaic Idealize.ShloMosaic.TcCoe Idealize.ShloMosaic.Tactic Idealize.SL.Sem

/-- The sigmoid. -/
def sigm (t : EReal) : EReal := Ideal.div 1 (1 + Ideal.exp (0 - t))

/-- Position `l` of a head's 256 numbers after the norm of the head. -/
def normAt (x : Fin 256 → EReal) (l : Fin 256) : EReal :=
  (x l - Ideal.div (∑ k, x k) (Ideal.ofBits FTy.f32 1132462080#32))
    * Ideal.rsqrt (Ideal.div (∑ k, (x k - Ideal.div (∑ k, x k) (Ideal.ofBits FTy.f32 1132462080#32)) * (x k - Ideal.div (∑ k, x k) (Ideal.ofBits FTy.f32 1132462080#32))) (Ideal.ofBits FTy.f32 1132462080#32) + Ideal.ofBits FTy.f32 897988541#32)

/-- The scaled score of a query against a key. -/
def scoreAt (q k : Fin 512 → EReal) : EReal := (∑ d, q d * k d) * Ideal.ofBits FTy.f32 1026884851#32

/-- The largest of 256 scores. -/
def topAt (s : Fin 256 → EReal) : EReal := Finset.fold max (Ideal.ofBits FTy.f32 4286578688#32) s Finset.univ

/-- One row's weighted sum of the values: the softmax of its scores against them. -/
def softAt (s v : Fin 256 → EReal) : EReal :=
  ∑ x, Ideal.div (Ideal.exp (s x - topAt s)) (∑ y, Ideal.exp (s y - topAt s)) * v x

/-- Column `l` of head `h` of the first branch, on row `r` of a block. -/
def headVal (x0 x1 x2 x3 : Vec Ideal S256x2048 .bf16) (x15 : Vec Ideal S1x2048 .f32) (r : Fin 256) (h : Fin 8) (l : Fin 256) : EReal :=
  normAt (fun k => x0 (ix2 r ⟨256 * h.val + k.val, by omega⟩) + x1 (ix2 r ⟨256 * h.val + k.val, by omega⟩)) l * x15 (ix2 0 ⟨256 * h.val + l.val, by omega⟩)
    * sigm (x2 (ix2 r ⟨256 * h.val + l.val, by omega⟩)) * (x3 (ix2 r ⟨256 * h.val + l.val, by omega⟩) * sigm (x3 (ix2 r ⟨256 * h.val + l.val, by omega⟩)))

/-- Column `l` of head `h` of the third branch, on row `r` of a block. -/
def attVal (x8 x9 : Vec Ideal S256x2048 .bf16) (x14 : Vec Ideal S256x4096 .bf16) (r : Fin 256) (h : Fin 4) (l : Fin 512) : EReal :=
  softAt (fun x => scoreAt (fun d => x8 (ix2 r ⟨512 * h.val + d.val, by omega⟩)) (fun d => x14 (ix2 x ⟨512 * h.val + d.val, by omega⟩))) (fun x => x14 (ix2 x ⟨2048 + 512 * h.val + l.val, by omega⟩))
    * (x9 (ix2 r ⟨512 * h.val + l.val, by omega⟩) * sigm (x9 (ix2 r ⟨512 * h.val + l.val, by omega⟩)))

/-- Column `l` of the second branch, on row `r` of block `j` of its batch: the row before the block and the row after it are the other
    blocks', and zero at the ends of the batch. -/
def convVal (j : ℕ) (x4 x5 x6 x7 : Vec Ideal S256x2048 .bf16) (x10 x11 x12 x13 : Vec Ideal S16x2048 .bf16) (x16 : Vec Ideal S8x2048 .f32) (r : Fin 256) (l : Fin 2048) : EReal :=
  x4 (ix2 r l) * (x16 (ix2 0 l) * (if h : r.val = 0 then (if 0 < j then x10 (ix2 15 l) * x11 (ix2 15 l) else 0) else x5 (ix2 ⟨r.val - 1, by omega⟩ l) * x6 (ix2 ⟨r.val - 1, by omega⟩ l))
      + x16 (ix2 1 l) * (x5 (ix2 r l) * x6 (ix2 r l))
      + x16 (ix2 2 l) * (if h : r.val = 255 then (if j < 15 then x12 (ix2 0 l) * x13 (ix2 0 l) else 0) else x5 (ix2 ⟨r.val + 1, by omega⟩ l) * x6 (ix2 ⟨r.val + 1, by omega⟩ l)))
    * (x7 (ix2 r l) * sigm (x7 (ix2 r l)))

/-- What is stored for head 0. -/
theorem head0 (x0 x1 x2 x3 : Vec Ideal S256x2048 .bf16) (x15 : Vec Ideal S1x2048 .f32) (r l : Fin 256) :
    k0_pay5 (k0_pay2 (View.ld x0 r0_0) (View.ld x1 r0_0) (View.ld x15 r0_1) (View.ld x2 r0_0)) (k0_pay3 (View.ld x3 r0_0)) (k0_pay4 (View.ld x3 r0_0)) (ix2 r l) = headVal x0 x1 x2 x3 x15 r 0 l := by
  unfold k0_pay5 k0_pay4 k0_pay3 k0_pay2 headVal normAt sigm
  pointwise

/-- What is stored for head 1. -/
theorem head1 (x0 x1 x2 x3 : Vec Ideal S256x2048 .bf16) (x15 : Vec Ideal S1x2048 .f32) (r l : Fin 256) :
    k0_pay8 (k0_pay6 (View.ld x0 r0_2) (View.ld x1 r0_2) (View.ld x15 r0_3)) (k0_pay7 (View.ld x2 r0_2)) (Scalar.ofBits .f32 0x3F800000#32) (View.ld x3 r0_2) (ix2 r l) = headVal x0 x1 x2 x3 x15 r 1 l := by
  unfold k0_pay8 k0_pay7 k0_pay6 headVal normAt sigm
  pointwise

/-- What is stored for head 2. -/
theorem head2 (x0 x1 x2 x3 : Vec Ideal S256x2048 .bf16) (x15 : Vec Ideal S1x2048 .f32) (r l : Fin 256) :
    k0_pay10 (k0_pay9 (View.ld x0 r0_4) (View.ld x1 r0_4) (View.ld x15 r0_5)) (View.ld x2 r0_4) (View.ld x3 r0_4) (ix2 r l) = headVal x0 x1 x2 x3 x15 r 2 l := by
  unfold k0_pay10 k0_pay9 headVal normAt sigm
  pointwise

/-- What is stored for head 3. -/
theorem head3 (x0 x1 x2 x3 : Vec Ideal S256x2048 .bf16) (x15 : Vec Ideal S1x2048 .f32) (r l : Fin 256) :
    k0_pay13 (k0_pay11 (View.ld x0 r0_6) (View.ld x1 r0_6)) (k0_pay12 (View.ld x0 r0_6) (View.ld x1 r0_6)) (Scalar.ofBits .f32 0x358637BD#32) (View.ld x15 r0_7) (View.ld x2 r0_6) (View.ld x3 r0_6) (ix2 r l) = headVal x0 x1 x2 x3 x15 r 3 l := by
  unfold k0_pay13 k0_pay12 k0_pay11 headVal normAt sigm
  pointwise

/-- What is stored for head 4. -/
theorem head4 (x0 x1 x2 x3 : Vec Ideal S256x2048 .bf16) (x15 : Vec Ideal S1x2048 .f32) (r l : Fin 256) :
    k0_pay17 (k0_pay14 (View.ld x0 r0_8) (View.ld x1 r0_8)) (k0_pay15 (View.ld x0 r0_8) (View.ld x1 r0_8)) (k0_pay16 (F := Ideal)) (View.ld x15 r0_9) (View.ld x2 r0_8) (View.ld x3 r0_8) (ix2 r l) = headVal x0 x1 x2 x3 x15 r 4 l := by
  unfold k0_pay17 k0_pay16 k0_pay15 k0_pay14 headVal normAt sigm
  pointwise

/-- What is stored for head 5. -/
theorem head5 (x0 x1 x2 x3 : Vec Ideal S256x2048 .bf16) (x15 : Vec Ideal S1x2048 .f32) (r l : Fin 256) :
    k0_pay22 (k0_pay18 (View.ld x0 r0_10) (View.ld x1 r0_10) (View.ld x15 r0_11) (View.ld x2 r0_10)) (k0_pay19 (View.ld x3 r0_10)) (k0_pay20 (View.ld x3 r0_10)) (k0_pay21 (F := Ideal)) (ix2 r l) = headVal x0 x1 x2 x3 x15 r 5 l := by
  unfold k0_pay22 k0_pay21 k0_pay20 k0_pay19 k0_pay18 headVal normAt sigm
  pointwise

/-- What is stored for head 6. -/
theorem head6 (x0 x1 x2 x3 : Vec Ideal S256x2048 .bf16) (x15 : Vec Ideal S1x2048 .f32) (r l : Fin 256) :
    k0_pay24 (k0_pay23 (View.ld x0 r0_12) (View.ld x1 r0_12) (View.ld x15 r0_13) (View.ld x2 r0_12)) (View.ld x3 r0_12) (ix2 r l) = headVal x0 x1 x2 x3 x15 r 6 l := by
  unfold k0_pay24 k0_pay23 headVal normAt sigm
  pointwise

/-- What is stored for head 7. -/
theorem head7 (x0 x1 x2 x3 : Vec Ideal S256x2048 .bf16) (x15 : Vec Ideal S1x2048 .f32) (r l : Fin 256) :
    k0_pay28 (k0_pay25 (View.ld x0 r0_14) (View.ld x1 r0_14) (View.ld x15 r0_15)) (k0_pay26 (View.ld x2 r0_14)) (k0_pay27 (F := Ideal)) (View.ld x3 r0_14) (ix2 r l) = headVal x0 x1 x2 x3 x15 r 7 l := by
  unfold k0_pay28 k0_pay27 k0_pay26 k0_pay25 headVal normAt sigm
  pointwise

/-- What is stored for head 0 of the attention. -/
theorem att0 (x8 x9 : Vec Ideal S256x2048 .bf16) (x14 : Vec Ideal S256x4096 .bf16) (r : Fin 256) (l : Fin 512) :
    k0_pay36 (View.ld x8 r0_22) (View.ld x14 r0_23) (View.ld x14 r0_24) (View.ld x9 r0_22) (ix2 r l) = attVal x8 x9 x14 r 0 l := by
  unfold k0_pay36 attVal softAt topAt scoreAt sigm
  pointwise

/-- What is stored for head 1 of the attention. -/
theorem att1 (x8 x9 : Vec Ideal S256x2048 .bf16) (x14 : Vec Ideal S256x4096 .bf16) (r : Fin 256) (l : Fin 512) :
    k0_pay37 (View.ld x8 r0_25) (View.ld x14 r0_26) (View.ld x14 r0_27) (View.ld x9 r0_25) (ix2 r l) = attVal x8 x9 x14 r 1 l := by
  unfold k0_pay37 attVal softAt topAt scoreAt sigm
  pointwise

/-- What is stored for head 2 of the attention. -/
theorem att2 (x8 x9 : Vec Ideal S256x2048 .bf16) (x14 : Vec Ideal S256x4096 .bf16) (r : Fin 256) (l : Fin 512) :
    k0_pay39 (View.ld x14 r0_30) (k0_pay38 (View.ld x8 r0_28) (View.ld x14 r0_29)) (View.ld x9 r0_28) (ix2 r l) = attVal x8 x9 x14 r 2 l := by
  unfold k0_pay39 k0_pay38 attVal softAt topAt scoreAt sigm
  pointwise

/-- What is stored for head 3 of the attention. -/
theorem att3 (x8 x9 : Vec Ideal S256x2048 .bf16) (x14 : Vec Ideal S256x4096 .bf16) (r : Fin 256) (l : Fin 512) :
    k0_pay1 (View.ld x14 r0_33) (k0_pay40 (View.ld x8 r0_31) (View.ld x14 r0_32)) (View.ld x9 r0_31) (ix2 r l) = attVal x8 x9 x14 r 3 l := by
  unfold k0_pay40 k0_pay1 attVal softAt topAt scoreAt sigm
  pointwise

/-- The kernel's comparisons of a row's number, and of a block's, as conditions. -/
theorem first_word : ∀ r : Fin 256, IntOp.cmpi .eq (BitVec.ofNat 32 r.val) 0#32 = if r.val = 0 then 1#1 else 0#1 := by decide +kernel
theorem last_word : ∀ r : Fin 256, IntOp.cmpi .eq (BitVec.ofNat 32 r.val) 255#32 = if r.val = 255 then 1#1 else 0#1 := by decide +kernel
theorem later_word : ∀ j : Fin 16, Scalar.cmpi .sgt (BitVec.ofNat 32 j.val) 0#32 = if 0 < j.val then 1#1 else 0#1 := by decide +kernel
theorem earlier_word : ∀ j : Fin 16, Scalar.cmpi .slt (BitVec.ofNat 32 j.val) 15#32 = if j.val < 15 then 1#1 else 0#1 := by decide +kernel
theorem select_if (p : Prop) [Decidable p] (a b : EReal) : Scalar.select (if p then 1#1 else 0#1) a b = if p then a else b := by
  split <;> rfl

/-- What is stored of the second branch. -/
theorem conv_entry (i : grid0.Coords) (x4 x5 x6 x7 : Vec Ideal S256x2048 .bf16) (x10 x11 x12 x13 : Vec Ideal S16x2048 .bf16) (x16 : Vec Ideal S8x2048 .f32) (r : Fin 256) (l : Fin 2048) :
    k0_pay35 (k0_pay32 (BitVec.ofNat 32 (i 1).val) (k0_pay29 (View.ld x5 r0_16) (View.ld x6 r0_16)) (k0_pay30 (View.ld x10 r0_17) (View.ld x11 r0_17)) (k0_pay31 (View.ld x12 r0_18) (View.ld x13 r0_18)) (Scalar.cmpi .sgt (BitVec.ofNat 32 (i 1).val) 0#32) (Scalar.ofBits .f32 0x00000000#32) (View.ld x16 r0_19) (View.ld x16 r0_20) (View.ld x16 r0_21) (View.ld x4 r0_16)) (k0_pay33 (View.ld x7 r0_16)) (k0_pay34 (View.ld x7 r0_16)) (ix2 r l) = convVal (i 1).val x4 x5 x6 x7 x10 x11 x12 x13 x16 r l := by
  unfold k0_pay35 k0_pay34 k0_pay33 k0_pay32 k0_pay31 k0_pay30 k0_pay29 convVal sigm
  pointwise
  rw [first_word, last_word, later_word (i 1), earlier_word (i 1)]
  simp only [select_if]
  congr 3
  · congr 2
    by_cases h : r.val = 0
    · rw [if_pos h, dif_pos h]
    · rw [if_neg h, dif_neg h]
      have e : (r.val + 256 - 1) % 256 = r.val - 1 := by omega
      simp only [e]
  · congr 1
    by_cases h : r.val = 255
    · rw [if_pos h, dif_pos h]
    · rw [if_neg h, dif_neg h]
      have e : (r.val + 256 - 255) % 256 = r.val + 1 := by omega
      simp only [e]

end Cert.Kernel4Ideal.Hand

end
-- ==== Proof.Hand.Branches.Staged.lean ====
/- The three output blocks of one grid point: the stores read back, entry by entry. -/
module

public import proofs.«01_k».proof.Proof.Hand.Branches.Entries
public import Idealize.ShloMosaic.Lib.Pipeline.ValueKit.Tiles

@[expose] public section

set_option maxRecDepth 32768

noncomputable section

namespace Cert.Kernel4Ideal.Hand

open Cert.Kernel4Ideal Cert.Kernel4Ideal.Gen
open Idealize.ShloMosaic Idealize.ShloMosaic.TcCoe Idealize.ShloMosaic.Tactic Idealize.SL.Sem

/-- A tile of `w` columns, from column `off = w * k` on, read at a row and column of the block it is stored in: what the
    tile holds at `(r, l)` of its own is what a function of row, tile and column within the tile says. -/
theorem tile_at {w q : ℕ} (hw : 0 < w) (W : Fin 256 → Fin q → Fin w → EReal) (k : Fin q) (off : ℕ) (ho : off = w * k.val)
    (inb : ∀ a, (![0, off] : Fin 2 → ℕ) a + (![256, w] : Fin 2 → ℕ) a ≤ S256x2048.size a) (tile : (⟨2, ![256, w]⟩ : Shape).Idx → EReal)
    (ht : ∀ (r : Fin 256) (l : Fin w), tile (ix2 r l) = W r k l) (r : Fin 256) (c : Fin 2048) (h : c.val / w < q)
    (x : (⟨2, ![256, w]⟩ : Shape).Idx) (hx : (Rect.unit (s := S256x2048) ![0, off] ![256, w] inb).emb x = ix2 r c) :
    tile x = W r ⟨c.val / w, h⟩ ⟨c.val % w, Nat.mod_lt _ hw⟩ := by
  have hr : 0 + 1 * (x 0).val = r.val := congrArg Fin.val (congrFun hx 0)
  have hc : off + 1 * (x 1).val = c.val := congrArg Fin.val (congrFun hx 1)
  have hl : (x 1).val < w := (x 1).isLt
  have ec : c.val = w * k.val + (x 1).val := by rw [← hc, ho, Nat.one_mul]
  have ex : x = ix2 (x 0) (x 1) := by funext a; match a with | ⟨0, _⟩ => rfl | ⟨1, _⟩ => rfl
  have e0 : (x 0 : Fin 256) = r := Fin.ext (by omega)
  have e1 : (⟨c.val / w, h⟩ : Fin q) = k := Fin.ext (by show c.val / w = k.val; rw [ec, Nat.mul_add_div hw, Nat.div_eq_of_lt hl, Nat.add_zero])
  have e2 : (⟨c.val % w, Nat.mod_lt _ hw⟩ : Fin w) = (x 1 : Fin w) := Fin.ext (by show c.val % w = (x 1).val; rw [ec, Nat.mul_add_mod, Nat.mod_eq_of_lt hl])
  rw [e1, e2, ← e0]
  exact (congrArg _ ex).trans (ht (x 0) (x 1))

/-- Output 0's block, at row `r` and column `c`. -/
theorem staged17 (i : grid0.Coords) (x0 x1 x2 x3 x4 x5 x6 x7 x8 x9 : Vec Ideal S256x2048 .bf16) (x10 x11 x12 x13 : Vec Ideal S16x2048 .bf16) (x14 : Vec Ideal S256x4096 .bf16) (x15 : Vec Ideal S1x2048 .f32) (x16 : Vec Ideal S8x2048 .f32) (r : Fin 256) (c : Fin 2048) :
    (out0_17 i x0 x1 x2 x3 x4 x5 x6 x7 x8 x9 x10 x11 x12 x13 x14 x15 x16 : Vec Ideal S256x2048 .bf16) (ix2 r c) = headVal x0 x1 x2 x3 x15 r ⟨c.val / 256, by omega⟩ ⟨c.val % 256, Nat.mod_lt _ (by decide)⟩ := by
  unfold out0_17
  refine View.canon_eq_of_allAt _ _ _ (cover0_17 _ _ _ _ _ _ _ _  _) ?_
  intro p hp
  simp only [List.mem_cons, List.not_mem_nil, or_false] at hp
  rcases hp with rfl | rfl | rfl | rfl | rfl | rfl | rfl | rfl
  · exact tile_at (by decide) (headVal x0 x1 x2 x3 x15) 7 1792 rfl inb_S256x2048_S256x256_0_1792 _ (head7 x0 x1 x2 x3 x15) r c _
  · exact tile_at (by decide) (headVal x0 x1 x2 x3 x15) 6 1536 rfl inb_S256x2048_S256x256_0_1536 _ (head6 x0 x1 x2 x3 x15) r c _
  · exact tile_at (by decide) (headVal x0 x1 x2 x3 x15) 5 1280 rfl inb_S256x2048_S256x256_0_1280 _ (head5 x0 x1 x2 x3 x15) r c _
  · exact tile_at (by decide) (headVal x0 x1 x2 x3 x15) 4 1024 rfl inb_S256x2048_S256x256_0_1024 _ (head4 x0 x1 x2 x3 x15) r c _
  · exact tile_at (by decide) (headVal x0 x1 x2 x3 x15) 3 768 rfl inb_S256x2048_S256x256_0_768 _ (head3 x0 x1 x2 x3 x15) r c _
  · exact tile_at (by decide) (headVal x0 x1 x2 x3 x15) 2 512 rfl inb_S256x2048_S256x256_0_512 _ (head2 x0 x1 x2 x3 x15) r c _
  · exact tile_at (by decide) (headVal x0 x1 x2 x3 x15) 1 256 rfl inb_S256x2048_S256x256_0_256 _ (head1 x0 x1 x2 x3 x15) r c _
  · exact tile_at (by decide) (headVal x0 x1 x2 x3 x15) 0 0 rfl inb_S256x2048_S256x256_0_0 _ (head0 x0 x1 x2 x3 x15) r c _

/-- Output 2's block, at row `r` and column `c`. -/
theorem staged19 (i : grid0.Coords) (x0 x1 x2 x3 x4 x5 x6 x7 x8 x9 : Vec Ideal S256x2048 .bf16) (x10 x11 x12 x13 : Vec Ideal S16x2048 .bf16) (x14 : Vec Ideal S256x4096 .bf16) (x15 : Vec Ideal S1x2048 .f32) (x16 : Vec Ideal S8x2048 .f32) (r : Fin 256) (c : Fin 2048) :
    (out0_19 i x0 x1 x2 x3 x4 x5 x6 x7 x8 x9 x10 x11 x12 x13 x14 x15 x16 : Vec Ideal S256x2048 .bf16) (ix2 r c) = attVal x8 x9 x14 r ⟨c.val / 512, by omega⟩ ⟨c.val % 512, Nat.mod_lt _ (by decide)⟩ := by
  unfold out0_19
  refine View.canon_eq_of_allAt _ _ _ (cover0_19 _ _ _ _  _) ?_
  intro p hp
  simp only [List.mem_cons, List.not_mem_nil, or_false] at hp
  rcases hp with rfl | rfl | rfl | rfl
  · exact tile_at (by decide) (attVal x8 x9 x14) 3 1536 rfl inb_S256x2048_S256x512_0_1536 _ (att3 x8 x9 x14) r c _
  · exact tile_at (by decide) (attVal x8 x9 x14) 2 1024 rfl inb_S256x2048_S256x512_0_1024 _ (att2 x8 x9 x14) r c _
  · exact tile_at (by decide) (attVal x8 x9 x14) 1 512 rfl inb_S256x2048_S256x512_0_512 _ (att1 x8 x9 x14) r c _
  · exact tile_at (by decide) (attVal x8 x9 x14) 0 0 rfl inb_S256x2048_S256x512_0_0 _ (att0 x8 x9 x14) r c _

/-- Output 1's block, at row `r` and column `c`. -/
theorem staged18 (i : grid0.Coords) (x0 x1 x2 x3 x4 x5 x6 x7 x8 x9 : Vec Ideal S256x2048 .bf16) (x10 x11 x12 x13 : Vec Ideal S16x2048 .bf16) (x14 : Vec Ideal S256x4096 .bf16) (x15 : Vec Ideal S1x2048 .f32) (x16 : Vec Ideal S8x2048 .f32) (r : Fin 256) (c : Fin 2048) :
    (out0_18 i x0 x1 x2 x3 x4 x5 x6 x7 x8 x9 x10 x11 x12 x13 x14 x15 x16 : Vec Ideal S256x2048 .bf16) (ix2 r c) = convVal (i 1).val x4 x5 x6 x7 x10 x11 x12 x13 x16 r c := by
  unfold out0_18
  refine View.canon_eq_of_allAt _ _ _ (cover0_18 _ _) ?_
  intro p hp
  simp only [List.mem_cons, List.not_mem_nil, or_false] at hp
  subst hp
  intro x hx
  have hr : 0 + 1 * (x 0).val = r.val := congrArg Fin.val (congrFun hx 0)
  have hc : 0 + 1 * (x 1).val = c.val := congrArg Fin.val (congrFun hx 1)
  have ex : x = ix2 (x 0) (x 1) := by funext a; match a with | ⟨0, _⟩ => rfl | ⟨1, _⟩ => rfl
  have e0 : (x 0 : Fin 256) = r := Fin.ext (by omega)
  have e1 : (x 1 : Fin 2048) = c := Fin.ext (by omega)
  rw [← e0, ← e1]
  exact (congrArg _ ex).trans (conv_entry i x4 x5 x6 x7 x10 x11 x12 x13 x16 (x 0) (x 1))

end Cert.Kernel4Ideal.Hand

end
-- ==== Proof.Hand.Branches.Blocks.lean ====
/- What the windows of the branches hold at a grid point, entry by entry, and the three results as whole arrays. -/
module

public import proofs.«01_k».proof.Proof.Hand.Branches.Staged

@[expose] public section

set_option maxRecDepth 16384

noncomputable section

namespace Cert.Kernel4Ideal.Hand

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg)

/-! Which block of its array a window holds at a grid point. -/

theorem index0 : ∀ t : Fin cfg0.N, win0_0.index t = ![t.val, 0] :=
  (by decide +kernel : ∀ t : Fin grid0.N, win0_0.index t = ![t.val, 0])
theorem index1 : ∀ t : Fin cfg0.N, win0_1.index t = ![t.val, 0] :=
  (by decide +kernel : ∀ t : Fin grid0.N, win0_1.index t = ![t.val, 0])
theorem index2 : ∀ t : Fin cfg0.N, win0_2.index t = ![t.val, 3] :=
  (by decide +kernel : ∀ t : Fin grid0.N, win0_2.index t = ![t.val, 3])
theorem index3 : ∀ t : Fin cfg0.N, win0_3.index t = ![t.val, 4] :=
  (by decide +kernel : ∀ t : Fin grid0.N, win0_3.index t = ![t.val, 4])
theorem index4 : ∀ t : Fin cfg0.N, win0_4.index t = ![t.val, 5] :=
  (by decide +kernel : ∀ t : Fin grid0.N, win0_4.index t = ![t.val, 5])
theorem index5 : ∀ t : Fin cfg0.N, win0_5.index t = ![t.val, 6] :=
  (by decide +kernel : ∀ t : Fin grid0.N, win0_5.index t = ![t.val, 6])
theorem index6 : ∀ t : Fin cfg0.N, win0_6.index t = ![t.val, 7] :=
  (by decide +kernel : ∀ t : Fin grid0.N, win0_6.index t = ![t.val, 7])
theorem index7 : ∀ t : Fin cfg0.N, win0_7.index t = ![t.val, 8] :=
  (by decide +kernel : ∀ t : Fin grid0.N, win0_7.index t = ![t.val, 8])
theorem index8 : ∀ t : Fin cfg0.N, win0_8.index t = ![t.val, 9] :=
  (by decide +kernel : ∀ t : Fin grid0.N, win0_8.index t = ![t.val, 9])
theorem index9 : ∀ t : Fin cfg0.N, win0_9.index t = ![t.val, 10] :=
  (by decide +kernel : ∀ t : Fin grid0.N, win0_9.index t = ![t.val, 10])
theorem index10 : ∀ t : Fin cfg0.N, win0_10.index t = ![16 * t.val - 1, 6] :=
  (by decide +kernel : ∀ t : Fin grid0.N, win0_10.index t = ![16 * t.val - 1, 6])
theorem index11 : ∀ t : Fin cfg0.N, win0_11.index t = ![16 * t.val - 1, 7] :=
  (by decide +kernel : ∀ t : Fin grid0.N, win0_11.index t = ![16 * t.val - 1, 7])
theorem index12 : ∀ t : Fin cfg0.N, win0_12.index t = ![min (16 * t.val + 16) 2047, 6] :=
  (by decide +kernel : ∀ t : Fin grid0.N, win0_12.index t = ![min (16 * t.val + 16) 2047, 6])
theorem index13 : ∀ t : Fin cfg0.N, win0_13.index t = ![min (16 * t.val + 16) 2047, 7] :=
  (by decide +kernel : ∀ t : Fin grid0.N, win0_13.index t = ![min (16 * t.val + 16) 2047, 7])
theorem index14 : ∀ t : Fin cfg0.N, win0_14.index t = ![t.val / 16, 0] :=
  (by decide +kernel : ∀ t : Fin grid0.N, win0_14.index t = ![t.val / 16, 0])
theorem index15 : ∀ t : Fin cfg0.N, win0_15.index t = ![0, 0] :=
  (by decide +kernel : ∀ t : Fin grid0.N, win0_15.index t = ![0, 0])
theorem index16 : ∀ t : Fin cfg0.N, win0_16.index t = ![0, 0] :=
  (by decide +kernel : ∀ t : Fin grid0.N, win0_16.index t = ![0, 0])
theorem index17 : ∀ t : Fin cfg0.N, win0_17.index t = ![t.val, 0] :=
  (by decide +kernel : ∀ t : Fin grid0.N, win0_17.index t = ![t.val, 0])
theorem index18 : ∀ t : Fin cfg0.N, win0_18.index t = ![t.val, 0] :=
  (by decide +kernel : ∀ t : Fin grid0.N, win0_18.index t = ![t.val, 0])
theorem index19 : ∀ t : Fin cfg0.N, win0_19.index t = ![t.val, 0] :=
  (by decide +kernel : ∀ t : Fin grid0.N, win0_19.index t = ![t.val, 0])

/-- A grid point's place within its batch. -/
theorem place : ∀ t : Fin cfg0.N, (grid0.coords t 1).val = t.val % 16 :=
  (by decide +kernel : ∀ t : Fin grid0.N, (grid0.coords t 1).val = t.val % 16)

/-- Window 0, at row `r` and column `l` of its block. -/
theorem block0 (c : Dev nD) (t : Fin cfg0.N) (r : Fin 256) (l : Fin 2048) (n : Fin 32768) (k : Fin 2048) (hn : n.val = 256 * (t.val) + r.val) (hk : k.val = 2048 * 0 + l.val) :
    (iblk m c 0 t : Vec Ideal S256x2048 .bf16) (ix2 r l) = (m ((c.tc : Thread nD τ).loc main_arg1) : Vec Ideal S32768x2048 .bf16) (ix2 n k) := by
  have i0 : win0_0.index t (0 : Fin 2) = t.val := congrFun (index0 t) 0
  have i1 : win0_0.index t (1 : Fin 2) = 0 := congrFun (index0 t) 1
  show m ((c.tc : Thread nD τ).loc main_arg1) (((cfg0.win 0).blk t).view.emb (ix2 r l)) = m ((c.tc : Thread nD τ).loc main_arg1) _
  congr 1
  funext a; apply Fin.ext
  match a with
  | ⟨0, _⟩ => show win0_0.index t (0 : Fin 2) * 256 + 1 * r.val = n.val; rw [i0, hn]; omega
  | ⟨1, _⟩ => show win0_0.index t (1 : Fin 2) * 2048 + 1 * l.val = k.val; rw [i1, hk]; omega

/-- Window 1, at row `r` and column `l` of its block. -/
theorem block1 (c : Dev nD) (t : Fin cfg0.N) (r : Fin 256) (l : Fin 2048) (n : Fin 32768) (k : Fin 2048) (hn : n.val = 256 * (t.val) + r.val) (hk : k.val = 2048 * 0 + l.val) :
    (iblk m c 1 t : Vec Ideal S256x2048 .bf16) (ix2 r l) = (m ((c.tc : Thread nD τ).loc main_arg2) : Vec Ideal S32768x2048 .bf16) (ix2 n k) := by
  have i0 : win0_1.index t (0 : Fin 2) = t.val := congrFun (index1 t) 0
  have i1 : win0_1.index t (1 : Fin 2) = 0 := congrFun (index1 t) 1
  show m ((c.tc : Thread nD τ).loc main_arg2) (((cfg0.win 1).blk t).view.emb (ix2 r l)) = m ((c.tc : Thread nD τ).loc main_arg2) _
  congr 1
  funext a; apply Fin.ext
  match a with
  | ⟨0, _⟩ => show win0_1.index t (0 : Fin 2) * 256 + 1 * r.val = n.val; rw [i0, hn]; omega
  | ⟨1, _⟩ => show win0_1.index t (1 : Fin 2) * 2048 + 1 * l.val = k.val; rw [i1, hk]; omega

/-- Window 2, at row `r` and column `l` of its block. -/
theorem block2 (c : Dev nD) (t : Fin cfg0.N) (r : Fin 256) (l : Fin 2048) (n : Fin 32768) (k : Fin 28672) (hn : n.val = 256 * (t.val) + r.val) (hk : k.val = 2048 * 3 + l.val) :
    (iblk m c 2 t : Vec Ideal S256x2048 .bf16) (ix2 r l) = (m ((c.tc : Thread nD τ).loc main_arg0) : Vec Ideal S32768x28672 .bf16) (ix2 n k) := by
  have i0 : win0_2.index t (0 : Fin 2) = t.val := congrFun (index2 t) 0
  have i1 : win0_2.index t (1 : Fin 2) = 3 := congrFun (index2 t) 1
  show m ((c.tc : Thread nD τ).loc main_arg0) (((cfg0.win 2).blk t).view.emb (ix2 r l)) = m ((c.tc : Thread nD τ).loc main_arg0) _
  congr 1
  funext a; apply Fin.ext
  match a with
  | ⟨0, _⟩ => show win0_2.index t (0 : Fin 2) * 256 + 1 * r.val = n.val; rw [i0, hn]; omega
  | ⟨1, _⟩ => show win0_2.index t (1 : Fin 2) * 2048 + 1 * l.val = k.val; rw [i1, hk]; omega

/-- Window 3, at row `r` and column `l` of its block. -/
theorem block3 (c : Dev nD) (t : Fin cfg0.N) (r : Fin 256) (l : Fin 2048) (n : Fin 32768) (k : Fin 28672) (hn : n.val = 256 * (t.val) + r.val) (hk : k.val = 2048 * 4 + l.val) :
    (iblk m c 3 t : Vec Ideal S256x2048 .bf16) (ix2 r l) = (m ((c.tc : Thread nD τ).loc main_arg0) : Vec Ideal S32768x28672 .bf16) (ix2 n k) := by
  have i0 : win0_3.index t (0 : Fin 2) = t.val := congrFun (index3 t) 0
  have i1 : win0_3.index t (1 : Fin 2) = 4 := congrFun (index3 t) 1
  show m ((c.tc : Thread nD τ).loc main_arg0) (((cfg0.win 3).blk t).view.emb (ix2 r l)) = m ((c.tc : Thread nD τ).loc main_arg0) _
  congr 1
  funext a; apply Fin.ext
  match a with
  | ⟨0, _⟩ => show win0_3.index t (0 : Fin 2) * 256 + 1 * r.val = n.val; rw [i0, hn]; omega
  | ⟨1, _⟩ => show win0_3.index t (1 : Fin 2) * 2048 + 1 * l.val = k.val; rw [i1, hk]; omega

/-- Window 4, at row `r` and column `l` of its block. -/
theorem block4 (c : Dev nD) (t : Fin cfg0.N) (r : Fin 256) (l : Fin 2048) (n : Fin 32768) (k : Fin 28672) (hn : n.val = 256 * (t.val) + r.val) (hk : k.val = 2048 * 5 + l.val) :
    (iblk m c 4 t : Vec Ideal S256x2048 .bf16) (ix2 r l) = (m ((c.tc : Thread nD τ).loc main_arg0) : Vec Ideal S32768x28672 .bf16) (ix2 n k) := by
  have i0 : win0_4.index t (0 : Fin 2) = t.val := congrFun (index4 t) 0
  have i1 : win0_4.index t (1 : Fin 2) = 5 := congrFun (index4 t) 1
  show m ((c.tc : Thread nD τ).loc main_arg0) (((cfg0.win 4).blk t).view.emb (ix2 r l)) = m ((c.tc : Thread nD τ).loc main_arg0) _
  congr 1
  funext a; apply Fin.ext
  match a with
  | ⟨0, _⟩ => show win0_4.index t (0 : Fin 2) * 256 + 1 * r.val = n.val; rw [i0, hn]; omega
  | ⟨1, _⟩ => show win0_4.index t (1 : Fin 2) * 2048 + 1 * l.val = k.val; rw [i1, hk]; omega

/-- Window 5, at row `r` and column `l` of its block. -/
theorem block5 (c : Dev nD) (t : Fin cfg0.N) (r : Fin 256) (l : Fin 2048) (n : Fin 32768) (k : Fin 28672) (hn : n.val = 256 * (t.val) + r.val) (hk : k.val = 2048 * 6 + l.val) :
    (iblk m c 5 t : Vec Ideal S256x2048 .bf16) (ix2 r l) = (m ((c.tc : Thread nD τ).loc main_arg0) : Vec Ideal S32768x28672 .bf16) (ix2 n k) := by
  have i0 : win0_5.index t (0 : Fin 2) = t.val := congrFun (index5 t) 0
  have i1 : win0_5.index t (1 : Fin 2) = 6 := congrFun (index5 t) 1
  show m ((c.tc : Thread nD τ).loc main_arg0) (((cfg0.win 5).blk t).view.emb (ix2 r l)) = m ((c.tc : Thread nD τ).loc main_arg0) _
  congr 1
  funext a; apply Fin.ext
  match a with
  | ⟨0, _⟩ => show win0_5.index t (0 : Fin 2) * 256 + 1 * r.val = n.val; rw [i0, hn]; omega
  | ⟨1, _⟩ => show win0_5.index t (1 : Fin 2) * 2048 + 1 * l.val = k.val; rw [i1, hk]; omega

/-- Window 6, at row `r` and column `l` of its block. -/
theorem block6 (c : Dev nD) (t : Fin cfg0.N) (r : Fin 256) (l : Fin 2048) (n : Fin 32768) (k : Fin 28672) (hn : n.val = 256 * (t.val) + r.val) (hk : k.val = 2048 * 7 + l.val) :
    (iblk m c 6 t : Vec Ideal S256x2048 .bf16) (ix2 r l) = (m ((c.tc : Thread nD τ).loc main_arg0) : Vec Ideal S32768x28672 .bf16) (ix2 n k) := by
  have i0 : win0_6.index t (0 : Fin 2) = t.val := congrFun (index6 t) 0
  have i1 : win0_6.index t (1 : Fin 2) = 7 := congrFun (index6 t) 1
  show m ((c.tc : Thread nD τ).loc main_arg0) (((cfg0.win 6).blk t).view.emb (ix2 r l)) = m ((c.tc : Thread nD τ).loc main_arg0) _
  congr 1
  funext a; apply Fin.ext
  match a with
  | ⟨0, _⟩ => show win0_6.index t (0 : Fin 2) * 256 + 1 * r.val = n.val; rw [i0, hn]; omega
  | ⟨1, _⟩ => show win0_6.index t (1 : Fin 2) * 2048 + 1 * l.val = k.val; rw [i1, hk]; omega

/-- Window 7, at row `r` and column `l` of its block. -/
theorem block7 (c : Dev nD) (t : Fin cfg0.N) (r : Fin 256) (l : Fin 2048) (n : Fin 32768) (k : Fin 28672) (hn : n.val = 256 * (t.val) + r.val) (hk : k.val = 2048 * 8 + l.val) :
    (iblk m c 7 t : Vec Ideal S256x2048 .bf16) (ix2 r l) = (m ((c.tc : Thread nD τ).loc main_arg0) : Vec Ideal S32768x28672 .bf16) (ix2 n k) := by
  have i0 : win0_7.index t (0 : Fin 2) = t.val := congrFun (index7 t) 0
  have i1 : win0_7.index t (1 : Fin 2) = 8 := congrFun (index7 t) 1
  show m ((c.tc : Thread nD τ).loc main_arg0) (((cfg0.win 7).blk t).view.emb (ix2 r l)) = m ((c.tc : Thread nD τ).loc main_arg0) _
  congr 1
  funext a; apply Fin.ext
  match a with
  | ⟨0, _⟩ => show win0_7.index t (0 : Fin 2) * 256 + 1 * r.val = n.val; rw [i0, hn]; omega
  | ⟨1, _⟩ => show win0_7.index t (1 : Fin 2) * 2048 + 1 * l.val = k.val; rw [i1, hk]; omega

/-- Window 8, at row `r` and column `l` of its block. -/
theorem block8 (c : Dev nD) (t : Fin cfg0.N) (r : Fin 256) (l : Fin 2048) (n : Fin 32768) (k : Fin 28672) (hn : n.val = 256 * (t.val) + r.val) (hk : k.val = 2048 * 9 + l.val) :
    (iblk m c 8 t : Vec Ideal S256x2048 .bf16) (ix2 r l) = (m ((c.tc : Thread nD τ).loc main_arg0) : Vec Ideal S32768x28672 .bf16) (ix2 n k) := by
  have i0 : win0_8.index t (0 : Fin 2) = t.val := congrFun (index8 t) 0
  have i1 : win0_8.index t (1 : Fin 2) = 9 := congrFun (index8 t) 1
  show m ((c.tc : Thread nD τ).loc main_arg0) (((cfg0.win 8).blk t).view.emb (ix2 r l)) = m ((c.tc : Thread nD τ).loc main_arg0) _
  congr 1
  funext a; apply Fin.ext
  match a with
  | ⟨0, _⟩ => show win0_8.index t (0 : Fin 2) * 256 + 1 * r.val = n.val; rw [i0, hn]; omega
  | ⟨1, _⟩ => show win0_8.index t (1 : Fin 2) * 2048 + 1 * l.val = k.val; rw [i1, hk]; omega

/-- Window 9, at row `r` and column `l` of its block. -/
theorem block9 (c : Dev nD) (t : Fin cfg0.N) (r : Fin 256) (l : Fin 2048) (n : Fin 32768) (k : Fin 28672) (hn : n.val = 256 * (t.val) + r.val) (hk : k.val = 2048 * 10 + l.val) :
    (iblk m c 9 t : Vec Ideal S256x2048 .bf16) (ix2 r l) = (m ((c.tc : Thread nD τ).loc main_arg0) : Vec Ideal S32768x28672 .bf16) (ix2 n k) := by
  have i0 : win0_9.index t (0 : Fin 2) = t.val := congrFun (index9 t) 0
  have i1 : win0_9.index t (1 : Fin 2) = 10 := congrFun (index9 t) 1
  show m ((c.tc : Thread nD τ).loc main_arg0) (((cfg0.win 9).blk t).view.emb (ix2 r l)) = m ((c.tc : Thread nD τ).loc main_arg0) _
  congr 1
  funext a; apply Fin.ext
  match a with
  | ⟨0, _⟩ => show win0_9.index t (0 : Fin 2) * 256 + 1 * r.val = n.val; rw [i0, hn]; omega
  | ⟨1, _⟩ => show win0_9.index t (1 : Fin 2) * 2048 + 1 * l.val = k.val; rw [i1, hk]; omega

/-- Window 10, at row `r` and column `l` of its block. -/
theorem block10 (c : Dev nD) (t : Fin cfg0.N) (r : Fin 16) (l : Fin 2048) (n : Fin 32768) (k : Fin 28672) (hn : n.val = 16 * (16 * t.val - 1) + r.val) (hk : k.val = 2048 * 6 + l.val) :
    (iblk m c 10 t : Vec Ideal S16x2048 .bf16) (ix2 r l) = (m ((c.tc : Thread nD τ).loc main_arg0) : Vec Ideal S32768x28672 .bf16) (ix2 n k) := by
  have i0 : win0_10.index t (0 : Fin 2) = 16 * t.val - 1 := congrFun (index10 t) 0
  have i1 : win0_10.index t (1 : Fin 2) = 6 := congrFun (index10 t) 1
  show m ((c.tc : Thread nD τ).loc main_arg0) (((cfg0.win 10).blk t).view.emb (ix2 r l)) = m ((c.tc : Thread nD τ).loc main_arg0) _
  congr 1
  funext a; apply Fin.ext
  match a with
  | ⟨0, _⟩ => show win0_10.index t (0 : Fin 2) * 16 + 1 * r.val = n.val; rw [i0, hn]; omega
  | ⟨1, _⟩ => show win0_10.index t (1 : Fin 2) * 2048 + 1 * l.val = k.val; rw [i1, hk]; omega

/-- Window 11, at row `r` and column `l` of its block. -/
theorem block11 (c : Dev nD) (t : Fin cfg0.N) (r : Fin 16) (l : Fin 2048) (n : Fin 32768) (k : Fin 28672) (hn : n.val = 16 * (16 * t.val - 1) + r.val) (hk : k.val = 2048 * 7 + l.val) :
    (iblk m c 11 t : Vec Ideal S16x2048 .bf16) (ix2 r l) = (m ((c.tc : Thread nD τ).loc main_arg0) : Vec Ideal S32768x28672 .bf16) (ix2 n k) := by
  have i0 : win0_11.index t (0 : Fin 2) = 16 * t.val - 1 := congrFun (index11 t) 0
  have i1 : win0_11.index t (1 : Fin 2) = 7 := congrFun (index11 t) 1
  show m ((c.tc : Thread nD τ).loc main_arg0) (((cfg0.win 11).blk t).view.emb (ix2 r l)) = m ((c.tc : Thread nD τ).loc main_arg0) _
  congr 1
  funext a; apply Fin.ext
  match a with
  | ⟨0, _⟩ => show win0_11.index t (0 : Fin 2) * 16 + 1 * r.val = n.val; rw [i0, hn]; omega
  | ⟨1, _⟩ => show win0_11.index t (1 : Fin 2) * 2048 + 1 * l.val = k.val; rw [i1, hk]; omega

/-- Window 12, at row `r` and column `l` of its block. -/
theorem block12 (c : Dev nD) (t : Fin cfg0.N) (r : Fin 16) (l : Fin 2048) (n : Fin 32768) (k : Fin 28672) (hn : n.val = 16 * (min (16 * t.val + 16) 2047) + r.val) (hk : k.val = 2048 * 6 + l.val) :
    (iblk m c 12 t : Vec Ideal S16x2048 .bf16) (ix2 r l) = (m ((c.tc : Thread nD τ).loc main_arg0) : Vec Ideal S32768x28672 .bf16) (ix2 n k) := by
  have i0 : win0_12.index t (0 : Fin 2) = min (16 * t.val + 16) 2047 := congrFun (index12 t) 0
  have i1 : win0_12.index t (1 : Fin 2) = 6 := congrFun (index12 t) 1
  show m ((c.tc : Thread nD τ).loc main_arg0) (((cfg0.win 12).blk t).view.emb (ix2 r l)) = m ((c.tc : Thread nD τ).loc main_arg0) _
  congr 1
  funext a; apply Fin.ext
  match a with
  | ⟨0, _⟩ => show win0_12.index t (0 : Fin 2) * 16 + 1 * r.val = n.val; rw [i0, hn]; omega
  | ⟨1, _⟩ => show win0_12.index t (1 : Fin 2) * 2048 + 1 * l.val = k.val; rw [i1, hk]; omega

/-- Window 13, at row `r` and column `l` of its block. -/
theorem block13 (c : Dev nD) (t : Fin cfg0.N) (r : Fin 16) (l : Fin 2048) (n : Fin 32768) (k : Fin 28672) (hn : n.val = 16 * (min (16 * t.val + 16) 2047) + r.val) (hk : k.val = 2048 * 7 + l.val) :
    (iblk m c 13 t : Vec Ideal S16x2048 .bf16) (ix2 r l) = (m ((c.tc : Thread nD τ).loc main_arg0) : Vec Ideal S32768x28672 .bf16) (ix2 n k) := by
  have i0 : win0_13.index t (0 : Fin 2) = min (16 * t.val + 16) 2047 := congrFun (index13 t) 0
  have i1 : win0_13.index t (1 : Fin 2) = 7 := congrFun (index13 t) 1
  show m ((c.tc : Thread nD τ).loc main_arg0) (((cfg0.win 13).blk t).view.emb (ix2 r l)) = m ((c.tc : Thread nD τ).loc main_arg0) _
  congr 1
  funext a; apply Fin.ext
  match a with
  | ⟨0, _⟩ => show win0_13.index t (0 : Fin 2) * 16 + 1 * r.val = n.val; rw [i0, hn]; omega
  | ⟨1, _⟩ => show win0_13.index t (1 : Fin 2) * 2048 + 1 * l.val = k.val; rw [i1, hk]; omega

/-- Window 14, at row `r` and column `l` of its block. -/
theorem block14 (c : Dev nD) (t : Fin cfg0.N) (r : Fin 256) (l : Fin 4096) (n : Fin 2048) (k : Fin 4096) (hn : n.val = 256 * (t.val / 16) + r.val) (hk : k.val = 4096 * 0 + l.val) :
    (iblk m c 14 t : Vec Ideal S256x4096 .bf16) (ix2 r l) = (m ((c.tc : Thread nD τ).loc main_arg3) : Vec Ideal S2048x4096 .bf16) (ix2 n k) := by
  have i0 : win0_14.index t (0 : Fin 2) = t.val / 16 := congrFun (index14 t) 0
  have i1 : win0_14.index t (1 : Fin 2) = 0 := congrFun (index14 t) 1
  show m ((c.tc : Thread nD τ).loc main_arg3) (((cfg0.win 14).blk t).view.emb (ix2 r l)) = m ((c.tc : Thread nD τ).loc main_arg3) _
  congr 1
  funext a; apply Fin.ext
  match a with
  | ⟨0, _⟩ => show win0_14.index t (0 : Fin 2) * 256 + 1 * r.val = n.val; rw [i0, hn]; omega
  | ⟨1, _⟩ => show win0_14.index t (1 : Fin 2) * 4096 + 1 * l.val = k.val; rw [i1, hk]; omega

/-- Window 15, at row `r` and column `l` of its block. -/
theorem block15 (c : Dev nD) (t : Fin cfg0.N) (r : Fin 1) (l : Fin 2048) (n : Fin 1) (k : Fin 2048) (hn : n.val = 1 * (0) + r.val) (hk : k.val = 2048 * 0 + l.val) :
    (iblk m c 15 t : Vec Ideal S1x2048 .f32) (ix2 r l) = (m ((c.tc : Thread nD τ).loc main_arg4) : Vec Ideal S1x2048 .f32) (ix2 n k) := by
  have i0 : win0_15.index t (0 : Fin 2) = 0 := congrFun (index15 t) 0
  have i1 : win0_15.index t (1 : Fin 2) = 0 := congrFun (index15 t) 1
  show m ((c.tc : Thread nD τ).loc main_arg4) (((cfg0.win 15).blk t).view.emb (ix2 r l)) = m ((c.tc : Thread nD τ).loc main_arg4) _
  congr 1
  funext a; apply Fin.ext
  match a with
  | ⟨0, _⟩ => show win0_15.index t (0 : Fin 2) * 1 + 1 * r.val = n.val; rw [i0, hn]; omega
  | ⟨1, _⟩ => show win0_15.index t (1 : Fin 2) * 2048 + 1 * l.val = k.val; rw [i1, hk]; omega

/-- Window 16, at row `r` and column `l` of its block. -/
theorem block16 (c : Dev nD) (t : Fin cfg0.N) (r : Fin 8) (l : Fin 2048) (n : Fin 8) (k : Fin 2048) (hn : n.val = 8 * (0) + r.val) (hk : k.val = 2048 * 0 + l.val) :
    (iblk m c 16 t : Vec Ideal S8x2048 .f32) (ix2 r l) = (m ((c.tc : Thread nD τ).loc main_arg5) : Vec Ideal S8x2048 .f32) (ix2 n k) := by
  have i0 : win0_16.index t (0 : Fin 2) = 0 := congrFun (index16 t) 0
  have i1 : win0_16.index t (1 : Fin 2) = 0 := congrFun (index16 t) 1
  show m ((c.tc : Thread nD τ).loc main_arg5) (((cfg0.win 16).blk t).view.emb (ix2 r l)) = m ((c.tc : Thread nD τ).loc main_arg5) _
  congr 1
  funext a; apply Fin.ext
  match a with
  | ⟨0, _⟩ => show win0_16.index t (0 : Fin 2) * 8 + 1 * r.val = n.val; rw [i0, hn]; omega
  | ⟨1, _⟩ => show win0_16.index t (1 : Fin 2) * 2048 + 1 * l.val = k.val; rw [i1, hk]; omega

/-- The grid point of a row. -/
def point (n : Fin 32768) : Fin cfg0.N := ⟨n.val / 256, Nat.lt_of_lt_of_eq (by omega) N_0.symm⟩

/-- Output 0's block at a grid point. -/
@[irreducible] def blockOut17 (c : Dev nD) (t : Fin cfg0.N) : Vec Ideal S256x2048 .bf16 := out0_17 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)

/-- What the body leaves of output 0. -/
theorem after17 (c : Dev nD) (t : Fin cfg0.N) : (dats m 0 c).after 17 t = blockOut17 m c t := by
  rw [after0_17]
  unfold blockOut17
  rfl

/-- Result 0, block by block. -/
def result17 (c : Dev nD) : Vec Ideal S32768x2048 .bf16 := fun i =>
  blockOut17 m c (point (i 0)) (ix2 ⟨(i 0).val % 256, Nat.mod_lt _ (by decide)⟩ (i 1))

/-- What is written back of output 0 is that block of the result. -/
theorem flushed17 (c : Dev nD) (t : Fin cfg0.N) : (dats m 0 c).flushed 17 t = ((cfg0.win 17).blk t).view.read (Elt Ideal) (result17 m c) := by
  show (cfg0.win 17).cut (grid0.coords t) ((dats m 0 c).after 17 t) = _
  rw [after17]
  have ht : t.val < 128 := Nat.lt_of_lt_of_eq t.isLt N_0
  have i0 : win0_17.index t (0 : Fin 2) = t.val := congrFun (index17 t) 0
  have i1 : win0_17.index t (1 : Fin 2) = 0 := congrFun (index17 t) 1
  funext y
  have h0 : (y 0).val < 256 := (y 0).isLt
  have e0 : (((cfg0.win 17).blk t).view.emb y 0).val = win0_17.index t (0 : Fin 2) * 256 + 1 * (y 0).val := rfl
  have e1 : (((cfg0.win 17).blk t).view.emb y 1).val = win0_17.index t (1 : Fin 2) * 2048 + 1 * (y 1).val := rfl
  show blockOut17 m c t ((cfg0.win 17).xinj (grid0.coords t) y)
    = blockOut17 m c (point (((cfg0.win 17).blk t).view.emb y 0))
      (ix2 ⟨(((cfg0.win 17).blk t).view.emb y 0).val % 256, Nat.mod_lt _ (by decide)⟩ (((cfg0.win 17).blk t).view.emb y 1))
  rw [show point (((cfg0.win 17).blk t).view.emb y 0) = t from Fin.ext (by show (((cfg0.win 17).blk t).view.emb y 0).val / 256 = t.val; rw [e0, i0]; omega)]
  congr 1
  funext a; apply Fin.ext
  match a with
  | ⟨0, _⟩ => show (y 0).val = (((cfg0.win 17).blk t).view.emb y 0).val % 256; rw [e0]; omega
  | ⟨1, _⟩ => show (y 1).val = (((cfg0.win 17).blk t).view.emb y 1).val; rw [e1, i1]; omega

/-- Every entry of result 0 lies in a block that is written back. -/
theorem covered17 (i : S32768x2048.Idx) : ∃ t : Fin cfg0.N, (cfg0.win 17).flush t = true ∧ i ∈ ((cfg0.win 17).blk t).view.set := by
  have h0 : (i 0).val < 32768 := (i 0).isLt
  have h1 : (i 1).val < 2048 := (i 1).isLt
  refine ⟨point (i 0), flush0_17 _, ?_⟩
  have i0 : win0_17.index (point (i 0)) (0 : Fin 2) = (i 0).val / 256 := congrFun (index17 (point (i 0))) 0
  have i1 : win0_17.index (point (i 0)) (1 : Fin 2) = 0 := congrFun (index17 (point (i 0))) 1
  show i ∈ ((View.whole main_v0_0).slice (win0_17.rect (point (i 0)))).set
  rw [View.set_slice_whole, Rect.mem_set_unit]
  intro a
  match a with
  | ⟨0, _⟩ => show win0_17.index (point (i 0)) (0 : Fin 2) * 256 ≤ (i 0).val ∧ (i 0).val < win0_17.index (point (i 0)) (0 : Fin 2) * 256 + 256; rw [i0]; omega
  | ⟨1, _⟩ => show win0_17.index (point (i 0)) (1 : Fin 2) * 2048 ≤ (i 1).val ∧ (i 1).val < win0_17.index (point (i 0)) (1 : Fin 2) * 2048 + 2048; rw [i1]; omega

/-- Output 1's block at a grid point. -/
@[irreducible] def blockOut18 (c : Dev nD) (t : Fin cfg0.N) : Vec Ideal S256x2048 .bf16 := out0_18 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)

/-- What the body leaves of output 1. -/
theorem after18 (c : Dev nD) (t : Fin cfg0.N) : (dats m 0 c).after 18 t = blockOut18 m c t := by
  rw [after0_18]
  unfold blockOut18
  rfl

/-- Result 1, block by block. -/
def result18 (c : Dev nD) : Vec Ideal S32768x2048 .bf16 := fun i =>
  blockOut18 m c (point (i 0)) (ix2 ⟨(i 0).val % 256, Nat.mod_lt _ (by decide)⟩ (i 1))

/-- What is written back of output 1 is that block of the result. -/
theorem flushed18 (c : Dev nD) (t : Fin cfg0.N) : (dats m 0 c).flushed 18 t = ((cfg0.win 18).blk t).view.read (Elt Ideal) (result18 m c) := by
  show (cfg0.win 18).cut (grid0.coords t) ((dats m 0 c).after 18 t) = _
  rw [after18]
  have ht : t.val < 128 := Nat.lt_of_lt_of_eq t.isLt N_0
  have i0 : win0_18.index t (0 : Fin 2) = t.val := congrFun (index18 t) 0
  have i1 : win0_18.index t (1 : Fin 2) = 0 := congrFun (index18 t) 1
  funext y
  have h0 : (y 0).val < 256 := (y 0).isLt
  have e0 : (((cfg0.win 18).blk t).view.emb y 0).val = win0_18.index t (0 : Fin 2) * 256 + 1 * (y 0).val := rfl
  have e1 : (((cfg0.win 18).blk t).view.emb y 1).val = win0_18.index t (1 : Fin 2) * 2048 + 1 * (y 1).val := rfl
  show blockOut18 m c t ((cfg0.win 18).xinj (grid0.coords t) y)
    = blockOut18 m c (point (((cfg0.win 18).blk t).view.emb y 0))
      (ix2 ⟨(((cfg0.win 18).blk t).view.emb y 0).val % 256, Nat.mod_lt _ (by decide)⟩ (((cfg0.win 18).blk t).view.emb y 1))
  rw [show point (((cfg0.win 18).blk t).view.emb y 0) = t from Fin.ext (by show (((cfg0.win 18).blk t).view.emb y 0).val / 256 = t.val; rw [e0, i0]; omega)]
  congr 1
  funext a; apply Fin.ext
  match a with
  | ⟨0, _⟩ => show (y 0).val = (((cfg0.win 18).blk t).view.emb y 0).val % 256; rw [e0]; omega
  | ⟨1, _⟩ => show (y 1).val = (((cfg0.win 18).blk t).view.emb y 1).val; rw [e1, i1]; omega

/-- Every entry of result 1 lies in a block that is written back. -/
theorem covered18 (i : S32768x2048.Idx) : ∃ t : Fin cfg0.N, (cfg0.win 18).flush t = true ∧ i ∈ ((cfg0.win 18).blk t).view.set := by
  have h0 : (i 0).val < 32768 := (i 0).isLt
  have h1 : (i 1).val < 2048 := (i 1).isLt
  refine ⟨point (i 0), flush0_18 _, ?_⟩
  have i0 : win0_18.index (point (i 0)) (0 : Fin 2) = (i 0).val / 256 := congrFun (index18 (point (i 0))) 0
  have i1 : win0_18.index (point (i 0)) (1 : Fin 2) = 0 := congrFun (index18 (point (i 0))) 1
  show i ∈ ((View.whole main_v0_1).slice (win0_18.rect (point (i 0)))).set
  rw [View.set_slice_whole, Rect.mem_set_unit]
  intro a
  match a with
  | ⟨0, _⟩ => show win0_18.index (point (i 0)) (0 : Fin 2) * 256 ≤ (i 0).val ∧ (i 0).val < win0_18.index (point (i 0)) (0 : Fin 2) * 256 + 256; rw [i0]; omega
  | ⟨1, _⟩ => show win0_18.index (point (i 0)) (1 : Fin 2) * 2048 ≤ (i 1).val ∧ (i 1).val < win0_18.index (point (i 0)) (1 : Fin 2) * 2048 + 2048; rw [i1]; omega

/-- Output 2's block at a grid point. -/
@[irreducible] def blockOut19 (c : Dev nD) (t : Fin cfg0.N) : Vec Ideal S256x2048 .bf16 := out0_19 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)

/-- What the body leaves of output 2. -/
theorem after19 (c : Dev nD) (t : Fin cfg0.N) : (dats m 0 c).after 19 t = blockOut19 m c t := by
  rw [after0_19]
  unfold blockOut19
  rfl

/-- Result 2, block by block. -/
def result19 (c : Dev nD) : Vec Ideal S32768x2048 .bf16 := fun i =>
  blockOut19 m c (point (i 0)) (ix2 ⟨(i 0).val % 256, Nat.mod_lt _ (by decide)⟩ (i 1))

/-- What is written back of output 2 is that block of the result. -/
theorem flushed19 (c : Dev nD) (t : Fin cfg0.N) : (dats m 0 c).flushed 19 t = ((cfg0.win 19).blk t).view.read (Elt Ideal) (result19 m c) := by
  show (cfg0.win 19).cut (grid0.coords t) ((dats m 0 c).after 19 t) = _
  rw [after19]
  have ht : t.val < 128 := Nat.lt_of_lt_of_eq t.isLt N_0
  have i0 : win0_19.index t (0 : Fin 2) = t.val := congrFun (index19 t) 0
  have i1 : win0_19.index t (1 : Fin 2) = 0 := congrFun (index19 t) 1
  funext y
  have h0 : (y 0).val < 256 := (y 0).isLt
  have e0 : (((cfg0.win 19).blk t).view.emb y 0).val = win0_19.index t (0 : Fin 2) * 256 + 1 * (y 0).val := rfl
  have e1 : (((cfg0.win 19).blk t).view.emb y 1).val = win0_19.index t (1 : Fin 2) * 2048 + 1 * (y 1).val := rfl
  show blockOut19 m c t ((cfg0.win 19).xinj (grid0.coords t) y)
    = blockOut19 m c (point (((cfg0.win 19).blk t).view.emb y 0))
      (ix2 ⟨(((cfg0.win 19).blk t).view.emb y 0).val % 256, Nat.mod_lt _ (by decide)⟩ (((cfg0.win 19).blk t).view.emb y 1))
  rw [show point (((cfg0.win 19).blk t).view.emb y 0) = t from Fin.ext (by show (((cfg0.win 19).blk t).view.emb y 0).val / 256 = t.val; rw [e0, i0]; omega)]
  congr 1
  funext a; apply Fin.ext
  match a with
  | ⟨0, _⟩ => show (y 0).val = (((cfg0.win 19).blk t).view.emb y 0).val % 256; rw [e0]; omega
  | ⟨1, _⟩ => show (y 1).val = (((cfg0.win 19).blk t).view.emb y 1).val; rw [e1, i1]; omega

/-- Every entry of result 2 lies in a block that is written back. -/
theorem covered19 (i : S32768x2048.Idx) : ∃ t : Fin cfg0.N, (cfg0.win 19).flush t = true ∧ i ∈ ((cfg0.win 19).blk t).view.set := by
  have h0 : (i 0).val < 32768 := (i 0).isLt
  have h1 : (i 1).val < 2048 := (i 1).isLt
  refine ⟨point (i 0), flush0_19 _, ?_⟩
  have i0 : win0_19.index (point (i 0)) (0 : Fin 2) = (i 0).val / 256 := congrFun (index19 (point (i 0))) 0
  have i1 : win0_19.index (point (i 0)) (1 : Fin 2) = 0 := congrFun (index19 (point (i 0))) 1
  show i ∈ ((View.whole main_v0_2).slice (win0_19.rect (point (i 0)))).set
  rw [View.set_slice_whole, Rect.mem_set_unit]
  intro a
  match a with
  | ⟨0, _⟩ => show win0_19.index (point (i 0)) (0 : Fin 2) * 256 ≤ (i 0).val ∧ (i 0).val < win0_19.index (point (i 0)) (0 : Fin 2) * 256 + 256; rw [i0]; omega
  | ⟨1, _⟩ => show win0_19.index (point (i 0)) (1 : Fin 2) * 2048 ≤ (i 1).val ∧ (i 1).val < win0_19.index (point (i 0)) (1 : Fin 2) * 2048 + 2048; rw [i1]; omega

/-- The run read: the results at the arrays above, the arguments unchanged. -/
theorem run : θ_run defs (onTc (τ := τ) (main (F := Ideal))) ⟨m, fun _ => 0, ρ⟩ fun r => ∀ c : Dev nD,
      r.2.mem ((c.tc : Thread nD τ).loc main_v0_0) = result17 m c
      ∧ r.2.mem ((c.tc : Thread nD τ).loc main_v0_1) = result18 m c
      ∧ r.2.mem ((c.tc : Thread nD τ).loc main_v0_2) = result19 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c => ⟨((h.1 c).1 17).trans ((dats m 0 c).arrAt_eq_of_cover 17 _ (fun t _ => flushed17 m c t) covered17),
      ((h.1 c).1 18).trans ((dats m 0 c).arrAt_eq_of_cover 18 _ (fun t _ => flushed18 m c t) covered18),
      ((h.1 c).1 19).trans ((dats m 0 c).arrAt_eq_of_cover 19 _ (fun t _ => flushed19 m c t) covered19), h.2 c⟩)
    (θ_run_and (run_main m ρ) (frame_of m ρ (dats m) (A_eq m) (run_main m ρ)))

end Cert.Kernel4Ideal.Hand

end
-- ==== Proof.Hand.Branches.RefEntries.lean ====
/- The entries of the reference of the branches over the extended reals. -/
module

public import proofs.«01_k».proof.Proof.Hand.Branches.Steps
public import Idealize.ShloMosaic.Lib.Tactic.ValueTie

@[expose] public section

set_option maxRecDepth 16384

noncomputable section

namespace Cert.Reference4Ideal.Hand

open Cert.Reference4Ideal Cert.Reference4Ideal.Gen Idealize.ShloMosaic Idealize.ShloMosaic.TcCoe Idealize.ShloMosaic.Tactic Idealize.SL.Sem Idealize.ShloMosaic.StableHlo

/-- The word 0 converts to 0. -/
theorem integer_zero : (FloatOps.sitofp FTy.f32 (0#32 : BitVec 32) : Ideal .f32) = 0 := by
  show ((((0#32 : BitVec 32).toInt : ℤ) : ℝ) : EReal) = 0
  simp

/-- `cols0`, entry by entry. -/
theorem cols0_entry (P : FVec Ideal S32768x28672 .bf16) (n : Fin 32768) (j : Fin 2048) :
    (cols0 P (ix2 n j) : EReal) = P (ix2 n ⟨6144 + j.val, by omega⟩) := by
  unfold cols0
  pointwise

/-- `cols1`, entry by entry. -/
theorem cols1_entry (P : FVec Ideal S32768x28672 .bf16) (n : Fin 32768) (j : Fin 2048) :
    (cols1 P (ix2 n j) : EReal) = P (ix2 n ⟨8192 + j.val, by omega⟩) := by
  unfold cols1
  pointwise

/-- `cols2`, entry by entry. -/
theorem cols2_entry (P : FVec Ideal S32768x28672 .bf16) (n : Fin 32768) (j : Fin 2048) :
    (cols2 P (ix2 n j) : EReal) = P (ix2 n ⟨10240 + j.val, by omega⟩) := by
  unfold cols2
  pointwise

/-- `cols3`, entry by entry. -/
theorem cols3_entry (P : FVec Ideal S32768x28672 .bf16) (n : Fin 32768) (j : Fin 2048) :
    (cols3 P (ix2 n j) : EReal) = P (ix2 n ⟨12288 + j.val, by omega⟩) := by
  unfold cols3
  pointwise

/-- `cols4`, entry by entry. -/
theorem cols4_entry (P : FVec Ideal S32768x28672 .bf16) (n : Fin 32768) (j : Fin 2048) :
    (cols4 P (ix2 n j) : EReal) = P (ix2 n ⟨14336 + j.val, by omega⟩) := by
  unfold cols4
  pointwise

/-- `cols5`, entry by entry. -/
theorem cols5_entry (P : FVec Ideal S32768x28672 .bf16) (n : Fin 32768) (j : Fin 2048) :
    (cols5 P (ix2 n j) : EReal) = P (ix2 n ⟨16384 + j.val, by omega⟩) := by
  unfold cols5
  pointwise

/-- `cols6`, entry by entry. -/
theorem cols6_entry (P : FVec Ideal S32768x28672 .bf16) (n : Fin 32768) (j : Fin 2048) :
    (cols6 P (ix2 n j) : EReal) = P (ix2 n ⟨18432 + j.val, by omega⟩) := by
  unfold cols6
  pointwise

/-- `cols7`, entry by entry. -/
theorem cols7_entry (P : FVec Ideal S32768x28672 .bf16) (n : Fin 32768) (j : Fin 2048) :
    (cols7 P (ix2 n j) : EReal) = P (ix2 n ⟨20480 + j.val, by omega⟩) := by
  unfold cols7
  pointwise

/-- `both`, entry by entry. -/
theorem both_entry (A B : FVec Ideal S32768x2048 .bf16) (n : Fin 32768) (h : Fin 8) (d : Fin 256) :
    both A B (ix3 n h d) = A (ix2 n ⟨h.val * 256 + d.val, by omega⟩) + B (ix2 n ⟨h.val * 256 + d.val, by omega⟩) := by
  unfold both
  pointwise

/-- `mean`, entry by entry. -/
theorem mean_entry (X : FVec Ideal S32768x8x256 .f32) (n : Fin 32768) (h : Fin 8) :
    mean X (ix3 n h 0) = Ideal.div (∑ x : Fin 256, X (ix3 n h x)) (Ideal.ofBits FTy.f32 1132462080#32) := by
  unfold mean
  pointwise

/-- `variance`, entry by entry. -/
theorem variance_entry (X : FVec Ideal S32768x8x256 .f32) (M : FVec Ideal S32768x8x1 .f32) (n : Fin 32768) (h : Fin 8) :
    variance X M (ix3 n h 0) = Ideal.div (∑ x : Fin 256, (X (ix3 n h x) - M (ix3 n h 0)) * (X (ix3 n h x) - M (ix3 n h 0))) (Ideal.ofBits FTy.f32 1132462080#32) := by
  unfold variance
  pointwise

/-- `normed`, entry by entry. -/
theorem normed_entry (X : FVec Ideal S32768x8x256 .f32) (M v : FVec Ideal S32768x8x1 .f32) (g : FVec Ideal S1x2048 .f32) (n : Fin 32768) (j : Fin 2048) :
    normed X M v g (ix2 n j) = (X (ix3 n ⟨j.val / 256, by omega⟩ ⟨j.val % 256, by omega⟩) - M (ix3 n ⟨j.val / 256, by omega⟩ 0)) * Ideal.rsqrt (v (ix3 n ⟨j.val / 256, by omega⟩ 0) + Ideal.ofBits FTy.f32 897988541#32) * g (ix2 0 j) := by
  unfold normed
  pointwise

/-- `gated`, entry by entry. -/
theorem gated_entry (A B C : FVec Ideal S32768x2048 .f32) (n : Fin 32768) (j : Fin 2048) :
    gated A B C (ix2 n j) = A (ix2 n j) * Ideal.div 1 (1 + Ideal.exp (-B (ix2 n j))) * (C (ix2 n j) * Ideal.div 1 (1 + Ideal.exp (-C (ix2 n j)))) := by
  unfold gated
  pointwise

/-- `product`, entry by entry. -/
theorem product_entry (A B : FVec Ideal S32768x2048 .f32) (b : Fin 8) (s : Fin 4096) (j : Fin 2048) :
    product A B (ix3 b s j) = A (ix2 ⟨b.val * 4096 + s.val, by omega⟩ j) * B (ix2 ⟨b.val * 4096 + s.val, by omega⟩ j) := by
  unfold product
  pointwise

/-- `padded`, entry by entry. -/
theorem padded_entry (U : FVec Ideal S8x4096x2048 .f32) (b : Fin 8) (s : Fin 4098) (j : Fin 2048) :
    padded U (zeroWord (F := Ideal)) (ix3 b s j) = if h : 1 ≤ s.val ∧ s.val - 1 < 4096 then U (ix3 b ⟨s.val - 1, h.2⟩ j) else 0 := by
  unfold padded zeroWord
  pointwise
  rw [integer_zero]

/-- `conv`, entry by entry. -/
theorem conv_entry (U : FVec Ideal S8x4098x2048 .f32) (w : FVec Ideal S8x2048 .f32) (n : Fin 32768) (j : Fin 2048) :
    conv U w (ix2 n j) = w (ix2 0 j) * U (ix3 ⟨n.val / 4096, by omega⟩ ⟨n.val % 4096, by omega⟩ j) + w (ix2 1 j) * U (ix3 ⟨n.val / 4096, by omega⟩ ⟨1 + n.val % 4096, by omega⟩ j) + w (ix2 2 j) * U (ix3 ⟨n.val / 4096, by omega⟩ ⟨2 + n.val % 4096, by omega⟩ j) := by
  unfold conv
  pointwise

/-- `gatedConv`, entry by entry. -/
theorem gatedConv_entry (A B C : FVec Ideal S32768x2048 .f32) (n : Fin 32768) (j : Fin 2048) :
    gatedConv A B C (ix2 n j) = B (ix2 n j) * A (ix2 n j) * (C (ix2 n j) * Ideal.div 1 (1 + Ideal.exp (-C (ix2 n j)))) := by
  unfold gatedConv
  pointwise

/-- `scores`, entry by entry. -/
theorem scores_entry (Q : FVec Ideal S32768x2048 .f32) (K : FVec Ideal S2048x4096 .bf16) (b : Fin 8) (h : Fin 4) (s : Fin 4096) (k : Fin 256) :
    scores Q K (ix4 b h s k) = (∑ x : Fin 512, Q (ix2 ⟨b.val * 4096 + s.val, by omega⟩ ⟨h.val * 512 + x.val, by omega⟩) * K (ix2 ⟨b.val * 256 + k.val, by omega⟩ ⟨h.val * 512 + x.val, by omega⟩)) * Ideal.ofBits FTy.f32 1026884851#32 := by
  unfold scores
  pointwise

/-- `vals`, entry by entry. -/
theorem vals_entry (K : FVec Ideal S2048x4096 .bf16) (b : Fin 8) (k : Fin 256) (h : Fin 4) (d : Fin 512) :
    vals K (ix4 b k h d) = K (ix2 ⟨b.val * 256 + k.val, by omega⟩ ⟨2048 + (h.val * 512 + d.val), by omega⟩) := by
  unfold vals
  pointwise

/-- A reduction by maximum along the last of four axes, at an index: the fold of the maximum over that axis. -/
theorem reduceMax_entry {n0 n1 n2 n3 : ℕ} {u : Shape} (h : (⟨4, ![n0, n1, n2, n3]⟩ : Shape).ReducesTo [3] ⟨3, ![n0, n1, n2]⟩) (hu : 0 < u.numel) (x : FVec Ideal ⟨4, ![n0, n1, n2, n3]⟩ .f32) (w : BitVec 32) (a : Fin n0) (b : Fin n1) (c : Fin n2) :
    Host.reduce FloatOps.maximumf x (constant u .f32 w) h hu (ix3 a b c) = Finset.fold max (Ideal.ofBits FTy.f32 w) (fun k : Fin n3 => x (ix4 a b c k)) Finset.univ := by
  pointwise

/-- A maximum of two arrays, entry by entry. -/
theorem maximum_entry {s : Shape} (A B : FVec Ideal s .f32) (i : s.Idx) : maximumf A B i = max (A i) (B i) := rfl

/-- The value that the maximum starts from. -/
theorem least_entry (b : Fin 8) (h : Fin 4) (s : Fin 4096) :
    (broadcastInDim S8x4x4096 ![] bcast_S_S8x4x4096 (constant (F := Ideal) S_ .f32 0xFF800000#32)) (ix3 b h s) = Ideal.ofBits FTy.f32 4286578688#32 := by
  pointwise

/-- `rowMax`, entry by entry. -/
theorem rowMax_entry (S : FVec Ideal S8x4x4096x256 .f32) (b : Fin 8) (h : Fin 4) (s : Fin 4096) :
    rowMax S (ix3 b h s) = max (Ideal.ofBits FTy.f32 4286578688#32) (Finset.fold max (Ideal.ofBits FTy.f32 4286578688#32) (fun x : Fin 256 => S (ix4 b h s x)) Finset.univ) := by
  unfold rowMax
  rw [maximum_entry, least_entry]
  refine congrArg _ ?_
  rw [reduceMax_entry]

/-- `exps`, entry by entry. -/
theorem exps_entry (S : FVec Ideal S8x4x4096x256 .f32) (M : FVec Ideal S8x4x4096 .f32) (b : Fin 8) (h : Fin 4) (s : Fin 4096) (k : Fin 256) :
    exps S M (ix4 b h s k) = Ideal.exp (S (ix4 b h s k) - M (ix3 b h s)) := by
  unfold exps
  pointwise

/-- `weights`, entry by entry. -/
theorem weights_entry (E : FVec Ideal S8x4x4096x256 .f32) (b : Fin 8) (h : Fin 4) (s : Fin 4096) (k : Fin 256) :
    weights E (ix4 b h s k) = Ideal.div (E (ix4 b h s k)) (∑ x : Fin 256, E (ix4 b h s x)) := by
  unfold weights
  pointwise

/-- `attended`, entry by entry. -/
theorem attended_entry (A : FVec Ideal S8x4x4096x256 .f32) (V : FVec Ideal S8x256x4x512 .f32) (Z : FVec Ideal S32768x2048 .f32) (n : Fin 32768) (j : Fin 2048) :
    attended A V Z (ix2 n j) = (∑ x : Fin 256, V (ix4 ⟨n.val / 4096, by omega⟩ x ⟨j.val / 512, by omega⟩ ⟨j.val % 512, by omega⟩) * A (ix4 ⟨n.val / 4096, by omega⟩ ⟨j.val / 512, by omega⟩ ⟨n.val % 4096, by omega⟩ x)) * (Z (ix2 n j) * Ideal.div 1 (1 + Ideal.exp (-Z (ix2 n j)))) := by
  unfold attended
  pointwise

/-- `out0`, entry by entry. -/
theorem out0_entry (Y : FVec Ideal S32768x2048 .f32) (n : Fin 32768) (j : Fin 2048) :
    (out0 Y (ix2 n j) : EReal) = Y (ix2 n j) := by
  unfold out0
  pointwise

/-- `out1`, entry by entry. -/
theorem out1_entry (Y : FVec Ideal S32768x2048 .f32) (n : Fin 32768) (j : Fin 2048) :
    (out1 Y (ix2 n j) : EReal) = Y (ix2 n j) := by
  unfold out1
  pointwise

/-- `out2`, entry by entry. -/
theorem out2_entry (Y : FVec Ideal S32768x2048 .f32) (n : Fin 32768) (j : Fin 2048) :
    (out2 Y (ix2 n j) : EReal) = Y (ix2 n j) := by
  unfold out2
  pointwise

end Cert.Reference4Ideal.Hand

end
-- ==== Proof.Hand.Branches.RefTerms.lean ====
/- The entries of the reference of the branches, in the terms that the entries of the kernel are written in. -/
module

public import proofs.«01_k».proof.Proof.Hand.Branches.Entries
public import proofs.«01_k».proof.Proof.Hand.Branches.RefEntries

@[expose] public section

set_option maxRecDepth 16384

noncomputable section

namespace Cert.Kernel4Ideal.Hand

open Cert.Kernel4Ideal Cert.Kernel4Ideal.Gen
open Idealize.ShloMosaic Idealize.ShloMosaic.TcCoe Idealize.ShloMosaic.Tactic Idealize.SL.Sem

open Cert.Reference4Ideal.Hand (cols0 cols1 cols2 cols3 cols4 cols5 cols6 cols7 both mean variance normed gated product zeroWord padded conv gatedConv scores vals rowMax exps weights attended out0 out1 out2)

/-- The reference's first result, entry by entry. -/
theorem first_entry (H B : Vec Ideal S32768x2048 .bf16) (P : Vec Ideal S32768x28672 .bf16) (g : Vec Ideal S1x2048 .f32) (n : Fin 32768) (j : Fin 2048) :
    (out0 (F := Ideal) (gated (normed (both H B) (mean (both H B)) (variance (both H B) (mean (both H B))) g) (cols0 P) (cols1 P)) (ix2 n j) : EReal)
      = normAt (fun k => H (ix2 n ⟨j.val / 256 * 256 + k.val, by omega⟩) + B (ix2 n ⟨j.val / 256 * 256 + k.val, by omega⟩)) ⟨j.val % 256, by omega⟩ * g (ix2 0 j)
        * sigm (P (ix2 n ⟨6144 + j.val, by omega⟩)) * (P (ix2 n ⟨8192 + j.val, by omega⟩) * sigm (P (ix2 n ⟨8192 + j.val, by omega⟩))) := by
  rw [Reference4Ideal.Hand.out0_entry, Reference4Ideal.Hand.gated_entry, Reference4Ideal.Hand.normed_entry, Reference4Ideal.Hand.variance_entry, Reference4Ideal.Hand.mean_entry]
  simp only [Reference4Ideal.Hand.both_entry, Reference4Ideal.Hand.cols0_entry, Reference4Ideal.Hand.cols1_entry]
  unfold normAt sigm
  simp only [zero_sub]

/-- The reference's padded products, entry by entry. -/
theorem lifted_entry (P : Vec Ideal S32768x28672 .bf16) (b : Fin 8) (s : Fin 4098) (j : Fin 2048) :
    padded (product (cols3 P) (cols4 P)) (zeroWord (F := Ideal)) (ix3 b s j)
      = if h : 1 ≤ s.val ∧ s.val - 1 < 4096 then (P (ix2 ⟨b.val * 4096 + (s.val - 1), by omega⟩ ⟨12288 + j.val, by omega⟩) * P (ix2 ⟨b.val * 4096 + (s.val - 1), by omega⟩ ⟨14336 + j.val, by omega⟩) : EReal) else 0 := by
  rw [Reference4Ideal.Hand.padded_entry]
  by_cases h : 1 ≤ s.val ∧ s.val - 1 < 4096
  · rw [dif_pos h, dif_pos h, Reference4Ideal.Hand.product_entry, Reference4Ideal.Hand.cols3_entry, Reference4Ideal.Hand.cols4_entry]
  · rw [dif_neg h, dif_neg h]

/-- The reference's second result, entry by entry. -/
theorem second_entry (P : Vec Ideal S32768x28672 .bf16) (w : Vec Ideal S8x2048 .f32) (n : Fin 32768) (j : Fin 2048) :
    (out1 (F := Ideal) (gatedConv (conv (padded (product (cols3 P) (cols4 P)) (zeroWord (F := Ideal))) w) (cols2 P) (cols5 P)) (ix2 n j) : EReal)
      = P (ix2 n ⟨10240 + j.val, by omega⟩) * (w (ix2 0 j) * (if h : 0 < n.val % 4096 then (P (ix2 ⟨n.val - 1, by omega⟩ ⟨12288 + j.val, by omega⟩) * P (ix2 ⟨n.val - 1, by omega⟩ ⟨14336 + j.val, by omega⟩) : EReal) else 0)
          + w (ix2 1 j) * (P (ix2 n ⟨12288 + j.val, by omega⟩) * P (ix2 n ⟨14336 + j.val, by omega⟩))
          + w (ix2 2 j) * (if h : n.val % 4096 < 4095 then (P (ix2 ⟨n.val + 1, by omega⟩ ⟨12288 + j.val, by omega⟩) * P (ix2 ⟨n.val + 1, by omega⟩ ⟨14336 + j.val, by omega⟩) : EReal) else 0))
        * (P (ix2 n ⟨16384 + j.val, by omega⟩) * sigm (P (ix2 n ⟨16384 + j.val, by omega⟩))) := by
  have hn := n.isLt
  rw [Reference4Ideal.Hand.out1_entry, Reference4Ideal.Hand.gatedConv_entry, Reference4Ideal.Hand.conv_entry, lifted_entry, lifted_entry, lifted_entry,
    Reference4Ideal.Hand.cols2_entry, Reference4Ideal.Hand.cols5_entry]
  unfold sigm
  rw [zero_sub]
  congr 3
  · congr 1
    · congr 1
      by_cases h : 0 < n.val % 4096
      · have e : n.val / 4096 * 4096 + (n.val % 4096 - 1) = n.val - 1 := by omega
        rw [dif_pos h, dif_pos (by dsimp only; omega)]
        simp only [e]
      · rw [dif_neg h, dif_neg (by dsimp only; omega)]
    · congr 1
      have e : n.val / 4096 * 4096 + (1 + n.val % 4096 - 1) = n.val := by omega
      rw [dif_pos (by dsimp only; omega)]
      simp only [e]
  · congr 1
    by_cases h : n.val % 4096 < 4095
    · have e : n.val / 4096 * 4096 + (2 + n.val % 4096 - 1) = n.val + 1 := by omega
      rw [dif_pos h, dif_pos (by dsimp only; omega)]
      simp only [e]
    · rw [dif_neg h, dif_neg (by dsimp only; omega)]

/-- A fold of the maximum is at least its starting value. -/
theorem max_fold (b : EReal) (s : Fin 256 → EReal) : max b (Finset.fold max b s Finset.univ) = Finset.fold max b s Finset.univ :=
  max_eq_right ((Finset.le_fold_max _).mpr (Or.inl le_rfl))

/-- The reference's scores, entry by entry. -/
theorem scores_at (P : Vec Ideal S32768x28672 .bf16) (K : Vec Ideal S2048x4096 .bf16) (n : Fin 32768) (h : Fin 4) (x : Fin 256) :
    scores (F := Ideal) (cols6 P) K (ix4 ⟨n.val / 4096, by omega⟩ h ⟨n.val % 4096, by omega⟩ x)
      = scoreAt (fun d => P (ix2 n ⟨18432 + (h.val * 512 + d.val), by omega⟩)) (fun d => K (ix2 ⟨n.val / 4096 * 256 + x.val, by omega⟩ ⟨h.val * 512 + d.val, by omega⟩)) := by
  have e : (⟨n.val / 4096 * 4096 + n.val % 4096, by omega⟩ : Fin 32768) = n := Fin.ext (by show n.val / 4096 * 4096 + n.val % 4096 = n.val; omega)
  rw [Reference4Ideal.Hand.scores_entry]
  simp only [Reference4Ideal.Hand.cols6_entry, e]
  rfl

/-- The reference's third result, entry by entry. -/
theorem third_entry (P : Vec Ideal S32768x28672 .bf16) (K : Vec Ideal S2048x4096 .bf16) (n : Fin 32768) (j : Fin 2048) :
    (out2 (F := Ideal) (attended (weights (exps (scores (cols6 P) K) (rowMax (scores (cols6 P) K)))) (vals K) (cols7 P)) (ix2 n j) : EReal)
      = softAt (fun x => scoreAt (fun d => P (ix2 n ⟨18432 + (j.val / 512 * 512 + d.val), by omega⟩)) (fun d => K (ix2 ⟨n.val / 4096 * 256 + x.val, by omega⟩ ⟨j.val / 512 * 512 + d.val, by omega⟩)))
          (fun x => K (ix2 ⟨n.val / 4096 * 256 + x.val, by omega⟩ ⟨2048 + (j.val / 512 * 512 + j.val % 512), by omega⟩))
        * (P (ix2 n ⟨20480 + j.val, by omega⟩) * sigm (P (ix2 n ⟨20480 + j.val, by omega⟩))) := by
  have hs := fun x => scores_at P K n ⟨j.val / 512, by omega⟩ x
  generalize scores (F := Ideal) (cols6 P) K = S at hs ⊢
  rw [Reference4Ideal.Hand.out2_entry, Reference4Ideal.Hand.attended_entry, Reference4Ideal.Hand.cols7_entry]
  simp only [Reference4Ideal.Hand.weights_entry, Reference4Ideal.Hand.exps_entry, Reference4Ideal.Hand.rowMax_entry, Reference4Ideal.Hand.vals_entry, hs, max_fold]
  unfold softAt topAt sigm
  rw [zero_sub]
  congr 1
  exact Finset.sum_congr rfl fun x _ => mul_comm _ _

end Cert.Kernel4Ideal.Hand

end
-- ==== Proof.Hand.Branches.Equation.lean ====
/- The three results of the branches are the reference's. -/
module

public import proofs.«01_k».proof.Proof.Hand.Branches.Blocks
public import proofs.«01_k».proof.Proof.Hand.Branches.RefTerms

@[expose] public section

set_option maxRecDepth 16384

noncomputable section

namespace Cert.Kernel4Ideal.Hand

open Cert.Kernel4Ideal Cert.Kernel4Ideal.Gen
open Idealize.ShloMosaic Idealize.ShloMosaic.TcCoe Idealize.ShloMosaic.Tactic Idealize.SL.Sem

open Cert.Reference4Ideal.Hand (cols0 cols1 cols2 cols3 cols4 cols5 cols6 cols7 both mean variance normed gated product zeroWord padded conv gatedConv scores vals rowMax exps weights attended out0 out1 out2)

/-- The first branch at an entry, from what its blocks hold there. -/
theorem headVal_eq (x0 x1 x2 x3 : Vec Ideal S256x2048 .bf16) (x15 : Vec Ideal S1x2048 .f32) (r : Fin 256) (h : Fin 8) (l : Fin 256) (a b : Fin 256 → EReal) (g o z : EReal)
    (h0 : ∀ k : Fin 256, x0 (ix2 r ⟨256 * h.val + k.val, by omega⟩) = a k) (h1 : ∀ k : Fin 256, x1 (ix2 r ⟨256 * h.val + k.val, by omega⟩) = b k)
    (hg : x15 (ix2 0 ⟨256 * h.val + l.val, by omega⟩) = g) (ho : x2 (ix2 r ⟨256 * h.val + l.val, by omega⟩) = o) (hz : x3 (ix2 r ⟨256 * h.val + l.val, by omega⟩) = z) :
    headVal x0 x1 x2 x3 x15 r h l = normAt (fun k => a k + b k) l * g * sigm o * (z * sigm z) := by
  unfold headVal
  simp only [h0, h1, hg, ho, hz]

/-- The third branch at an entry, from what its blocks hold there. -/
theorem attVal_eq (x8 x9 : Vec Ideal S256x2048 .bf16) (x14 : Vec Ideal S256x4096 .bf16) (r : Fin 256) (h : Fin 4) (l : Fin 512) (q : Fin 512 → EReal) (k : Fin 256 → Fin 512 → EReal) (v : Fin 256 → EReal) (z : EReal)
    (hq : ∀ d : Fin 512, x8 (ix2 r ⟨512 * h.val + d.val, by omega⟩) = q d) (hk : ∀ (x : Fin 256) (d : Fin 512), x14 (ix2 x ⟨512 * h.val + d.val, by omega⟩) = k x d)
    (hv : ∀ x : Fin 256, x14 (ix2 x ⟨2048 + 512 * h.val + l.val, by omega⟩) = v x) (hz : x9 (ix2 r ⟨512 * h.val + l.val, by omega⟩) = z) :
    attVal x8 x9 x14 r h l = softAt (fun x => scoreAt q (k x)) v * (z * sigm z) := by
  unfold attVal
  simp only [hq, hk, hv, hz]

variable (m : (ℓ : Loc nD τ Kernel4Ideal.sig) → Buf (Elt Ideal) ℓ)

/-- The first result is the reference's. -/
theorem first_eq (c : Dev nD) : result17 m c = out0 (F := Ideal) (gated (normed (both (m ((c.tc : Thread nD τ).loc main_arg1)) (m ((c.tc : Thread nD τ).loc main_arg2))) (mean (both (m ((c.tc : Thread nD τ).loc main_arg1)) (m ((c.tc : Thread nD τ).loc main_arg2)))) (variance (both (m ((c.tc : Thread nD τ).loc main_arg1)) (m ((c.tc : Thread nD τ).loc main_arg2))) (mean (both (m ((c.tc : Thread nD τ).loc main_arg1)) (m ((c.tc : Thread nD τ).loc main_arg2))))) (m ((c.tc : Thread nD τ).loc main_arg4))) (cols0 (m ((c.tc : Thread nD τ).loc main_arg0))) (cols1 (m ((c.tc : Thread nD τ).loc main_arg0)))) := by
  funext i
  obtain ⟨n, hn⟩ : ∃ n : Fin 32768, n = i 0 := ⟨_, rfl⟩
  obtain ⟨j, hj⟩ : ∃ j : Fin 2048, j = i 1 := ⟨_, rfl⟩
  have hi : i = ix2 n j := by subst hn; subst hj; funext a; match a with | ⟨0, _⟩ => rfl | ⟨1, _⟩ => rfl
  have n0 := n.isLt
  have j0 := j.isLt
  rw [hi]
  refine Eq.trans ?_ (first_entry _ _ _ _ n j).symm
  show blockOut17 m c (point n) (ix2 ⟨n.val % 256, Nat.mod_lt _ (by decide)⟩ j) = _
  unfold blockOut17
  rw [staged17]
  refine headVal_eq _ _ _ _ _ _ _ _ _ _ _ _ _ (fun k => block0 m c (point n) _ _ _ _ ?_ ?_) (fun k => block1 m c (point n) _ _ _ _ ?_ ?_) (block15 m c (point n) _ _ _ _ ?_ ?_) (block2 m c (point n) _ _ _ _ ?_ ?_) (block3 m c (point n) _ _ _ _ ?_ ?_)
  · show n.val = 256 * (n.val / 256) + n.val % 256; omega
  · show j.val / 256 * 256 + k.val = 2048 * 0 + (256 * (j.val / 256) + k.val); omega
  · show n.val = 256 * (n.val / 256) + n.val % 256; omega
  · show j.val / 256 * 256 + k.val = 2048 * 0 + (256 * (j.val / 256) + k.val); omega
  · show 0 = 1 * 0 + 0; omega
  · show j.val = 2048 * 0 + (256 * (j.val / 256) + j.val % 256); omega
  · show n.val = 256 * (n.val / 256) + n.val % 256; omega
  · show 6144 + j.val = 2048 * 3 + (256 * (j.val / 256) + j.val % 256); omega
  · show n.val = 256 * (n.val / 256) + n.val % 256; omega
  · show 8192 + j.val = 2048 * 4 + (256 * (j.val / 256) + j.val % 256); omega

/-- The third result is the reference's. -/
theorem third_eq (c : Dev nD) : result19 m c = out2 (F := Ideal) (attended (weights (exps (scores (cols6 (m ((c.tc : Thread nD τ).loc main_arg0))) (m ((c.tc : Thread nD τ).loc main_arg3))) (rowMax (scores (cols6 (m ((c.tc : Thread nD τ).loc main_arg0))) (m ((c.tc : Thread nD τ).loc main_arg3)))))) (vals (m ((c.tc : Thread nD τ).loc main_arg3))) (cols7 (m ((c.tc : Thread nD τ).loc main_arg0)))) := by
  funext i
  obtain ⟨n, hn⟩ : ∃ n : Fin 32768, n = i 0 := ⟨_, rfl⟩
  obtain ⟨j, hj⟩ : ∃ j : Fin 2048, j = i 1 := ⟨_, rfl⟩
  have hi : i = ix2 n j := by subst hn; subst hj; funext a; match a with | ⟨0, _⟩ => rfl | ⟨1, _⟩ => rfl
  have n0 := n.isLt
  have j0 := j.isLt
  rw [hi]
  refine Eq.trans ?_ (third_entry _ _ n j).symm
  show blockOut19 m c (point n) (ix2 ⟨n.val % 256, Nat.mod_lt _ (by decide)⟩ j) = _
  unfold blockOut19
  rw [staged19]
  refine attVal_eq _ _ _ _ _ _ _ _ _ _ (fun d => block8 m c (point n) _ _ _ _ ?_ ?_) (fun x d => block14 m c (point n) _ _ _ _ ?_ ?_) (fun x => block14 m c (point n) _ _ _ _ ?_ ?_) (block9 m c (point n) _ _ _ _ ?_ ?_)
  · show n.val = 256 * (n.val / 256) + n.val % 256; omega
  · show 18432 + (j.val / 512 * 512 + d.val) = 2048 * 9 + (512 * (j.val / 512) + d.val); omega
  · show n.val / 4096 * 256 + x.val = 256 * (n.val / 256 / 16) + x.val; omega
  · show j.val / 512 * 512 + d.val = 4096 * 0 + (512 * (j.val / 512) + d.val); omega
  · show n.val / 4096 * 256 + x.val = 256 * (n.val / 256 / 16) + x.val; omega
  · show 2048 + (j.val / 512 * 512 + j.val % 512) = 4096 * 0 + (2048 + 512 * (j.val / 512) + j.val % 512); omega
  · show n.val = 256 * (n.val / 256) + n.val % 256; omega
  · show 20480 + j.val = 2048 * 10 + (512 * (j.val / 512) + j.val % 512); omega

/-- The second result is the reference's. -/
theorem second_eq (c : Dev nD) : result18 m c = out1 (F := Ideal) (gatedConv (conv (padded (product (cols3 (m ((c.tc : Thread nD τ).loc main_arg0))) (cols4 (m ((c.tc : Thread nD τ).loc main_arg0)))) (zeroWord (F := Ideal))) (m ((c.tc : Thread nD τ).loc main_arg5))) (cols2 (m ((c.tc : Thread nD τ).loc main_arg0))) (cols5 (m ((c.tc : Thread nD τ).loc main_arg0)))) := by
  funext i
  obtain ⟨n, hn⟩ : ∃ n : Fin 32768, n = i 0 := ⟨_, rfl⟩
  obtain ⟨j, hj⟩ : ∃ j : Fin 2048, j = i 1 := ⟨_, rfl⟩
  have hi : i = ix2 n j := by subst hn; subst hj; funext a; match a with | ⟨0, _⟩ => rfl | ⟨1, _⟩ => rfl
  have n0 := n.isLt
  have j0 := j.isLt
  rw [hi]
  refine Eq.trans ?_ (second_entry _ _ n j).symm
  show blockOut18 m c (point n) (ix2 ⟨n.val % 256, Nat.mod_lt _ (by decide)⟩ j) = _
  unfold blockOut18
  rw [staged18, place]
  unfold convVal
  rw [block4 m c (point n) ⟨n.val % 256, Nat.mod_lt _ (by decide)⟩ j n ⟨10240 + j.val, by omega⟩ (by show n.val = 256 * (n.val / 256) + n.val % 256; omega) (by show 10240 + j.val = 2048 * 5 + j.val; omega),
    block5 m c (point n) ⟨n.val % 256, Nat.mod_lt _ (by decide)⟩ j n ⟨12288 + j.val, by omega⟩ (by show n.val = 256 * (n.val / 256) + n.val % 256; omega) (by show 12288 + j.val = 2048 * 6 + j.val; omega),
    block6 m c (point n) ⟨n.val % 256, Nat.mod_lt _ (by decide)⟩ j n ⟨14336 + j.val, by omega⟩ (by show n.val = 256 * (n.val / 256) + n.val % 256; omega) (by show 14336 + j.val = 2048 * 7 + j.val; omega),
    block7 m c (point n) ⟨n.val % 256, Nat.mod_lt _ (by decide)⟩ j n ⟨16384 + j.val, by omega⟩ (by show n.val = 256 * (n.val / 256) + n.val % 256; omega) (by show 16384 + j.val = 2048 * 8 + j.val; omega),
    block16 m c (point n) 0 j 0 j rfl (by omega), block16 m c (point n) 1 j 1 j rfl (by omega), block16 m c (point n) 2 j 2 j rfl (by omega)]
  congr 3
  · congr 2
    by_cases h : n.val % 256 = 0
    · rw [dif_pos h]
      by_cases h' : 0 < n.val % 4096
      · rw [dif_pos h', if_pos (by show 0 < n.val / 256 % 16; omega)]
        rw [block10 m c (point n) 15 j ⟨n.val - 1, by omega⟩ ⟨12288 + j.val, by omega⟩ (by show n.val - 1 = 16 * (16 * (n.val / 256) - 1) + 15; omega) (by show 12288 + j.val = 2048 * 6 + j.val; omega),
          block11 m c (point n) 15 j ⟨n.val - 1, by omega⟩ ⟨14336 + j.val, by omega⟩ (by show n.val - 1 = 16 * (16 * (n.val / 256) - 1) + 15; omega) (by show 14336 + j.val = 2048 * 7 + j.val; omega)]
      · rw [dif_neg h', if_neg (by show ¬ 0 < n.val / 256 % 16; omega)]
    · rw [dif_neg h, dif_pos (by omega : 0 < n.val % 4096)]
      rw [block5 m c (point n) ⟨n.val % 256 - 1, by omega⟩ j ⟨n.val - 1, by omega⟩ ⟨12288 + j.val, by omega⟩ (by show n.val - 1 = 256 * (n.val / 256) + (n.val % 256 - 1); omega) (by show 12288 + j.val = 2048 * 6 + j.val; omega),
        block6 m c (point n) ⟨n.val % 256 - 1, by omega⟩ j ⟨n.val - 1, by omega⟩ ⟨14336 + j.val, by omega⟩ (by show n.val - 1 = 256 * (n.val / 256) + (n.val % 256 - 1); omega) (by show 14336 + j.val = 2048 * 7 + j.val; omega)]
  · congr 1
    by_cases h : n.val % 256 = 255
    · rw [dif_pos h]
      by_cases h' : n.val % 4096 < 4095
      · rw [dif_pos h', if_pos (by show n.val / 256 % 16 < 15; omega)]
        rw [block12 m c (point n) 0 j ⟨n.val + 1, by omega⟩ ⟨12288 + j.val, by omega⟩ (by show n.val + 1 = 16 * (min (16 * (n.val / 256) + 16) 2047) + 0; omega) (by show 12288 + j.val = 2048 * 6 + j.val; omega),
          block13 m c (point n) 0 j ⟨n.val + 1, by omega⟩ ⟨14336 + j.val, by omega⟩ (by show n.val + 1 = 16 * (min (16 * (n.val / 256) + 16) 2047) + 0; omega) (by show 14336 + j.val = 2048 * 7 + j.val; omega)]
      · rw [dif_neg h', if_neg (by show ¬ n.val / 256 % 16 < 15; omega)]
    · rw [dif_neg h, dif_pos (by omega : n.val % 4096 < 4095)]
      rw [block5 m c (point n) ⟨n.val % 256 + 1, by omega⟩ j ⟨n.val + 1, by omega⟩ ⟨12288 + j.val, by omega⟩ (by show n.val + 1 = 256 * (n.val / 256) + (n.val % 256 + 1); omega) (by show 12288 + j.val = 2048 * 6 + j.val; omega),
        block6 m c (point n) ⟨n.val % 256 + 1, by omega⟩ j ⟨n.val + 1, by omega⟩ ⟨14336 + j.val, by omega⟩ (by show n.val + 1 = 256 * (n.val / 256) + (n.val % 256 + 1); omega) (by show 14336 + j.val = 2048 * 7 + j.val; omega)]

end Cert.Kernel4Ideal.Hand

end
-- ==== Proof.lean ====
module

public import proofs.«01_k».proof.Defs
public import proofs.«01_k».proof.Proof.Gen.Kernel
public import proofs.«01_k».proof.Proof.Hand.InProj.Equation
public import proofs.«01_k».proof.Proof.Gen.Kernel2
public import proofs.«01_k».proof.Proof.Hand.Merge.Equation
public import proofs.«01_k».proof.Proof.Gen.Kernel3
public import proofs.«01_k».proof.Proof.Hand.MemKV.Equation
public import proofs.«01_k».proof.Proof.Gen.Kernel4
public import proofs.«01_k».proof.Proof.Gen.Kernel4.Frame
public import proofs.«01_k».proof.Proof.Hand.Branches.Reference
public import proofs.«01_k».proof.Proof.Hand.Branches.Equation
public import Idealize.ShloMosaic.Adequacy
public import Idealize.ShloMosaic.Init
public import Idealize.ShloMosaic.Lib.Quiescent

/-!
The claims put together: for each program the frames of the kernel, of its idealization and of the reference, and the
equation of the idealized kernel with the idealized reference.
-/

@[expose] public section

noncomputable section

namespace Cert.Proof

open Idealize.ShloMosaic Idealize.SL.Sem

/-- The program and its idealization have the same text, so one frame, proved for any floats, serves both: their tables
    of bodies agree label by label, -/
theorem defs₀_same : Kernel.defs₀ (F := Bits) = KernelIdeal.defs₀ := by
  refine congrArg Defs.onTc ?_
  funext l a
  match l, a with
  | 0, (t, s) => rfl
  | ⟨_ + 1, h⟩, _ => exact absurd h (Nat.not_lt.2 (Nat.le_add_left _ _))

/-- hence the tables with the pipelines, -/
theorem defs_same : Kernel.defs (F := Bits) = KernelIdeal.defs :=
  show Pipeline.defs KernelIdeal.pcfgs (Kernel.defs₀ (F := Bits)) = Pipeline.defs KernelIdeal.pcfgs KernelIdeal.defs₀ from
    congrArg _ defs₀_same

/-- and the frame at the bits is the frame at any floats. -/
theorem quiescent_Kernel : quiescent_Kernel := fun m ρ _ => by
  rw [defs_same]
  exact Cert.KernelIdeal.Hand.frame (F := Bits) m ρ

theorem quiescent_ReferenceIdeal : quiescent_ReferenceIdeal := fun m ρ _ =>
  (θ_run Cert.ReferenceIdeal.defs _ _).mono (fun r h => ⟨fun c => (h c).2.2, sem_eq_zero_of_no_sems (by decide) r.2⟩)
    (Cert.ReferenceIdeal.Value.run (F := Ideal) m ρ)

theorem algebraic_KernelIdeal_ReferenceIdeal : algebraic_KernelIdeal_ReferenceIdeal := by
  intro m ρ m' ρ' _ hagree
  refine ⟨_, _, Cert.KernelIdeal.Hand.run (F := Ideal) m ρ, ?_⟩
  refine (θ_run Cert.ReferenceIdeal.defs _ _).mono (fun _ h c => ⟨?_, ?_, (h c).2.2⟩) (Cert.ReferenceIdeal.Value.run (F := Ideal) m' ρ')
  · rw [(h c).1]
    simp only [hagree c]
    exact (Cert.KernelIdeal.Hand.projections_eq m c).symm
  · rw [(h c).2.1]
    simp only [hagree c]
    exact (Cert.KernelIdeal.Hand.gates_eq m c).symm

/-- The merge: the same four claims of the second program. -/
theorem defs₀_same2 : Kernel2.defs₀ (F := Bits) = Kernel2Ideal.defs₀ := by
  refine congrArg Defs.onTc ?_
  funext l a
  match l, a with
  | 0, (t, s) => rfl
  | ⟨_ + 1, h⟩, _ => exact absurd h (Nat.not_lt.2 (Nat.le_add_left _ _))

theorem defs_same2 : Kernel2.defs (F := Bits) = Kernel2Ideal.defs :=
  show Pipeline.defs Kernel2Ideal.pcfgs (Kernel2.defs₀ (F := Bits)) = Pipeline.defs Kernel2Ideal.pcfgs Kernel2Ideal.defs₀ from
    congrArg _ defs₀_same2

theorem quiescent_Kernel2 : quiescent_Kernel2 := fun m ρ _ => by
  rw [defs_same2]
  exact Cert.Kernel2Ideal.Hand.frame (F := Bits) m ρ

theorem quiescent_Reference2Ideal : quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

theorem algebraic_Kernel2Ideal_Reference2Ideal : algebraic_Kernel2Ideal_Reference2Ideal := by
  intro m ρ m' ρ' _ hagree
  refine ⟨_, Cert.Kernel2Ideal.Hand.run (F := Ideal) m ρ, ?_⟩
  refine (θ_run Cert.Reference2Ideal.defs _ _).mono (fun _ h c => ⟨?_, (h c).2⟩) (Cert.Reference2Ideal.Value.run (F := Ideal) m' ρ')
  rw [(h c).1]
  unfold Cert.Reference2Ideal.Value.res_main_v50
  simp only [hagree c]
  exact (Cert.Kernel2Ideal.Hand.result_eq m c).symm

/-- The keys and values of the memory: the same of the third program. -/
theorem defs₀_same3 : Kernel3.defs₀ (F := Bits) = Kernel3Ideal.defs₀ := by
  refine congrArg Defs.onTc ?_
  funext l a
  match l, a with
  | 0, (t, s) => rfl
  | ⟨_ + 1, h⟩, _ => exact absurd h (Nat.not_lt.2 (Nat.le_add_left _ _))

theorem defs_same3 : Kernel3.defs (F := Bits) = Kernel3Ideal.defs :=
  show Pipeline.defs Kernel3Ideal.pcfgs (Kernel3.defs₀ (F := Bits)) = Pipeline.defs Kernel3Ideal.pcfgs Kernel3Ideal.defs₀ from
    congrArg _ defs₀_same3

theorem quiescent_Kernel3 : quiescent_Kernel3 := fun m ρ _ => by
  rw [defs_same3]
  exact Cert.Kernel3Ideal.Hand.frame (F := Bits) m ρ

theorem quiescent_Reference3Ideal : quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

theorem algebraic_Kernel3Ideal_Reference3Ideal : algebraic_Kernel3Ideal_Reference3Ideal := by
  intro m ρ m' ρ' _ hagree
  refine ⟨_, Cert.Kernel3Ideal.Hand.run (F := Ideal) m ρ, ?_⟩
  refine (θ_run Cert.Reference3Ideal.defs _ _).mono (fun _ h c => ⟨?_, (h c).2⟩) (Cert.Reference3Ideal.Value.run (F := Ideal) m' ρ')
  rw [(h c).1]
  simp only [hagree c]
  exact (Cert.Kernel3Ideal.Hand.pairs_eq m c).symm

/-- The branches: the same claims of the fourth program, whose frames need no state carried from point to point. -/
theorem quiescent_Kernel4 : quiescent_Kernel4 := fun m ρ _ =>
  Cert.Kernel4.Gen.frame m ρ

theorem quiescent_Reference4Ideal : quiescent_Reference4Ideal := fun m ρ _ =>
  (θ_run Cert.Reference4Ideal.defs _ _).mono (fun r h => ⟨fun c => (h c).2.2.2, sem_eq_zero_of_no_sems (by decide) r.2⟩)
    (Cert.Reference4Ideal.Hand.run (F := Ideal) m ρ)

theorem algebraic_Kernel4Ideal_Reference4Ideal : algebraic_Kernel4Ideal_Reference4Ideal := by
  intro m ρ m' ρ' _ hagree
  refine ⟨_, _, _, Cert.Kernel4Ideal.Hand.run m ρ, ?_⟩
  refine (θ_run Cert.Reference4Ideal.defs _ _).mono (fun _ h c => ⟨?_, ?_, ?_, (h c).2.2.2⟩) (Cert.Reference4Ideal.Hand.run (F := Ideal) m' ρ')
  · rw [(h c).1]
    simp only [hagree c]
    exact (Cert.Kernel4Ideal.Hand.first_eq m c).symm
  · rw [(h c).2.1]
    simp only [hagree c]
    exact (Cert.Kernel4Ideal.Hand.second_eq m c).symm
  · rw [(h c).2.2.1]
    simp only [hagree c]
    exact (Cert.Kernel4Ideal.Hand.third_eq m c).symm

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  quiescent_Kernel, fun m ρ _ => Cert.KernelIdeal.Hand.frame m ρ, quiescent_ReferenceIdeal,
  quiescent_Kernel2, fun m ρ _ => Cert.Kernel2Ideal.Hand.frame m ρ, quiescent_Reference2Ideal,
  quiescent_Kernel3, fun m ρ _ => Cert.Kernel3Ideal.Hand.frame m ρ, quiescent_Reference3Ideal,
  quiescent_Kernel4, fun m ρ _ => Cert.Kernel4Ideal.Gen.frame m ρ, quiescent_Reference4Ideal,
  (trivial : preserves_Kernel_KernelIdeal), algebraic_KernelIdeal_ReferenceIdeal,
  (trivial : preserves_Kernel2_Kernel2Ideal), algebraic_Kernel2Ideal_Reference2Ideal,
  (trivial : preserves_Kernel3_Kernel3Ideal), algebraic_Kernel3Ideal_Reference3Ideal,
  (trivial : preserves_Kernel4_Kernel4Ideal), algebraic_Kernel4Ideal_Reference4Ideal⟩

end Cert.Proof

end
